-- ==== Defs.lean ====
def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MoeKernel [hPre_tables_in_range : Cert.Pre_tables_in_range.Facts] (m : (ℓ : Loc Cert.MoeKernel.nD Cert.MoeKernel.τ Cert.MoeKernel.sig) → Buf (Elt Bits) ℓ) : Prop :=
  ∀ c : Dev Cert.MoeKernel.nD,
    (Cert.Pre_tables_in_range.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4)) (m ((c.tc : Thread Cert.MoeKernel.nD Cert.MoeKernel.τ).loc Cert.MoeKernel.main_arg5)) (m ((c.tc : Thread Cert.MoeKernel.nD Cert.MoeKernel.τ).loc Cert.MoeKernel.main_arg6)) (m ((c.tc : Thread Cert.MoeKernel.nD Cert.MoeKernel.τ).loc Cert.MoeKernel.main_arg7))) = (fun _ => 1#1)

def Pre_MoeKernelIdeal [hPre_tables_in_range : Cert.Pre_tables_in_range.Facts] (m : (ℓ : Loc Cert.MoeKernelIdeal.nD Cert.MoeKernelIdeal.τ Cert.MoeKernelIdeal.sig) → Buf (Elt Ideal) ℓ) : Prop :=
  ∀ c : Dev Cert.MoeKernelIdeal.nD,
    (Cert.Pre_tables_in_range.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5)) (m ((c.tc : Thread Cert.MoeKernelIdeal.nD Cert.MoeKernelIdeal.τ).loc Cert.MoeKernelIdeal.main_arg6)) (m ((c.tc : Thread Cert.MoeKernelIdeal.nD Cert.MoeKernelIdeal.τ).loc Cert.MoeKernelIdeal.main_arg7))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_tables_in_range [hPre_tables_in_range : Cert.Pre_tables_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_tables_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7))) = (fun _ => 1#1)

def Pre_SmpKernel (m : (ℓ : Loc Cert.SmpKernel.nD Cert.SmpKernel.τ Cert.SmpKernel.sig) → Buf (Elt Bits) ℓ) : Prop :=
  True

def Pre_SmpKernelIdeal (m : (ℓ : Loc Cert.SmpKernelIdeal.nD Cert.SmpKernelIdeal.τ Cert.SmpKernelIdeal.sig) → Buf (Elt Ideal) ℓ) : Prop :=
  True

def Pre_SmpReferenceIdeal (m : (ℓ : Loc Cert.SmpReferenceIdeal.nD Cert.SmpReferenceIdeal.τ Cert.SmpReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_experts_distinct [hPre_experts_distinct : Cert.Pre_experts_distinct.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_experts_distinct.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_experts_distinct [hPre_experts_distinct : Cert.Pre_experts_distinct.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_experts_distinct.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))) = (fun _ => 1#1)

def Pre_CmbKernel [hPre_rows_in_range : Cert.Pre_rows_in_range.Facts] (m : (ℓ : Loc Cert.CmbKernel.nD Cert.CmbKernel.τ Cert.CmbKernel.sig) → Buf (Elt Bits) ℓ) : Prop :=
  ∀ c : Dev Cert.CmbKernel.nD,
    (Cert.Pre_rows_in_range.fn (F := Bits) (m ((c.tc : Thread Cert.CmbKernel.nD Cert.CmbKernel.τ).loc Cert.CmbKernel.main_arg0)) (m ((c.tc : Thread Cert.CmbKernel.nD Cert.CmbKernel.τ).loc Cert.CmbKernel.main_arg1)) (m ((c.tc : Thread Cert.CmbKernel.nD Cert.CmbKernel.τ).loc Cert.CmbKernel.main_arg2)) (m ((c.tc : Thread Cert.CmbKernel.nD Cert.CmbKernel.τ).loc Cert.CmbKernel.main_arg3)) (m ((c.tc : Thread Cert.CmbKernel.nD Cert.CmbKernel.τ).loc Cert.CmbKernel.main_arg4)) (m ((c.tc : Thread Cert.CmbKernel.nD Cert.CmbKernel.τ).loc Cert.CmbKernel.main_arg5))) = (fun _ => 1#1)

def Pre_CmbKernelIdeal [hPre_rows_in_range : Cert.Pre_rows_in_range.Facts] (m : (ℓ : Loc Cert.CmbKernelIdeal.nD Cert.CmbKernelIdeal.τ Cert.CmbKernelIdeal.sig) → Buf (Elt Ideal) ℓ) : Prop :=
  ∀ c : Dev Cert.CmbKernelIdeal.nD,
    (Cert.Pre_rows_in_range.fn (F := Ideal) (m ((c.tc : Thread Cert.CmbKernelIdeal.nD Cert.CmbKernelIdeal.τ).loc Cert.CmbKernelIdeal.main_arg0)) (m ((c.tc : Thread Cert.CmbKernelIdeal.nD Cert.CmbKernelIdeal.τ).loc Cert.CmbKernelIdeal.main_arg1)) (m ((c.tc : Thread Cert.CmbKernelIdeal.nD Cert.CmbKernelIdeal.τ).loc Cert.CmbKernelIdeal.main_arg2)) (m ((c.tc : Thread Cert.CmbKernelIdeal.nD Cert.CmbKernelIdeal.τ).loc Cert.CmbKernelIdeal.main_arg3)) (m ((c.tc : Thread Cert.CmbKernelIdeal.nD Cert.CmbKernelIdeal.τ).loc Cert.CmbKernelIdeal.main_arg4)) (m ((c.tc : Thread Cert.CmbKernelIdeal.nD Cert.CmbKernelIdeal.τ).loc Cert.CmbKernelIdeal.main_arg5))) = (fun _ => 1#1)

def Pre_CmbReferenceIdeal (m : (ℓ : Loc Cert.CmbReferenceIdeal.nD Cert.CmbReferenceIdeal.τ Cert.CmbReferenceIdeal.sig) → Buf (Elt Ideal) ℓ) : Prop :=
  True

def Pre_CmbReferenceIdeal_rows_in_range [hPre_rows_in_range : Cert.Pre_rows_in_range.Facts] (m : (ℓ : Loc Cert.CmbReferenceIdeal.nD Cert.CmbReferenceIdeal.τ Cert.CmbReferenceIdeal.sig) → Buf (Elt Ideal) ℓ) : Prop :=
  ∀ c : Dev Cert.CmbReferenceIdeal.nD,
    (Cert.Pre_rows_in_range.fn (F := Ideal) (m ((c.tc : Thread Cert.CmbReferenceIdeal.nD Cert.CmbReferenceIdeal.τ).loc Cert.CmbReferenceIdeal.main_arg0)) (m ((c.tc : Thread Cert.CmbReferenceIdeal.nD Cert.CmbReferenceIdeal.τ).loc Cert.CmbReferenceIdeal.main_arg1)) (m ((c.tc : Thread Cert.CmbReferenceIdeal.nD Cert.CmbReferenceIdeal.τ).loc Cert.CmbReferenceIdeal.main_arg2)) (m ((c.tc : Thread Cert.CmbReferenceIdeal.nD Cert.CmbReferenceIdeal.τ).loc Cert.CmbReferenceIdeal.main_arg3)) (m ((c.tc : Thread Cert.CmbReferenceIdeal.nD Cert.CmbReferenceIdeal.τ).loc Cert.CmbReferenceIdeal.main_arg4)) (m ((c.tc : Thread Cert.CmbReferenceIdeal.nD Cert.CmbReferenceIdeal.τ).loc Cert.CmbReferenceIdeal.main_arg5))) = (fun _ => 1#1)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_MoeKernel [hMoeKernel : Cert.MoeKernel.Facts] [hPre_tables_in_range : Cert.Pre_tables_in_range.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4)
      ∧ r.2.mem ((c.tc : Thread Cert.MoeKernel.nD Cert.MoeKernel.τ).loc Cert.MoeKernel.main_arg5) = m ((c.tc : Thread Cert.MoeKernel.nD Cert.MoeKernel.τ).loc Cert.MoeKernel.main_arg5)
      ∧ r.2.mem ((c.tc : Thread Cert.MoeKernel.nD Cert.MoeKernel.τ).loc Cert.MoeKernel.main_arg6) = m ((c.tc : Thread Cert.MoeKernel.nD Cert.MoeKernel.τ).loc Cert.MoeKernel.main_arg6)
      ∧ r.2.mem ((c.tc : Thread Cert.MoeKernel.nD Cert.MoeKernel.τ).loc Cert.MoeKernel.main_arg7) = m ((c.tc : Thread Cert.MoeKernel.nD Cert.MoeKernel.τ).loc Cert.MoeKernel.main_arg7))
      ∧ r.2.sem = fun _ => 0)

def quiescent_MoeKernelIdeal [hMoeKernelIdeal : Cert.MoeKernelIdeal.Facts] [hPre_tables_in_range : Cert.Pre_tables_in_range.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
      ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
      ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6)
      ∧ r.2.mem ((c.tc : Thread Cert.MoeKernelIdeal.nD Cert.MoeKernelIdeal.τ).loc Cert.MoeKernelIdeal.main_arg7) = m ((c.tc : Thread Cert.MoeKernelIdeal.nD Cert.MoeKernelIdeal.τ).loc Cert.MoeKernelIdeal.main_arg7))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7))
      ∧ r.2.sem = fun _ => 0)

def quiescent_MoeReferenceIdeal_pre_tables_in_range [hMoeReferenceIdeal : Cert.MoeReferenceIdeal.Facts] [hPre_tables_in_range : Cert.Pre_tables_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_tables_in_range m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7))
      ∧ r.2.sem = fun _ => 0)

def quiescent_SmpKernel [hSmpKernel : Cert.SmpKernel.Facts] : Prop :=
  ∀ (m : (ℓ : Loc Cert.SmpKernel.nD Cert.SmpKernel.τ Cert.SmpKernel.sig) → Buf (Elt Bits) ℓ) (g : Dev Cert.SmpKernel.nD → PrngReg), Pre_SmpKernel m →
    θ_run (Cert.SmpKernel.defs (F := Bits)) (onTc (τ := Cert.SmpKernel.τ) (Cert.SmpKernel.main (F := Bits))) ⟨m, fun _ => 0, g⟩ (fun r => (∀ c : Dev Cert.SmpKernel.nD,
      r.2.mem ((c.tc : Thread Cert.SmpKernel.nD Cert.SmpKernel.τ).loc Cert.SmpKernel.main_arg0) = m ((c.tc : Thread Cert.SmpKernel.nD Cert.SmpKernel.τ).loc Cert.SmpKernel.main_arg0)
      ∧ r.2.mem ((c.tc : Thread Cert.SmpKernel.nD Cert.SmpKernel.τ).loc Cert.SmpKernel.main_arg1) = m ((c.tc : Thread Cert.SmpKernel.nD Cert.SmpKernel.τ).loc Cert.SmpKernel.main_arg1)
      ∧ r.2.mem ((c.tc : Thread Cert.SmpKernel.nD Cert.SmpKernel.τ).loc Cert.SmpKernel.main_arg2) = m ((c.tc : Thread Cert.SmpKernel.nD Cert.SmpKernel.τ).loc Cert.SmpKernel.main_arg2)
      ∧ r.2.mem ((c.tc : Thread Cert.SmpKernel.nD Cert.SmpKernel.τ).loc Cert.SmpKernel.main_arg3) = m ((c.tc : Thread Cert.SmpKernel.nD Cert.SmpKernel.τ).loc Cert.SmpKernel.main_arg3)
      ∧ r.2.mem ((c.tc : Thread Cert.SmpKernel.nD Cert.SmpKernel.τ).loc Cert.SmpKernel.main_arg4) = m ((c.tc : Thread Cert.SmpKernel.nD Cert.SmpKernel.τ).loc Cert.SmpKernel.main_arg4)
      ∧ r.2.mem ((c.tc : Thread Cert.SmpKernel.nD Cert.SmpKernel.τ).loc Cert.SmpKernel.main_arg5) = m ((c.tc : Thread Cert.SmpKernel.nD Cert.SmpKernel.τ).loc Cert.SmpKernel.main_arg5)
      ∧ r.2.mem ((c.tc : Thread Cert.SmpKernel.nD Cert.SmpKernel.τ).loc Cert.SmpKernel.main_arg6) = m ((c.tc : Thread Cert.SmpKernel.nD Cert.SmpKernel.τ).loc Cert.SmpKernel.main_arg6)
      ∧ r.2.mem ((c.tc : Thread Cert.SmpKernel.nD Cert.SmpKernel.τ).loc Cert.SmpKernel.main_arg7) = m ((c.tc : Thread Cert.SmpKernel.nD Cert.SmpKernel.τ).loc Cert.SmpKernel.main_arg7)
      ∧ r.2.mem ((c.tc : Thread Cert.SmpKernel.nD Cert.SmpKernel.τ).loc Cert.SmpKernel.main_arg8) = m ((c.tc : Thread Cert.SmpKernel.nD Cert.SmpKernel.τ).loc Cert.SmpKernel.main_arg8))
      ∧ r.2.sem = fun _ => 0)

def quiescent_SmpKernelIdeal [hSmpKernelIdeal : Cert.SmpKernelIdeal.Facts] : Prop :=
  ∀ (m : (ℓ : Loc Cert.SmpKernelIdeal.nD Cert.SmpKernelIdeal.τ Cert.SmpKernelIdeal.sig) → Buf (Elt Ideal) ℓ) (g : Dev Cert.SmpKernelIdeal.nD → PrngReg), Pre_SmpKernelIdeal m →
    θ_run (Cert.SmpKernelIdeal.defs (F := Ideal)) (onTc (τ := Cert.SmpKernelIdeal.τ) (Cert.SmpKernelIdeal.main (F := Ideal))) ⟨m, fun _ => 0, g⟩ (fun r => (∀ c : Dev Cert.SmpKernelIdeal.nD,
      r.2.mem ((c.tc : Thread Cert.SmpKernelIdeal.nD Cert.SmpKernelIdeal.τ).loc Cert.SmpKernelIdeal.main_arg0) = m ((c.tc : Thread Cert.SmpKernelIdeal.nD Cert.SmpKernelIdeal.τ).loc Cert.SmpKernelIdeal.main_arg0)
      ∧ r.2.mem ((c.tc : Thread Cert.SmpKernelIdeal.nD Cert.SmpKernelIdeal.τ).loc Cert.SmpKernelIdeal.main_arg1) = m ((c.tc : Thread Cert.SmpKernelIdeal.nD Cert.SmpKernelIdeal.τ).loc Cert.SmpKernelIdeal.main_arg1)
      ∧ r.2.mem ((c.tc : Thread Cert.SmpKernelIdeal.nD Cert.SmpKernelIdeal.τ).loc Cert.SmpKernelIdeal.main_arg2) = m ((c.tc : Thread Cert.SmpKernelIdeal.nD Cert.SmpKernelIdeal.τ).loc Cert.SmpKernelIdeal.main_arg2)
      ∧ r.2.mem ((c.tc : Thread Cert.SmpKernelIdeal.nD Cert.SmpKernelIdeal.τ).loc Cert.SmpKernelIdeal.main_arg3) = m ((c.tc : Thread Cert.SmpKernelIdeal.nD Cert.SmpKernelIdeal.τ).loc Cert.SmpKernelIdeal.main_arg3)
      ∧ r.2.mem ((c.tc : Thread Cert.SmpKernelIdeal.nD Cert.SmpKernelIdeal.τ).loc Cert.SmpKernelIdeal.main_arg4) = m ((c.tc : Thread Cert.SmpKernelIdeal.nD Cert.SmpKernelIdeal.τ).loc Cert.SmpKernelIdeal.main_arg4)
      ∧ r.2.mem ((c.tc : Thread Cert.SmpKernelIdeal.nD Cert.SmpKernelIdeal.τ).loc Cert.SmpKernelIdeal.main_arg5) = m ((c.tc : Thread Cert.SmpKernelIdeal.nD Cert.SmpKernelIdeal.τ).loc Cert.SmpKernelIdeal.main_arg5)
      ∧ r.2.mem ((c.tc : Thread Cert.SmpKernelIdeal.nD Cert.SmpKernelIdeal.τ).loc Cert.SmpKernelIdeal.main_arg6) = m ((c.tc : Thread Cert.SmpKernelIdeal.nD Cert.SmpKernelIdeal.τ).loc Cert.SmpKernelIdeal.main_arg6)
      ∧ r.2.mem ((c.tc : Thread Cert.SmpKernelIdeal.nD Cert.SmpKernelIdeal.τ).loc Cert.SmpKernelIdeal.main_arg7) = m ((c.tc : Thread Cert.SmpKernelIdeal.nD Cert.SmpKernelIdeal.τ).loc Cert.SmpKernelIdeal.main_arg7)
      ∧ r.2.mem ((c.tc : Thread Cert.SmpKernelIdeal.nD Cert.SmpKernelIdeal.τ).loc Cert.SmpKernelIdeal.main_arg8) = m ((c.tc : Thread Cert.SmpKernelIdeal.nD Cert.SmpKernelIdeal.τ).loc Cert.SmpKernelIdeal.main_arg8))
      ∧ r.2.sem = fun _ => 0)

def quiescent_SmpReferenceIdeal [hSmpReferenceIdeal : Cert.SmpReferenceIdeal.Facts] : Prop :=
  ∀ (m : (ℓ : Loc Cert.SmpReferenceIdeal.nD Cert.SmpReferenceIdeal.τ Cert.SmpReferenceIdeal.sig) → Buf (Elt Ideal) ℓ) (g : Dev Cert.SmpReferenceIdeal.nD → PrngReg), Pre_SmpReferenceIdeal m →
    θ_run (Cert.SmpReferenceIdeal.defs (F := Ideal)) (onTc (τ := Cert.SmpReferenceIdeal.τ) (Cert.SmpReferenceIdeal.main (F := Ideal))) ⟨m, fun _ => 0, g⟩ (fun r => (∀ c : Dev Cert.SmpReferenceIdeal.nD,
      r.2.mem ((c.tc : Thread Cert.SmpReferenceIdeal.nD Cert.SmpReferenceIdeal.τ).loc Cert.SmpReferenceIdeal.main_arg0) = m ((c.tc : Thread Cert.SmpReferenceIdeal.nD Cert.SmpReferenceIdeal.τ).loc Cert.SmpReferenceIdeal.main_arg0)
      ∧ r.2.mem ((c.tc : Thread Cert.SmpReferenceIdeal.nD Cert.SmpReferenceIdeal.τ).loc Cert.SmpReferenceIdeal.main_arg1) = m ((c.tc : Thread Cert.SmpReferenceIdeal.nD Cert.SmpReferenceIdeal.τ).loc Cert.SmpReferenceIdeal.main_arg1)
      ∧ r.2.mem ((c.tc : Thread Cert.SmpReferenceIdeal.nD Cert.SmpReferenceIdeal.τ).loc Cert.SmpReferenceIdeal.main_arg2) = m ((c.tc : Thread Cert.SmpReferenceIdeal.nD Cert.SmpReferenceIdeal.τ).loc Cert.SmpReferenceIdeal.main_arg2)
      ∧ r.2.mem ((c.tc : Thread Cert.SmpReferenceIdeal.nD Cert.SmpReferenceIdeal.τ).loc Cert.SmpReferenceIdeal.main_arg3) = m ((c.tc : Thread Cert.SmpReferenceIdeal.nD Cert.SmpReferenceIdeal.τ).loc Cert.SmpReferenceIdeal.main_arg3)
      ∧ r.2.mem ((c.tc : Thread Cert.SmpReferenceIdeal.nD Cert.SmpReferenceIdeal.τ).loc Cert.SmpReferenceIdeal.main_arg4) = m ((c.tc : Thread Cert.SmpReferenceIdeal.nD Cert.SmpReferenceIdeal.τ).loc Cert.SmpReferenceIdeal.main_arg4)
      ∧ r.2.mem ((c.tc : Thread Cert.SmpReferenceIdeal.nD Cert.SmpReferenceIdeal.τ).loc Cert.SmpReferenceIdeal.main_arg5) = m ((c.tc : Thread Cert.SmpReferenceIdeal.nD Cert.SmpReferenceIdeal.τ).loc Cert.SmpReferenceIdeal.main_arg5)
      ∧ r.2.mem ((c.tc : Thread Cert.SmpReferenceIdeal.nD Cert.SmpReferenceIdeal.τ).loc Cert.SmpReferenceIdeal.main_arg6) = m ((c.tc : Thread Cert.SmpReferenceIdeal.nD Cert.SmpReferenceIdeal.τ).loc Cert.SmpReferenceIdeal.main_arg6)
      ∧ r.2.mem ((c.tc : Thread Cert.SmpReferenceIdeal.nD Cert.SmpReferenceIdeal.τ).loc Cert.SmpReferenceIdeal.main_arg7) = m ((c.tc : Thread Cert.SmpReferenceIdeal.nD Cert.SmpReferenceIdeal.τ).loc Cert.SmpReferenceIdeal.main_arg7)
      ∧ r.2.mem ((c.tc : Thread Cert.SmpReferenceIdeal.nD Cert.SmpReferenceIdeal.τ).loc Cert.SmpReferenceIdeal.main_arg8) = m ((c.tc : Thread Cert.SmpReferenceIdeal.nD Cert.SmpReferenceIdeal.τ).loc Cert.SmpReferenceIdeal.main_arg8))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixKernelIdeal_pre_experts_distinct [hMixKernelIdeal : Cert.MixKernelIdeal.Facts] [hPre_experts_distinct : Cert.Pre_experts_distinct.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_experts_distinct m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_MixReferenceIdeal_pre_experts_distinct [hMixReferenceIdeal : Cert.MixReferenceIdeal.Facts] [hPre_experts_distinct : Cert.Pre_experts_distinct.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_experts_distinct m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_CmbKernel [hCmbKernel : Cert.CmbKernel.Facts] [hPre_rows_in_range : Cert.Pre_rows_in_range.Facts] : Prop :=
  ∀ (m : (ℓ : Loc Cert.CmbKernel.nD Cert.CmbKernel.τ Cert.CmbKernel.sig) → Buf (Elt Bits) ℓ) (g : Dev Cert.CmbKernel.nD → PrngReg), Pre_CmbKernel m →
    θ_run (Cert.CmbKernel.defs (F := Bits)) (onTc (τ := Cert.CmbKernel.τ) (Cert.CmbKernel.main (F := Bits))) ⟨m, fun _ => 0, g⟩ (fun r => (∀ c : Dev Cert.CmbKernel.nD,
      r.2.mem ((c.tc : Thread Cert.CmbKernel.nD Cert.CmbKernel.τ).loc Cert.CmbKernel.main_arg0) = m ((c.tc : Thread Cert.CmbKernel.nD Cert.CmbKernel.τ).loc Cert.CmbKernel.main_arg0)
      ∧ r.2.mem ((c.tc : Thread Cert.CmbKernel.nD Cert.CmbKernel.τ).loc Cert.CmbKernel.main_arg1) = m ((c.tc : Thread Cert.CmbKernel.nD Cert.CmbKernel.τ).loc Cert.CmbKernel.main_arg1)
      ∧ r.2.mem ((c.tc : Thread Cert.CmbKernel.nD Cert.CmbKernel.τ).loc Cert.CmbKernel.main_arg2) = m ((c.tc : Thread Cert.CmbKernel.nD Cert.CmbKernel.τ).loc Cert.CmbKernel.main_arg2)
      ∧ r.2.mem ((c.tc : Thread Cert.CmbKernel.nD Cert.CmbKernel.τ).loc Cert.CmbKernel.main_arg3) = m ((c.tc : Thread Cert.CmbKernel.nD Cert.CmbKernel.τ).loc Cert.CmbKernel.main_arg3)
      ∧ r.2.mem ((c.tc : Thread Cert.CmbKernel.nD Cert.CmbKernel.τ).loc Cert.CmbKernel.main_arg4) = m ((c.tc : Thread Cert.CmbKernel.nD Cert.CmbKernel.τ).loc Cert.CmbKernel.main_arg4)
      ∧ r.2.mem ((c.tc : Thread Cert.CmbKernel.nD Cert.CmbKernel.τ).loc Cert.CmbKernel.main_arg5) = m ((c.tc : Thread Cert.CmbKernel.nD Cert.CmbKernel.τ).loc Cert.CmbKernel.main_arg5))
      ∧ r.2.sem = fun _ => 0)

def quiescent_CmbKernelIdeal [hCmbKernelIdeal : Cert.CmbKernelIdeal.Facts] [hPre_rows_in_range : Cert.Pre_rows_in_range.Facts] : Prop :=
  ∀ (m : (ℓ : Loc Cert.CmbKernelIdeal.nD Cert.CmbKernelIdeal.τ Cert.CmbKernelIdeal.sig) → Buf (Elt Ideal) ℓ) (g : Dev Cert.CmbKernelIdeal.nD → PrngReg), Pre_CmbKernelIdeal m →
    θ_run (Cert.CmbKernelIdeal.defs (F := Ideal)) (onTc (τ := Cert.CmbKernelIdeal.τ) (Cert.CmbKernelIdeal.main (F := Ideal))) ⟨m, fun _ => 0, g⟩ (fun r => (∀ c : Dev Cert.CmbKernelIdeal.nD,
      r.2.mem ((c.tc : Thread Cert.CmbKernelIdeal.nD Cert.CmbKernelIdeal.τ).loc Cert.CmbKernelIdeal.main_arg0) = m ((c.tc : Thread Cert.CmbKernelIdeal.nD Cert.CmbKernelIdeal.τ).loc Cert.CmbKernelIdeal.main_arg0)
      ∧ r.2.mem ((c.tc : Thread Cert.CmbKernelIdeal.nD Cert.CmbKernelIdeal.τ).loc Cert.CmbKernelIdeal.main_arg1) = m ((c.tc : Thread Cert.CmbKernelIdeal.nD Cert.CmbKernelIdeal.τ).loc Cert.CmbKernelIdeal.main_arg1)
      ∧ r.2.mem ((c.tc : Thread Cert.CmbKernelIdeal.nD Cert.CmbKernelIdeal.τ).loc Cert.CmbKernelIdeal.main_arg2) = m ((c.tc : Thread Cert.CmbKernelIdeal.nD Cert.CmbKernelIdeal.τ).loc Cert.CmbKernelIdeal.main_arg2)
      ∧ r.2.mem ((c.tc : Thread Cert.CmbKernelIdeal.nD Cert.CmbKernelIdeal.τ).loc Cert.CmbKernelIdeal.main_arg3) = m ((c.tc : Thread Cert.CmbKernelIdeal.nD Cert.CmbKernelIdeal.τ).loc Cert.CmbKernelIdeal.main_arg3)
      ∧ r.2.mem ((c.tc : Thread Cert.CmbKernelIdeal.nD Cert.CmbKernelIdeal.τ).loc Cert.CmbKernelIdeal.main_arg4) = m ((c.tc : Thread Cert.CmbKernelIdeal.nD Cert.CmbKernelIdeal.τ).loc Cert.CmbKernelIdeal.main_arg4)
      ∧ r.2.mem ((c.tc : Thread Cert.CmbKernelIdeal.nD Cert.CmbKernelIdeal.τ).loc Cert.CmbKernelIdeal.main_arg5) = m ((c.tc : Thread Cert.CmbKernelIdeal.nD Cert.CmbKernelIdeal.τ).loc Cert.CmbKernelIdeal.main_arg5))
      ∧ r.2.sem = fun _ => 0)

def quiescent_CmbReferenceIdeal [hCmbReferenceIdeal : Cert.CmbReferenceIdeal.Facts] : Prop :=
  ∀ (m : (ℓ : Loc Cert.CmbReferenceIdeal.nD Cert.CmbReferenceIdeal.τ Cert.CmbReferenceIdeal.sig) → Buf (Elt Ideal) ℓ) (g : Dev Cert.CmbReferenceIdeal.nD → PrngReg), Pre_CmbReferenceIdeal m →
    θ_run (Cert.CmbReferenceIdeal.defs (F := Ideal)) (onTc (τ := Cert.CmbReferenceIdeal.τ) (Cert.CmbReferenceIdeal.main (F := Ideal))) ⟨m, fun _ => 0, g⟩ (fun r => (∀ c : Dev Cert.CmbReferenceIdeal.nD,
      r.2.mem ((c.tc : Thread Cert.CmbReferenceIdeal.nD Cert.CmbReferenceIdeal.τ).loc Cert.CmbReferenceIdeal.main_arg0) = m ((c.tc : Thread Cert.CmbReferenceIdeal.nD Cert.CmbReferenceIdeal.τ).loc Cert.CmbReferenceIdeal.main_arg0)
      ∧ r.2.mem ((c.tc : Thread Cert.CmbReferenceIdeal.nD Cert.CmbReferenceIdeal.τ).loc Cert.CmbReferenceIdeal.main_arg1) = m ((c.tc : Thread Cert.CmbReferenceIdeal.nD Cert.CmbReferenceIdeal.τ).loc Cert.CmbReferenceIdeal.main_arg1)
      ∧ r.2.mem ((c.tc : Thread Cert.CmbReferenceIdeal.nD Cert.CmbReferenceIdeal.τ).loc Cert.CmbReferenceIdeal.main_arg2) = m ((c.tc : Thread Cert.CmbReferenceIdeal.nD Cert.CmbReferenceIdeal.τ).loc Cert.CmbReferenceIdeal.main_arg2)
      ∧ r.2.mem ((c.tc : Thread Cert.CmbReferenceIdeal.nD Cert.CmbReferenceIdeal.τ).loc Cert.CmbReferenceIdeal.main_arg3) = m ((c.tc : Thread Cert.CmbReferenceIdeal.nD Cert.CmbReferenceIdeal.τ).loc Cert.CmbReferenceIdeal.main_arg3)
      ∧ r.2.mem ((c.tc : Thread Cert.CmbReferenceIdeal.nD Cert.CmbReferenceIdeal.τ).loc Cert.CmbReferenceIdeal.main_arg4) = m ((c.tc : Thread Cert.CmbReferenceIdeal.nD Cert.CmbReferenceIdeal.τ).loc Cert.CmbReferenceIdeal.main_arg4)
      ∧ r.2.mem ((c.tc : Thread Cert.CmbReferenceIdeal.nD Cert.CmbReferenceIdeal.τ).loc Cert.CmbReferenceIdeal.main_arg5) = m ((c.tc : Thread Cert.CmbReferenceIdeal.nD Cert.CmbReferenceIdeal.τ).loc Cert.CmbReferenceIdeal.main_arg5))
      ∧ r.2.sem = fun _ => 0)

def quiescent_CmbReferenceIdeal_pre_rows_in_range [hCmbReferenceIdeal : Cert.CmbReferenceIdeal.Facts] [hPre_rows_in_range : Cert.Pre_rows_in_range.Facts] : Prop :=
  ∀ (m : (ℓ : Loc Cert.CmbReferenceIdeal.nD Cert.CmbReferenceIdeal.τ Cert.CmbReferenceIdeal.sig) → Buf (Elt Ideal) ℓ) (g : Dev Cert.CmbReferenceIdeal.nD → PrngReg), Pre_CmbReferenceIdeal_rows_in_range m →
    θ_run (Cert.CmbReferenceIdeal.defs (F := Ideal)) (onTc (τ := Cert.CmbReferenceIdeal.τ) (Cert.CmbReferenceIdeal.main (F := Ideal))) ⟨m, fun _ => 0, g⟩ (fun r => (∀ c : Dev Cert.CmbReferenceIdeal.nD,
      r.2.mem ((c.tc : Thread Cert.CmbReferenceIdeal.nD Cert.CmbReferenceIdeal.τ).loc Cert.CmbReferenceIdeal.main_arg0) = m ((c.tc : Thread Cert.CmbReferenceIdeal.nD Cert.CmbReferenceIdeal.τ).loc Cert.CmbReferenceIdeal.main_arg0)
      ∧ r.2.mem ((c.tc : Thread Cert.CmbReferenceIdeal.nD Cert.CmbReferenceIdeal.τ).loc Cert.CmbReferenceIdeal.main_arg1) = m ((c.tc : Thread Cert.CmbReferenceIdeal.nD Cert.CmbReferenceIdeal.τ).loc Cert.CmbReferenceIdeal.main_arg1)
      ∧ r.2.mem ((c.tc : Thread Cert.CmbReferenceIdeal.nD Cert.CmbReferenceIdeal.τ).loc Cert.CmbReferenceIdeal.main_arg2) = m ((c.tc : Thread Cert.CmbReferenceIdeal.nD Cert.CmbReferenceIdeal.τ).loc Cert.CmbReferenceIdeal.main_arg2)
      ∧ r.2.mem ((c.tc : Thread Cert.CmbReferenceIdeal.nD Cert.CmbReferenceIdeal.τ).loc Cert.CmbReferenceIdeal.main_arg3) = m ((c.tc : Thread Cert.CmbReferenceIdeal.nD Cert.CmbReferenceIdeal.τ).loc Cert.CmbReferenceIdeal.main_arg3)
      ∧ r.2.mem ((c.tc : Thread Cert.CmbReferenceIdeal.nD Cert.CmbReferenceIdeal.τ).loc Cert.CmbReferenceIdeal.main_arg4) = m ((c.tc : Thread Cert.CmbReferenceIdeal.nD Cert.CmbReferenceIdeal.τ).loc Cert.CmbReferenceIdeal.main_arg4)
      ∧ r.2.mem ((c.tc : Thread Cert.CmbReferenceIdeal.nD Cert.CmbReferenceIdeal.τ).loc Cert.CmbReferenceIdeal.main_arg5) = m ((c.tc : Thread Cert.CmbReferenceIdeal.nD Cert.CmbReferenceIdeal.τ).loc Cert.CmbReferenceIdeal.main_arg5))
      ∧ r.2.sem = fun _ => 0)

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v1_0)) (v1 : (c : Dev Cert.ProjKernelIdeal.nD) → Buf (Elt Ideal) ((c.tc : Thread Cert.ProjKernelIdeal.nD Cert.ProjKernelIdeal.τ).loc Cert.ProjKernelIdeal.main_v1_1)) (v2 : (c : Dev Cert.ProjKernelIdeal.nD) → Buf (Elt Ideal) ((c.tc : Thread Cert.ProjKernelIdeal.nD Cert.ProjKernelIdeal.τ).loc Cert.ProjKernelIdeal.main_v1_2)) (v3 : (c : Dev Cert.ProjKernelIdeal.nD) → Buf (Elt Ideal) ((c.tc : Thread Cert.ProjKernelIdeal.nD Cert.ProjKernelIdeal.τ).loc Cert.ProjKernelIdeal.main_v1_3)) (v4 : (c : Dev Cert.ProjKernelIdeal.nD) → Buf (Elt Ideal) ((c.tc : Thread Cert.ProjKernelIdeal.nD Cert.ProjKernelIdeal.τ).loc Cert.ProjKernelIdeal.main_v1_4)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v1_0) = v0 c
          ∧ r.2.mem ((c.tc : Thread Cert.ProjKernelIdeal.nD Cert.ProjKernelIdeal.τ).loc Cert.ProjKernelIdeal.main_v1_1) = v1 c
          ∧ r.2.mem ((c.tc : Thread Cert.ProjKernelIdeal.nD Cert.ProjKernelIdeal.τ).loc Cert.ProjKernelIdeal.main_v1_2) = v2 c
          ∧ r.2.mem ((c.tc : Thread Cert.ProjKernelIdeal.nD Cert.ProjKernelIdeal.τ).loc Cert.ProjKernelIdeal.main_v1_3) = v3 c
          ∧ r.2.mem ((c.tc : Thread Cert.ProjKernelIdeal.nD Cert.ProjKernelIdeal.τ).loc Cert.ProjKernelIdeal.main_v1_4) = v4 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_v2) = v1 c
          ∧ r.2.mem ((c.tc : Thread Cert.ProjReferenceIdeal.nD Cert.ProjReferenceIdeal.τ).loc Cert.ProjReferenceIdeal.main_v3) = v2 c
          ∧ r.2.mem ((c.tc : Thread Cert.ProjReferenceIdeal.nD Cert.ProjReferenceIdeal.τ).loc Cert.ProjReferenceIdeal.main_v4) = v3 c
          ∧ r.2.mem ((c.tc : Thread Cert.ProjReferenceIdeal.nD Cert.ProjReferenceIdeal.τ).loc Cert.ProjReferenceIdeal.main_v5) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_MoeKernel_MoeKernelIdeal : Prop :=
  True

def algebraic_MoeKernelIdeal_MoeReferenceIdeal [hMoeKernelIdeal : Cert.MoeKernelIdeal.Facts] [hMoeReferenceIdeal : Cert.MoeReferenceIdeal.Facts] [hPre_tables_in_range : Cert.Pre_tables_in_range.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)
      ∧ m' ((c.tc : Thread Cert.MoeReferenceIdeal.nD Cert.MoeReferenceIdeal.τ).loc Cert.MoeReferenceIdeal.main_arg5) = m ((c.tc : Thread Cert.MoeKernelIdeal.nD Cert.MoeKernelIdeal.τ).loc Cert.MoeKernelIdeal.main_arg5)
      ∧ m' ((c.tc : Thread Cert.MoeReferenceIdeal.nD Cert.MoeReferenceIdeal.τ).loc Cert.MoeReferenceIdeal.main_arg6) = m ((c.tc : Thread Cert.MoeKernelIdeal.nD Cert.MoeKernelIdeal.τ).loc Cert.MoeKernelIdeal.main_arg6)
      ∧ m' ((c.tc : Thread Cert.MoeReferenceIdeal.nD Cert.MoeReferenceIdeal.τ).loc Cert.MoeReferenceIdeal.main_arg7) = m ((c.tc : Thread Cert.MoeKernelIdeal.nD Cert.MoeKernelIdeal.τ).loc Cert.MoeKernelIdeal.main_arg7)) →
    ∃ (v0 : (c : Dev Cert.MoeKernelIdeal.nD) → Buf (Elt Ideal) ((c.tc : Thread Cert.MoeKernelIdeal.nD Cert.MoeKernelIdeal.τ).loc Cert.MoeKernelIdeal.main_v3)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          r.2.mem ((c.tc : Thread Cert.MoeKernelIdeal.nD Cert.MoeKernelIdeal.τ).loc Cert.MoeKernelIdeal.main_v3) = v0 c
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
          ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
          ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6)
          ∧ r.2.mem ((c.tc : Thread Cert.MoeKernelIdeal.nD Cert.MoeKernelIdeal.τ).loc Cert.MoeKernelIdeal.main_arg7) = m ((c.tc : Thread Cert.MoeKernelIdeal.nD Cert.MoeKernelIdeal.τ).loc Cert.MoeKernelIdeal.main_arg7))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v75) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7))

def preserves_SmpKernel_SmpKernelIdeal : Prop :=
  True

def algebraic_SmpKernelIdeal_SmpReferenceIdeal [hSmpKernelIdeal : Cert.SmpKernelIdeal.Facts] [hSmpReferenceIdeal : Cert.SmpReferenceIdeal.Facts] : Prop :=
  ∀ (m : (ℓ : Loc Cert.SmpKernelIdeal.nD Cert.SmpKernelIdeal.τ Cert.SmpKernelIdeal.sig) → Buf (Elt Ideal) ℓ) (g : Dev Cert.SmpKernelIdeal.nD → PrngReg)
    (m' : (ℓ : Loc Cert.SmpReferenceIdeal.nD Cert.SmpReferenceIdeal.τ Cert.SmpReferenceIdeal.sig) → Buf (Elt Ideal) ℓ) (g' : Dev Cert.SmpReferenceIdeal.nD → PrngReg), Pre_SmpKernelIdeal m →
    (∀ c : Dev Cert.SmpKernelIdeal.nD,
      m' ((c.tc : Thread Cert.SmpReferenceIdeal.nD Cert.SmpReferenceIdeal.τ).loc Cert.SmpReferenceIdeal.main_arg0) = m ((c.tc : Thread Cert.SmpKernelIdeal.nD Cert.SmpKernelIdeal.τ).loc Cert.SmpKernelIdeal.main_arg0)
      ∧ m' ((c.tc : Thread Cert.SmpReferenceIdeal.nD Cert.SmpReferenceIdeal.τ).loc Cert.SmpReferenceIdeal.main_arg1) = m ((c.tc : Thread Cert.SmpKernelIdeal.nD Cert.SmpKernelIdeal.τ).loc Cert.SmpKernelIdeal.main_arg1)
      ∧ m' ((c.tc : Thread Cert.SmpReferenceIdeal.nD Cert.SmpReferenceIdeal.τ).loc Cert.SmpReferenceIdeal.main_arg2) = m ((c.tc : Thread Cert.SmpKernelIdeal.nD Cert.SmpKernelIdeal.τ).loc Cert.SmpKernelIdeal.main_arg2)
      ∧ m' ((c.tc : Thread Cert.SmpReferenceIdeal.nD Cert.SmpReferenceIdeal.τ).loc Cert.SmpReferenceIdeal.main_arg3) = m ((c.tc : Thread Cert.SmpKernelIdeal.nD Cert.SmpKernelIdeal.τ).loc Cert.SmpKernelIdeal.main_arg3)
      ∧ m' ((c.tc : Thread Cert.SmpReferenceIdeal.nD Cert.SmpReferenceIdeal.τ).loc Cert.SmpReferenceIdeal.main_arg4) = m ((c.tc : Thread Cert.SmpKernelIdeal.nD Cert.SmpKernelIdeal.τ).loc Cert.SmpKernelIdeal.main_arg4)
      ∧ m' ((c.tc : Thread Cert.SmpReferenceIdeal.nD Cert.SmpReferenceIdeal.τ).loc Cert.SmpReferenceIdeal.main_arg5) = m ((c.tc : Thread Cert.SmpKernelIdeal.nD Cert.SmpKernelIdeal.τ).loc Cert.SmpKernelIdeal.main_arg5)
      ∧ m' ((c.tc : Thread Cert.SmpReferenceIdeal.nD Cert.SmpReferenceIdeal.τ).loc Cert.SmpReferenceIdeal.main_arg6) = m ((c.tc : Thread Cert.SmpKernelIdeal.nD Cert.SmpKernelIdeal.τ).loc Cert.SmpKernelIdeal.main_arg6)
      ∧ m' ((c.tc : Thread Cert.SmpReferenceIdeal.nD Cert.SmpReferenceIdeal.τ).loc Cert.SmpReferenceIdeal.main_arg7) = m ((c.tc : Thread Cert.SmpKernelIdeal.nD Cert.SmpKernelIdeal.τ).loc Cert.SmpKernelIdeal.main_arg7)
      ∧ m' ((c.tc : Thread Cert.SmpReferenceIdeal.nD Cert.SmpReferenceIdeal.τ).loc Cert.SmpReferenceIdeal.main_arg8) = m ((c.tc : Thread Cert.SmpKernelIdeal.nD Cert.SmpKernelIdeal.τ).loc Cert.SmpKernelIdeal.main_arg8)) →
    ∃ (v0 : (c : Dev Cert.SmpKernelIdeal.nD) → Buf (Elt Ideal) ((c.tc : Thread Cert.SmpKernelIdeal.nD Cert.SmpKernelIdeal.τ).loc Cert.SmpKernelIdeal.main_v4_0)) (v1 : (c : Dev Cert.SmpKernelIdeal.nD) → Buf (Elt Ideal) ((c.tc : Thread Cert.SmpKernelIdeal.nD Cert.SmpKernelIdeal.τ).loc Cert.SmpKernelIdeal.main_v4_1)) (v2 : (c : Dev Cert.SmpKernelIdeal.nD) → Buf (Elt Ideal) ((c.tc : Thread Cert.SmpKernelIdeal.nD Cert.SmpKernelIdeal.τ).loc Cert.SmpKernelIdeal.main_v4_2)) (v3 : (c : Dev Cert.SmpKernelIdeal.nD) → Buf (Elt Ideal) ((c.tc : Thread Cert.SmpKernelIdeal.nD Cert.SmpKernelIdeal.τ).loc Cert.SmpKernelIdeal.main_v4_3)),
      θ_run (Cert.SmpKernelIdeal.defs (F := Ideal)) (onTc (τ := Cert.SmpKernelIdeal.τ) (Cert.SmpKernelIdeal.main (F := Ideal))) ⟨m, fun _ => 0, g⟩ (fun r => ∀ c : Dev Cert.SmpKernelIdeal.nD,
          r.2.mem ((c.tc : Thread Cert.SmpKernelIdeal.nD Cert.SmpKernelIdeal.τ).loc Cert.SmpKernelIdeal.main_v4_0) = v0 c
          ∧ r.2.mem ((c.tc : Thread Cert.SmpKernelIdeal.nD Cert.SmpKernelIdeal.τ).loc Cert.SmpKernelIdeal.main_v4_1) = v1 c
          ∧ r.2.mem ((c.tc : Thread Cert.SmpKernelIdeal.nD Cert.SmpKernelIdeal.τ).loc Cert.SmpKernelIdeal.main_v4_2) = v2 c
          ∧ r.2.mem ((c.tc : Thread Cert.SmpKernelIdeal.nD Cert.SmpKernelIdeal.τ).loc Cert.SmpKernelIdeal.main_v4_3) = v3 c
          ∧ r.2.mem ((c.tc : Thread Cert.SmpKernelIdeal.nD Cert.SmpKernelIdeal.τ).loc Cert.SmpKernelIdeal.main_arg0) = m ((c.tc : Thread Cert.SmpKernelIdeal.nD Cert.SmpKernelIdeal.τ).loc Cert.SmpKernelIdeal.main_arg0)
          ∧ r.2.mem ((c.tc : Thread Cert.SmpKernelIdeal.nD Cert.SmpKernelIdeal.τ).loc Cert.SmpKernelIdeal.main_arg1) = m ((c.tc : Thread Cert.SmpKernelIdeal.nD Cert.SmpKernelIdeal.τ).loc Cert.SmpKernelIdeal.main_arg1)
          ∧ r.2.mem ((c.tc : Thread Cert.SmpKernelIdeal.nD Cert.SmpKernelIdeal.τ).loc Cert.SmpKernelIdeal.main_arg2) = m ((c.tc : Thread Cert.SmpKernelIdeal.nD Cert.SmpKernelIdeal.τ).loc Cert.SmpKernelIdeal.main_arg2)
          ∧ r.2.mem ((c.tc : Thread Cert.SmpKernelIdeal.nD Cert.SmpKernelIdeal.τ).loc Cert.SmpKernelIdeal.main_arg3) = m ((c.tc : Thread Cert.SmpKernelIdeal.nD Cert.SmpKernelIdeal.τ).loc Cert.SmpKernelIdeal.main_arg3)
          ∧ r.2.mem ((c.tc : Thread Cert.SmpKernelIdeal.nD Cert.SmpKernelIdeal.τ).loc Cert.SmpKernelIdeal.main_arg4) = m ((c.tc : Thread Cert.SmpKernelIdeal.nD Cert.SmpKernelIdeal.τ).loc Cert.SmpKernelIdeal.main_arg4)
          ∧ r.2.mem ((c.tc : Thread Cert.SmpKernelIdeal.nD Cert.SmpKernelIdeal.τ).loc Cert.SmpKernelIdeal.main_arg5) = m ((c.tc : Thread Cert.SmpKernelIdeal.nD Cert.SmpKernelIdeal.τ).loc Cert.SmpKernelIdeal.main_arg5)
          ∧ r.2.mem ((c.tc : Thread Cert.SmpKernelIdeal.nD Cert.SmpKernelIdeal.τ).loc Cert.SmpKernelIdeal.main_arg6) = m ((c.tc : Thread Cert.SmpKernelIdeal.nD Cert.SmpKernelIdeal.τ).loc Cert.SmpKernelIdeal.main_arg6)
          ∧ r.2.mem ((c.tc : Thread Cert.SmpKernelIdeal.nD Cert.SmpKernelIdeal.τ).loc Cert.SmpKernelIdeal.main_arg7) = m ((c.tc : Thread Cert.SmpKernelIdeal.nD Cert.SmpKernelIdeal.τ).loc Cert.SmpKernelIdeal.main_arg7)
          ∧ r.2.mem ((c.tc : Thread Cert.SmpKernelIdeal.nD Cert.SmpKernelIdeal.τ).loc Cert.SmpKernelIdeal.main_arg8) = m ((c.tc : Thread Cert.SmpKernelIdeal.nD Cert.SmpKernelIdeal.τ).loc Cert.SmpKernelIdeal.main_arg8))
      ∧ θ_run (Cert.SmpReferenceIdeal.defs (F := Ideal)) (onTc (τ := Cert.SmpReferenceIdeal.τ) (Cert.SmpReferenceIdeal.main (F := Ideal))) ⟨m', fun _ => 0, g'⟩ (fun r => ∀ c : Dev Cert.SmpReferenceIdeal.nD,
          r.2.mem ((c.tc : Thread Cert.SmpReferenceIdeal.nD Cert.SmpReferenceIdeal.τ).loc Cert.SmpReferenceIdeal.main_v2) = v0 c
          ∧ r.2.mem ((c.tc : Thread Cert.SmpReferenceIdeal.nD Cert.SmpReferenceIdeal.τ).loc Cert.SmpReferenceIdeal.main_v3) = v1 c
          ∧ r.2.mem ((c.tc : Thread Cert.SmpReferenceIdeal.nD Cert.SmpReferenceIdeal.τ).loc Cert.SmpReferenceIdeal.main_v4) = v2 c
          ∧ r.2.mem ((c.tc : Thread Cert.SmpReferenceIdeal.nD Cert.SmpReferenceIdeal.τ).loc Cert.SmpReferenceIdeal.main_v5) = v3 c
          ∧ r.2.mem ((c.tc : Thread Cert.SmpReferenceIdeal.nD Cert.SmpReferenceIdeal.τ).loc Cert.SmpReferenceIdeal.main_arg0) = m' ((c.tc : Thread Cert.SmpReferenceIdeal.nD Cert.SmpReferenceIdeal.τ).loc Cert.SmpReferenceIdeal.main_arg0)
          ∧ r.2.mem ((c.tc : Thread Cert.SmpReferenceIdeal.nD Cert.SmpReferenceIdeal.τ).loc Cert.SmpReferenceIdeal.main_arg1) = m' ((c.tc : Thread Cert.SmpReferenceIdeal.nD Cert.SmpReferenceIdeal.τ).loc Cert.SmpReferenceIdeal.main_arg1)
          ∧ r.2.mem ((c.tc : Thread Cert.SmpReferenceIdeal.nD Cert.SmpReferenceIdeal.τ).loc Cert.SmpReferenceIdeal.main_arg2) = m' ((c.tc : Thread Cert.SmpReferenceIdeal.nD Cert.SmpReferenceIdeal.τ).loc Cert.SmpReferenceIdeal.main_arg2)
          ∧ r.2.mem ((c.tc : Thread Cert.SmpReferenceIdeal.nD Cert.SmpReferenceIdeal.τ).loc Cert.SmpReferenceIdeal.main_arg3) = m' ((c.tc : Thread Cert.SmpReferenceIdeal.nD Cert.SmpReferenceIdeal.τ).loc Cert.SmpReferenceIdeal.main_arg3)
          ∧ r.2.mem ((c.tc : Thread Cert.SmpReferenceIdeal.nD Cert.SmpReferenceIdeal.τ).loc Cert.SmpReferenceIdeal.main_arg4) = m' ((c.tc : Thread Cert.SmpReferenceIdeal.nD Cert.SmpReferenceIdeal.τ).loc Cert.SmpReferenceIdeal.main_arg4)
          ∧ r.2.mem ((c.tc : Thread Cert.SmpReferenceIdeal.nD Cert.SmpReferenceIdeal.τ).loc Cert.SmpReferenceIdeal.main_arg5) = m' ((c.tc : Thread Cert.SmpReferenceIdeal.nD Cert.SmpReferenceIdeal.τ).loc Cert.SmpReferenceIdeal.main_arg5)
          ∧ r.2.mem ((c.tc : Thread Cert.SmpReferenceIdeal.nD Cert.SmpReferenceIdeal.τ).loc Cert.SmpReferenceIdeal.main_arg6) = m' ((c.tc : Thread Cert.SmpReferenceIdeal.nD Cert.SmpReferenceIdeal.τ).loc Cert.SmpReferenceIdeal.main_arg6)
          ∧ r.2.mem ((c.tc : Thread Cert.SmpReferenceIdeal.nD Cert.SmpReferenceIdeal.τ).loc Cert.SmpReferenceIdeal.main_arg7) = m' ((c.tc : Thread Cert.SmpReferenceIdeal.nD Cert.SmpReferenceIdeal.τ).loc Cert.SmpReferenceIdeal.main_arg7)
          ∧ r.2.mem ((c.tc : Thread Cert.SmpReferenceIdeal.nD Cert.SmpReferenceIdeal.τ).loc Cert.SmpReferenceIdeal.main_arg8) = m' ((c.tc : Thread Cert.SmpReferenceIdeal.nD Cert.SmpReferenceIdeal.τ).loc Cert.SmpReferenceIdeal.main_arg8))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)) →
    ∃ (v0 : (c : Dev Cert.OutKernelIdeal.nD) → Buf (Elt Ideal) ((c.tc : Thread Cert.OutKernelIdeal.nD Cert.OutKernelIdeal.τ).loc Cert.OutKernelIdeal.main_v5_0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v5_0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v28) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8))

def preserves_MixKernel_MixKernelIdeal : Prop :=
  True

def algebraic_MixKernelIdeal_MixReferenceIdeal_pre_experts_distinct [hMixKernelIdeal : Cert.MixKernelIdeal.Facts] [hMixReferenceIdeal : Cert.MixReferenceIdeal.Facts] [hPre_experts_distinct : Cert.Pre_experts_distinct.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_experts_distinct m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)) →
    ∃ (v0 : (c : Dev Cert.MixKernelIdeal.nD) → Buf (Elt Ideal) ((c.tc : Thread Cert.MixKernelIdeal.nD Cert.MixKernelIdeal.τ).loc Cert.MixKernelIdeal.main_v19)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v19) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v96) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_CmbKernel_CmbKernelIdeal : Prop :=
  True

def algebraic_CmbKernelIdeal_CmbReferenceIdeal [hCmbKernelIdeal : Cert.CmbKernelIdeal.Facts] [hCmbReferenceIdeal : Cert.CmbReferenceIdeal.Facts] [hPre_rows_in_range : Cert.Pre_rows_in_range.Facts] : Prop :=
  ∀ (m : (ℓ : Loc Cert.CmbKernelIdeal.nD Cert.CmbKernelIdeal.τ Cert.CmbKernelIdeal.sig) → Buf (Elt Ideal) ℓ) (g : Dev Cert.CmbKernelIdeal.nD → PrngReg)
    (m' : (ℓ : Loc Cert.CmbReferenceIdeal.nD Cert.CmbReferenceIdeal.τ Cert.CmbReferenceIdeal.sig) → Buf (Elt Ideal) ℓ) (g' : Dev Cert.CmbReferenceIdeal.nD → PrngReg), Pre_CmbKernelIdeal m →
    (∀ c : Dev Cert.CmbKernelIdeal.nD,
      m' ((c.tc : Thread Cert.CmbReferenceIdeal.nD Cert.CmbReferenceIdeal.τ).loc Cert.CmbReferenceIdeal.main_arg0) = m ((c.tc : Thread Cert.CmbKernelIdeal.nD Cert.CmbKernelIdeal.τ).loc Cert.CmbKernelIdeal.main_arg0)
      ∧ m' ((c.tc : Thread Cert.CmbReferenceIdeal.nD Cert.CmbReferenceIdeal.τ).loc Cert.CmbReferenceIdeal.main_arg1) = m ((c.tc : Thread Cert.CmbKernelIdeal.nD Cert.CmbKernelIdeal.τ).loc Cert.CmbKernelIdeal.main_arg1)
      ∧ m' ((c.tc : Thread Cert.CmbReferenceIdeal.nD Cert.CmbReferenceIdeal.τ).loc Cert.CmbReferenceIdeal.main_arg2) = m ((c.tc : Thread Cert.CmbKernelIdeal.nD Cert.CmbKernelIdeal.τ).loc Cert.CmbKernelIdeal.main_arg2)
      ∧ m' ((c.tc : Thread Cert.CmbReferenceIdeal.nD Cert.CmbReferenceIdeal.τ).loc Cert.CmbReferenceIdeal.main_arg3) = m ((c.tc : Thread Cert.CmbKernelIdeal.nD Cert.CmbKernelIdeal.τ).loc Cert.CmbKernelIdeal.main_arg3)
      ∧ m' ((c.tc : Thread Cert.CmbReferenceIdeal.nD Cert.CmbReferenceIdeal.τ).loc Cert.CmbReferenceIdeal.main_arg4) = m ((c.tc : Thread Cert.CmbKernelIdeal.nD Cert.CmbKernelIdeal.τ).loc Cert.CmbKernelIdeal.main_arg4)
      ∧ m' ((c.tc : Thread Cert.CmbReferenceIdeal.nD Cert.CmbReferenceIdeal.τ).loc Cert.CmbReferenceIdeal.main_arg5) = m ((c.tc : Thread Cert.CmbKernelIdeal.nD Cert.CmbKernelIdeal.τ).loc Cert.CmbKernelIdeal.main_arg5)) →
    ∃ (v0 : (c : Dev Cert.CmbKernelIdeal.nD) → Buf (Elt Ideal) ((c.tc : Thread Cert.CmbKernelIdeal.nD Cert.CmbKernelIdeal.τ).loc Cert.CmbKernelIdeal.main_v5)),
      θ_run (Cert.CmbKernelIdeal.defs (F := Ideal)) (onTc (τ := Cert.CmbKernelIdeal.τ) (Cert.CmbKernelIdeal.main (F := Ideal))) ⟨m, fun _ => 0, g⟩ (fun r => ∀ c : Dev Cert.CmbKernelIdeal.nD,
          r.2.mem ((c.tc : Thread Cert.CmbKernelIdeal.nD Cert.CmbKernelIdeal.τ).loc Cert.CmbKernelIdeal.main_v5) = v0 c
          ∧ r.2.mem ((c.tc : Thread Cert.CmbKernelIdeal.nD Cert.CmbKernelIdeal.τ).loc Cert.CmbKernelIdeal.main_arg0) = m ((c.tc : Thread Cert.CmbKernelIdeal.nD Cert.CmbKernelIdeal.τ).loc Cert.CmbKernelIdeal.main_arg0)
          ∧ r.2.mem ((c.tc : Thread Cert.CmbKernelIdeal.nD Cert.CmbKernelIdeal.τ).loc Cert.CmbKernelIdeal.main_arg1) = m ((c.tc : Thread Cert.CmbKernelIdeal.nD Cert.CmbKernelIdeal.τ).loc Cert.CmbKernelIdeal.main_arg1)
          ∧ r.2.mem ((c.tc : Thread Cert.CmbKernelIdeal.nD Cert.CmbKernelIdeal.τ).loc Cert.CmbKernelIdeal.main_arg2) = m ((c.tc : Thread Cert.CmbKernelIdeal.nD Cert.CmbKernelIdeal.τ).loc Cert.CmbKernelIdeal.main_arg2)
          ∧ r.2.mem ((c.tc : Thread Cert.CmbKernelIdeal.nD Cert.CmbKernelIdeal.τ).loc Cert.CmbKernelIdeal.main_arg3) = m ((c.tc : Thread Cert.CmbKernelIdeal.nD Cert.CmbKernelIdeal.τ).loc Cert.CmbKernelIdeal.main_arg3)
          ∧ r.2.mem ((c.tc : Thread Cert.CmbKernelIdeal.nD Cert.CmbKernelIdeal.τ).loc Cert.CmbKernelIdeal.main_arg4) = m ((c.tc : Thread Cert.CmbKernelIdeal.nD Cert.CmbKernelIdeal.τ).loc Cert.CmbKernelIdeal.main_arg4)
          ∧ r.2.mem ((c.tc : Thread Cert.CmbKernelIdeal.nD Cert.CmbKernelIdeal.τ).loc Cert.CmbKernelIdeal.main_arg5) = m ((c.tc : Thread Cert.CmbKernelIdeal.nD Cert.CmbKernelIdeal.τ).loc Cert.CmbKernelIdeal.main_arg5))
      ∧ θ_run (Cert.CmbReferenceIdeal.defs (F := Ideal)) (onTc (τ := Cert.CmbReferenceIdeal.τ) (Cert.CmbReferenceIdeal.main (F := Ideal))) ⟨m', fun _ => 0, g'⟩ (fun r => ∀ c : Dev Cert.CmbReferenceIdeal.nD,
          r.2.mem ((c.tc : Thread Cert.CmbReferenceIdeal.nD Cert.CmbReferenceIdeal.τ).loc Cert.CmbReferenceIdeal.main_v38) = v0 c
          ∧ r.2.mem ((c.tc : Thread Cert.CmbReferenceIdeal.nD Cert.CmbReferenceIdeal.τ).loc Cert.CmbReferenceIdeal.main_arg0) = m' ((c.tc : Thread Cert.CmbReferenceIdeal.nD Cert.CmbReferenceIdeal.τ).loc Cert.CmbReferenceIdeal.main_arg0)
          ∧ r.2.mem ((c.tc : Thread Cert.CmbReferenceIdeal.nD Cert.CmbReferenceIdeal.τ).loc Cert.CmbReferenceIdeal.main_arg1) = m' ((c.tc : Thread Cert.CmbReferenceIdeal.nD Cert.CmbReferenceIdeal.τ).loc Cert.CmbReferenceIdeal.main_arg1)
          ∧ r.2.mem ((c.tc : Thread Cert.CmbReferenceIdeal.nD Cert.CmbReferenceIdeal.τ).loc Cert.CmbReferenceIdeal.main_arg2) = m' ((c.tc : Thread Cert.CmbReferenceIdeal.nD Cert.CmbReferenceIdeal.τ).loc Cert.CmbReferenceIdeal.main_arg2)
          ∧ r.2.mem ((c.tc : Thread Cert.CmbReferenceIdeal.nD Cert.CmbReferenceIdeal.τ).loc Cert.CmbReferenceIdeal.main_arg3) = m' ((c.tc : Thread Cert.CmbReferenceIdeal.nD Cert.CmbReferenceIdeal.τ).loc Cert.CmbReferenceIdeal.main_arg3)
          ∧ r.2.mem ((c.tc : Thread Cert.CmbReferenceIdeal.nD Cert.CmbReferenceIdeal.τ).loc Cert.CmbReferenceIdeal.main_arg4) = m' ((c.tc : Thread Cert.CmbReferenceIdeal.nD Cert.CmbReferenceIdeal.τ).loc Cert.CmbReferenceIdeal.main_arg4)
          ∧ r.2.mem ((c.tc : Thread Cert.CmbReferenceIdeal.nD Cert.CmbReferenceIdeal.τ).loc Cert.CmbReferenceIdeal.main_arg5) = m' ((c.tc : Thread Cert.CmbReferenceIdeal.nD Cert.CmbReferenceIdeal.τ).loc Cert.CmbReferenceIdeal.main_arg5))

def Claim : Prop :=
  ∃ (hProjKernel : Cert.ProjKernel.Facts) (hProjKernelIdeal : Cert.ProjKernelIdeal.Facts) (hProjReferenceIdeal : Cert.ProjReferenceIdeal.Facts) (hMoeKernel : Cert.MoeKernel.Facts) (hMoeKernelIdeal : Cert.MoeKernelIdeal.Facts) (hMoeReferenceIdeal : Cert.MoeReferenceIdeal.Facts) (hSmpKernel : Cert.SmpKernel.Facts) (hSmpKernelIdeal : Cert.SmpKernelIdeal.Facts) (hSmpReferenceIdeal : Cert.SmpReferenceIdeal.Facts) (hOutKernel : Cert.OutKernel.Facts) (hOutKernelIdeal : Cert.OutKernelIdeal.Facts) (hOutReferenceIdeal : Cert.OutReferenceIdeal.Facts) (hMixKernel : Cert.MixKernel.Facts) (hMixKernelIdeal : Cert.MixKernelIdeal.Facts) (hMixReferenceIdeal : Cert.MixReferenceIdeal.Facts) (hCmbKernel : Cert.CmbKernel.Facts) (hCmbKernelIdeal : Cert.CmbKernelIdeal.Facts) (hCmbReferenceIdeal : Cert.CmbReferenceIdeal.Facts) (hPre_tables_in_range : Cert.Pre_tables_in_range.Facts) (hPre_experts_distinct : Cert.Pre_experts_distinct.Facts) (hPre_rows_in_range : Cert.Pre_rows_in_range.Facts),
    quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MoeKernel (hMoeKernel := hMoeKernel) (hPre_tables_in_range := hPre_tables_in_range)
    ∧ quiescent_MoeKernelIdeal (hMoeKernelIdeal := hMoeKernelIdeal) (hPre_tables_in_range := hPre_tables_in_range)
    ∧ quiescent_MoeReferenceIdeal (hMoeReferenceIdeal := hMoeReferenceIdeal)
    ∧ quiescent_MoeReferenceIdeal_pre_tables_in_range (hMoeReferenceIdeal := hMoeReferenceIdeal) (hPre_tables_in_range := hPre_tables_in_range)
    ∧ quiescent_SmpKernel (hSmpKernel := hSmpKernel)
    ∧ quiescent_SmpKernelIdeal (hSmpKernelIdeal := hSmpKernelIdeal)
    ∧ quiescent_SmpReferenceIdeal (hSmpReferenceIdeal := hSmpReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_MixKernel (hMixKernel := hMixKernel)
    ∧ quiescent_MixKernelIdeal (hMixKernelIdeal := hMixKernelIdeal)
    ∧ quiescent_MixKernelIdeal_pre_experts_distinct (hMixKernelIdeal := hMixKernelIdeal) (hPre_experts_distinct := hPre_experts_distinct)
    ∧ quiescent_MixReferenceIdeal (hMixReferenceIdeal := hMixReferenceIdeal)
    ∧ quiescent_MixReferenceIdeal_pre_experts_distinct (hMixReferenceIdeal := hMixReferenceIdeal) (hPre_experts_distinct := hPre_experts_distinct)
    ∧ quiescent_CmbKernel (hCmbKernel := hCmbKernel) (hPre_rows_in_range := hPre_rows_in_range)
    ∧ quiescent_CmbKernelIdeal (hCmbKernelIdeal := hCmbKernelIdeal) (hPre_rows_in_range := hPre_rows_in_range)
    ∧ quiescent_CmbReferenceIdeal (hCmbReferenceIdeal := hCmbReferenceIdeal)
    ∧ quiescent_CmbReferenceIdeal_pre_rows_in_range (hCmbReferenceIdeal := hCmbReferenceIdeal) (hPre_rows_in_range := hPre_rows_in_range)
    ∧ preserves_ProjKernel_ProjKernelIdeal
    ∧ algebraic_ProjKernelIdeal_ProjReferenceIdeal (hProjKernelIdeal := hProjKernelIdeal) (hProjReferenceIdeal := hProjReferenceIdeal)
    ∧ preserves_MoeKernel_MoeKernelIdeal
    ∧ algebraic_MoeKernelIdeal_MoeReferenceIdeal (hMoeKernelIdeal := hMoeKernelIdeal) (hMoeReferenceIdeal := hMoeReferenceIdeal) (hPre_tables_in_range := hPre_tables_in_range)
    ∧ preserves_SmpKernel_SmpKernelIdeal
    ∧ algebraic_SmpKernelIdeal_SmpReferenceIdeal (hSmpKernelIdeal := hSmpKernelIdeal) (hSmpReferenceIdeal := hSmpReferenceIdeal)
    ∧ preserves_OutKernel_OutKernelIdeal
    ∧ algebraic_OutKernelIdeal_OutReferenceIdeal (hOutKernelIdeal := hOutKernelIdeal) (hOutReferenceIdeal := hOutReferenceIdeal)
    ∧ preserves_MixKernel_MixKernelIdeal
    ∧ algebraic_MixKernelIdeal_MixReferenceIdeal_pre_experts_distinct (hMixKernelIdeal := hMixKernelIdeal) (hMixReferenceIdeal := hMixReferenceIdeal) (hPre_experts_distinct := hPre_experts_distinct)
    ∧ preserves_CmbKernel_CmbKernelIdeal
    ∧ algebraic_CmbKernelIdeal_CmbReferenceIdeal (hCmbKernelIdeal := hCmbKernelIdeal) (hCmbReferenceIdeal := hCmbReferenceIdeal) (hPre_rows_in_range := hPre_rows_in_range)
-- ==== Pre_experts_distinct.lean ====
abbrev S32x1024 : Shape := ⟨2, ![32, 1024]⟩
abbrev S32x4 : Shape := ⟨2, ![32, 4]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x1024 : Shape := ⟨2, ![2, 1024]⟩
abbrev S32x4x1 : Shape := ⟨3, ![32, 4, 1]⟩
abbrev S32x1x4 : Shape := ⟨3, ![32, 1, 4]⟩
abbrev S4 : Shape := ⟨1, ![4]⟩
abbrev S_ : Shape := ⟨0, ![]⟩
abbrev S32x4x4 : Shape := ⟨3, ![32, 4, 4]⟩
abbrev S4x1 : Shape := ⟨2, ![4, 1]⟩
abbrev S1x4 : Shape := ⟨2, ![1, 4]⟩
abbrev S4x4 : Shape := ⟨2, ![4, 4]⟩
abbrev S1x4x4 : Shape := ⟨3, ![1, 4, 4]⟩

class Facts : Prop where
  bcast_S32x4_S32x4x1_0_1 : S32x4.BroadcastsInDim S32x4x1 (![0, 1] : Fin 2 → Fin S32x4x1.rank)
  bcast_S32x4_S32x1x4_0_2 : S32x4.BroadcastsInDim S32x1x4 (![0, 2] : Fin 2 → Fin S32x1x4.rank)
  bcast_S_S32x4x1 : S_.BroadcastsInDim S32x4x1 (![] : Fin 0 → Fin S32x4x1.rank)
  bcast_S32x4x1_S32x4x4_0_1_2 : S32x4x1.BroadcastsInDim S32x4x4 (![0, 1, 2] : Fin 3 → Fin S32x4x4.rank)
  bcast_S32x1x4_S32x4x4_0_1_2 : S32x1x4.BroadcastsInDim S32x4x4 (![0, 1, 2] : Fin 3 → Fin S32x4x4.rank)
  bcast_S4_S4x1_0 : S4.BroadcastsInDim S4x1 (![0] : Fin 1 → Fin S4x1.rank)
  bcast_S4_S1x4_1 : S4.BroadcastsInDim S1x4 (![1] : Fin 1 → Fin S1x4.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  bcast_S4x4_S1x4x4_1_2 : S4x4.BroadcastsInDim S1x4x4 (![1, 2] : Fin 2 → Fin S1x4x4.rank)
  bcast_S1x4x4_S32x4x4_0_1_2 : S1x4x4.BroadcastsInDim S32x4x4 (![0, 1, 2] : Fin 3 → Fin S32x4x4.rank)

variable [Facts]

def fn {F : FTy → Type} [FloatOps F] (main_arg0 : FVec F S32x1024 .f32) (main_arg1 : IVec S32x4 32) (main_arg2 : FVec F S32x4 .f32) (main_arg3 : FVec F S2x32x1024x2048 .f32) (main_arg4 : FVec F S2x32x2048 .f32) (main_arg5 : FVec F S2x32x1024x1024 .f32) (main_arg6 : FVec F S2x32x1024 .f32) (main_arg7 : FVec F S2x1024 .f32) (main_arg8 : FVec F S2x1024 .f32) : IVec S32x4x4 1 :=
  let main_v0 : IVec S32x4x1 32 := broadcastInDim S32x4x1 ![0, 1] bcast_S32x4_S32x4x1_0_1 main_arg1
  let main_v1 : IVec S32x1x4 32 := broadcastInDim S32x1x4 ![0, 2] bcast_S32x4_S32x1x4_0_2 main_arg1
  let main_v2 : IVec S4 32 := iotaInDim S4 32 0
  let main_c : IVec S_ 32 := constantI S_ 32 0#32
  let main_v3 : IVec S32x4x1 32 := broadcastInDim S32x4x1 ![] bcast_S_S32x4x1 main_c
  let main_v4 : IVec S32x4x1 1 := cmpi .sge main_v0 main_v3
  let main_c_0 : IVec S_ 32 := constantI S_ 32 32#32
  let main_v5 : IVec S32x4x1 32 := broadcastInDim S32x4x1 ![] bcast_S_S32x4x1 main_c_0
  let main_v6 : IVec S32x4x1 1 := cmpi .slt main_v0 main_v5
  let main_v7 : IVec S32x4x1 1 := andi main_v4 main_v6
  let main_v8 : IVec S32x4x4 32 := broadcastInDim S32x4x4 ![0, 1, 2] bcast_S32x4x1_S32x4x4_0_1_2 main_v0
  let main_v9 : IVec S32x4x4 32 := broadcastInDim S32x4x4 ![0, 1, 2] bcast_S32x1x4_S32x4x4_0_1_2 main_v1
  let main_v10 : IVec S32x4x4 1 := cmpi .ne main_v8 main_v9
  let main_v11 : IVec S4x1 32 := broadcastInDim S4x1 ![0] bcast_S4_S4x1_0 main_v2
  let main_v12 : IVec S1x4 32 := broadcastInDim S1x4 ![1] bcast_S4_S1x4_1 main_v2
  let main_v13 : IVec S4x4 32 := broadcastInDim S4x4 ![0, 1] bcast_S4x1_S4x4_0_1 main_v11
  let main_v14 : IVec S4x4 32 := broadcastInDim S4x4 ![0, 1] bcast_S1x4_S4x4_0_1 main_v12
  let main_v15 : IVec S4x4 1 := cmpi .eq main_v13 main_v14
  let main_v16 : IVec S1x4x4 1 := broadcastInDim S1x4x4 ![1, 2] bcast_S4x4_S1x4x4_1_2 main_v15
  let main_v17 : IVec S32x4x4 1 := broadcastInDim S32x4x4 ![0, 1, 2] bcast_S1x4x4_S32x4x4_0_1_2 main_v16
  let main_v18 : IVec S32x4x4 1 := ori main_v10 main_v17
  let main_v19 : IVec S32x4x4 1 := broadcastInDim S32x4x4 ![0, 1, 2] bcast_S32x4x1_S32x4x4_0_1_2 main_v7
  let main_v20 : IVec S32x4x4 1 := andi main_v19 main_v18
  main_v20
-- ==== Pre_rows_in_range.lean ====
abbrev S65536 : Shape := ⟨1, ![65536]⟩
abbrev S16384x4 : Shape := ⟨2, ![16384, 4]⟩
abbrev S16384x1024 : Shape := ⟨2, ![16384, 1024]⟩
abbrev S73728x1024 : Shape := ⟨2, ![73728, 1024]⟩
abbrev S1024 : Shape := ⟨1, ![1024]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S65536 32) (main_arg1 : FVec F S16384x4 .f32) (main_arg2 : FVec F S16384x1024 .f32) (main_arg3 : FVec F S73728x1024 .f32) (main_arg4 : FVec F S1024 .f32) (main_arg5 : FVec F S1024 .f32) : IVec S65536 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 73728#32
  let main_v2 : IVec S65536 32 := broadcastInDim S65536 ![] bcast_S_S65536 main_c_0
  let main_v3 : IVec S65536 1 := cmpi .slt main_arg0 main_v2
  let main_v4 : IVec S65536 1 := andi main_v1 main_v3
  main_v4
-- ==== Pre_tables_in_range.lean ====
abbrev S16384x1024 : Shape := ⟨2, ![16384, 1024]⟩
abbrev S73728 : Shape := ⟨1, ![73728]⟩
abbrev S288 : Shape := ⟨1, ![288]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S288x256 : Shape := ⟨2, ![288, 256]⟩
abbrev S288x1 : Shape := ⟨2, ![288, 1]⟩
abbrev S_ : Shape := ⟨0, ![]⟩

class Facts : Prop where
  shapeCasts_S73728_S288x256 : S73728.ShapeCasts S288x256
  shapeCasts_S288_S288x1 : S288.ShapeCasts S288x1
  bcast_S_S288x256 : S_.BroadcastsInDim S288x256 (![] : Fin 0 → Fin S288x256.rank)
  bcast_S_S288x1 : S_.BroadcastsInDim S288x1 (![] : Fin 0 → Fin S288x1.rank)
  bcast_S288x1_S288x256_0_1 : S288x1.BroadcastsInDim S288x256 (![0, 1] : Fin 2 → Fin S288x256.rank)

variable [Facts]

def fn {F : FTy → Type} [FloatOps F] (main_arg0 : FVec F S16384x1024 .f32) (main_arg1 : IVec S73728 32) (main_arg2 : IVec S288 32) (main_arg3 : IVec S1 32) (main_arg4 : FVec F S2x32x1024x2048 .f32) (main_arg5 : FVec F S2x32x2048 .f32) (main_arg6 : FVec F S2x32x1024x1024 .f32) (main_arg7 : FVec F S2x32x1024 .f32) : IVec S288x256 1 :=
  let main_v0 : IVec S288x256 32 := shapeCast S288x256 main_arg1 shapeCasts_S73728_S288x256
  let main_v1 : IVec S288x1 32 := shapeCast S288x1 main_arg2 shapeCasts_S288_S288x1
  let main_c : IVec S_ 32 := constantI S_ 32 0#32
  let main_v2 : IVec S288x256 32 := broadcastInDim S288x256 ![] bcast_S_S288x256 main_c
  let main_v3 : IVec S288x256 1 := cmpi .sge main_v0 main_v2
  let main_c_0 : IVec S_ 32 := constantI S_ 32 16384#32
  let main_v4 : IVec S288x256 32 := broadcastInDim S288x256 ![] bcast_S_S288x256 main_c_0
  let main_v5 : IVec S288x256 1 := cmpi .slt main_v0 main_v4
  let main_v6 : IVec S288x256 1 := andi main_v3 main_v5
  let main_c_1 : IVec S_ 32 := constantI S_ 32 0#32
  let main_v7 : IVec S288x1 32 := broadcastInDim S288x1 ![] bcast_S_S288x1 main_c_1
  let main_v8 : IVec S288x1 1 := cmpi .sge main_v1 main_v7
  let main_v9 : IVec S288x256 1 := broadcastInDim S288x256 ![0, 1] bcast_S288x1_S288x256_0_1 main_v8
  let main_v10 : IVec S288x256 1 := andi main_v6 main_v9
  let main_c_2 : IVec S_ 32 := constantI S_ 32 32#32
  let main_v11 : IVec S288x1 32 := broadcastInDim S288x1 ![] bcast_S_S288x1 main_c_2
  let main_v12 : IVec S288x1 1 := cmpi .slt main_v1 main_v11
  let main_v13 : IVec S288x256 1 := broadcastInDim S288x256 ![0, 1] bcast_S288x1_S288x256_0_1 main_v12
  let main_v14 : IVec S288x256 1 := andi main_v10 main_v13
  main_v14
-- ==== ProjKernel.lean ====
abbrev S16384x1024 : Shape := ⟨2, ![16384, 1024]⟩
abbrev S1024x2688 : Shape := ⟨2, ![1024, 2688]⟩
abbrev S16384x256 : Shape := ⟨2, ![16384, 256]⟩
abbrev S16384x384 : Shape := ⟨2, ![16384, 384]⟩
abbrev S16384x1280 : Shape := ⟨2, ![16384, 1280]⟩
abbrev S512x1024 : Shape := ⟨2, ![512, 1024]⟩
abbrev S512x256 : Shape := ⟨2, ![512, 256]⟩
abbrev S512x384 : Shape := ⟨2, ![512, 384]⟩
abbrev S512x1280 : Shape := ⟨2, ![512, 1280]⟩
abbrev S1024x256 : Shape := ⟨2, ![1024, 256]⟩
abbrev S1024x384 : Shape := ⟨2, ![1024, 384]⟩
abbrev S1024x1280 : Shape := ⟨2, ![1024, 1280]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024x2688, .f32⟩
  | .hbm, ⟨2, _⟩ => ⟨S1024x2688, .bf16⟩
  | .hbm, ⟨3, _⟩ => ⟨S16384x256, .f32⟩
  | .hbm, ⟨4, _⟩ => ⟨S16384x384, .f32⟩
  | .hbm, ⟨5, _⟩ => ⟨S16384x384, .f32⟩
  | .hbm, ⟨6, _⟩ => ⟨S16384x384, .f32⟩
  | .hbm, ⟨7, _⟩ => ⟨S16384x1280, .f32⟩
  | .local _ .vmem, ⟨0, _⟩ => ⟨S512x1024, .f32⟩
  | .local _ .vmem, ⟨1, _⟩ => ⟨S512x1024, .f32⟩
  | .local _ .vmem, ⟨2, _⟩ => ⟨S1024x2688, .bf16⟩
  | .local _ .vmem, ⟨3, _⟩ => ⟨S512x256, .f32⟩
  | .local _ .vmem, ⟨4, _⟩ => ⟨S512x256, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x1280, .f32⟩
  | .local _ .vmem, ⟨12, _⟩ => ⟨S512x1280, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjReferenceIdeal.lean ====
abbrev S16384x1024 : Shape := ⟨2, ![16384, 1024]⟩
abbrev S1024x2688 : Shape := ⟨2, ![1024, 2688]⟩
abbrev S16384x2688 : Shape := ⟨2, ![16384, 2688]⟩
abbrev S16384x256 : Shape := ⟨2, ![16384, 256]⟩
abbrev S16384x384 : Shape := ⟨2, ![16384, 384]⟩
abbrev S16384x1280 : Shape := ⟨2, ![16384, 1280]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2688, .f32⟩
  | .hbm, ⟨2, _⟩ => ⟨S16384x2688, .f32⟩
  | .hbm, ⟨3, _⟩ => ⟨S16384x256, .f32⟩
  | .hbm, ⟨4, _⟩ => ⟨S16384x384, .f32⟩
  | .hbm, ⟨5, _⟩ => ⟨S16384x384, .f32⟩
  | .hbm, ⟨6, _⟩ => ⟨S16384x384, .f32⟩
  | .hbm, ⟨7, _⟩ => ⟨S16384x1280, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MoeKernel.lean ====
abbrev S16384x1024 : Shape := ⟨2, ![16384, 1024]⟩
abbrev S73728 : Shape := ⟨1, ![73728]⟩
abbrev S288 : Shape := ⟨1, ![288]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S288x1x256 : Shape := ⟨3, ![288, 1, 256]⟩
abbrev S2x32x1x2048 : Shape := ⟨4, ![2, 32, 1, 2048]⟩
abbrev S2x32x1x1024 : Shape := ⟨4, ![2, 32, 1, 1024]⟩
abbrev S73728x1024 : Shape := ⟨2, ![73728, 1024]⟩
abbrev S1x1x256 : Shape := ⟨3, ![1, 1, 256]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S256x1024 : Shape := ⟨2, ![256, 1024]⟩
abbrev S1024x2048 : Shape := ⟨2, ![1024, 2048]⟩
abbrev S1024x1024 : Shape := ⟨2, ![1024, 1024]⟩
abbrev S_ : Shape := ⟨0, ![]⟩
abbrev S1x1x1 : Shape := ⟨3, ![1, 1, 1]⟩
abbrev S1x1024 : Shape := ⟨2, ![1, 1024]⟩
abbrev S256x2048 : Shape := ⟨2, ![256, 2048]⟩
abbrev S1x2048 : Shape := ⟨2, ![1, 2048]⟩

abbrev nBuf : Space → Nat
  | .hbm => 10
  | .vmem => 13
  | .smem => 4
  | _ => 0

abbrev bufTy : (tb : Table) → Fin (tcTables nBuf tb) → BufTy
  | .hbm, ⟨0, _⟩ => ⟨S16384x1024, .f32⟩
  | .hbm, ⟨1, _⟩ => ⟨S73728, .i32⟩
  | .hbm, ⟨2, _⟩ => ⟨S2x32x1024x2048, .f32⟩
  | .hbm, ⟨3, _⟩ => ⟨S2x32x2048, .f32⟩
  | .hbm, ⟨4, _⟩ => ⟨S2x32x1024x1024, .f32⟩
  | .hbm, ⟨5, _⟩ => ⟨S2x32x1024, .f32⟩
  | .hbm, ⟨6, _⟩ => ⟨S288x1x256, .i32⟩
  | .hbm, ⟨7, _⟩ => ⟨S2x32x1x2048, .f32⟩
  | .hbm, ⟨8, _⟩ => ⟨S2x32x1x1024, .f32⟩
  | .hbm, ⟨9, _⟩ => ⟨S73728x1024, .f32⟩
  | .local _ .vmem, ⟨0, _⟩ => ⟨S1x1x1024x2048, .f32⟩
  | .local _ .vmem, ⟨1, _⟩ => ⟨S1x1x1024x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1024x2048, .bf16⟩
  | .local _ .vmem, ⟨12, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S1x1x256, .i32⟩
  | .local _ .smem, ⟨3, _⟩ => ⟨S1x1x256, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg2 : Ref sig .tc := ⟨.smem, 0, rfl⟩
abbrev main_arg3 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 2, rfl⟩
abbrev cc0_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_1 : BitVec 32 := 0#32
  let c256_i32 : BitVec 32 := 256#32
  let v7 : BitVec 32 := Scalar.addi c0_i32_1 c256_i32
  let c1_i32 : BitVec 32 := 1#32
  ⟨c0_i32_1, v7, c1_i32⟩
def k0_off2 (k0_t1 : Fin k0_t1_loop.trips) : Fin 3 → Nat :=
  let c0_36 : Index := 0#32
  let c0_37 : Index := 0#32
  let c0_i32_1 : BitVec 32 := 0#32
  let c1_i32 : BitVec 32 := 1#32
  let arg14 : BitVec 32 := Scf.iv c0_i32_1 c1_i32 k0_t1
  let v57 : Index := Scalar.indexCast arg14
  ![0, 0, v57.toNat]
def k0_off3 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c0_i32_38 : BitVec 32 := 0#32
  ![arg14.toNat, 0]
def k0_off4 (v58 : BitVec 32) : Fin 2 → Nat :=
  let c0_i32_39 : BitVec 32 := 0#32
  ![v58.toNat, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v58 : BitVec 32) : Prop :=
  (∀ (k0_h1 : k0_cond1 i v0 = 1#1), ∀ a, (k0_off4 v58) a + S1x1024.size a ≤ S16384x1024.size a)
theorem k0_off4_inb : ∀ (i : grid0.Coords) (v0 : BitVec 32) (v58 : BitVec 32) (k0_hw1 : k0_chk1 i v0 v58), ∀ (k0_h1 : k0_cond1 i v0 = 1#1), ∀ a, (k0_off4 v58) a + S1x1024.size a ≤ S16384x1024.size a := fun i v0 v58 k0_hw1 k0_h1 => k0_hw1 k0_h1

def k0_off5 (i : grid0.Coords) : Fin 1 → Nat :=
  let arg0 : BitVec 32 := BitVec.ofNat 32 (i 0).val
  let v9 : Index := Scalar.indexCast arg0
  ![v9.toNat]
def k0_off6 (i : grid0.Coords) : Fin 1 → Nat :=
  let arg0 : BitVec 32 := BitVec.ofNat 32 (i 0).val
  let c1_i32_4 : BitVec 32 := 1#32
  let v11 : BitVec 32 := Scalar.subi arg0 c1_i32_4
  let c0_i32_5 : BitVec 32 := 0#32
  let v12 : BitVec 32 := Scalar.maxsi v11 c0_i32_5
  let v13 : Index := Scalar.indexCast v12
  ![v13.toNat]
@[reducible] def k0_t2_loop : Scf.Loop 32 :=
  let c0_i32_7 : BitVec 32 := 0#32
  let c256_i32_8 : BitVec 32 := 256#32
  let v19 : BitVec 32 := Scalar.addi c0_i32_7 c256_i32_8
  let c1_i32_9 : BitVec 32 := 1#32
  ⟨c0_i32_7, v19, c1_i32_9⟩
def k0_off7 (k0_t2 : Fin k0_t2_loop.trips) : Fin 2 → Nat :=
  let c0_i32_7 : BitVec 32 := 0#32
  let c1_i32_9 : BitVec 32 := 1#32
  let arg14 : BitVec 32 := Scf.iv c0_i32_7 c1_i32_9 k0_t2
  let c0_i32_36 : BitVec 32 := 0#32
  ![arg14.toNat, 0]
def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeReferenceIdeal.lean ====
abbrev S16384x1024 : Shape := ⟨2, ![16384, 1024]⟩
abbrev S73728 : Shape := ⟨1, ![73728]⟩
abbrev S288 : Shape := ⟨1, ![288]⟩
abbrev S1 : Shape := ⟨1, ![1]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩
abbrev S73728x1 : Shape := ⟨2, ![73728, 1]⟩
abbrev S73728x1024 : Shape := ⟨2, ![73728, 1024]⟩
abbrev S288x256x1024 : Shape := ⟨3, ![288, 256, 1024]⟩
abbrev S1x32x1024x2048 : Shape := ⟨4, ![1, 32, 1024, 2048]⟩
abbrev S32x1024x2048 : Shape := ⟨3, ![32, 1024, 2048]⟩
abbrev S288x1 : Shape := ⟨2, ![288, 1]⟩
abbrev S288x1024x2048 : Shape := ⟨3, ![288, 1024, 2048]⟩
abbrev S288x256x2048 : Shape := ⟨3, ![288, 256, 2048]⟩
abbrev S1x32x2048 : Shape := ⟨3, ![1, 32, 2048]⟩
abbrev S32x2048 : Shape := ⟨2, ![32, 2048]⟩
abbrev S288x2048 : Shape := ⟨2, ![288, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1024 : Shape := ⟨3, ![1, 32, 1024]⟩
abbrev S32x1024 : Shape := ⟨2, ![32, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S73728, .i32⟩
  | .hbm, ⟨2, _⟩ => ⟨S288, .i32⟩
  | .hbm, ⟨3, _⟩ => ⟨S1, .i32⟩
  | .hbm, ⟨4, _⟩ => ⟨S2x32x1024x2048, .f32⟩
  | .hbm, ⟨5, _⟩ => ⟨S2x32x2048, .f32⟩
  | .hbm, ⟨6, _⟩ => ⟨S2x32x1024x1024, .f32⟩
  | .hbm, ⟨7, _⟩ => ⟨S2x32x1024, .f32⟩
  | .hbm, ⟨8, _⟩ => ⟨S_, .i32⟩
  | .hbm, ⟨9, _⟩ => ⟨S73728, .i32⟩
  | .hbm, ⟨10, _⟩ => ⟨S73728, .i1⟩
  | .hbm, ⟨11, _⟩ => ⟨S_, .i32⟩
  | .hbm, ⟨12, _⟩ => ⟨S73728, .i32⟩
  | .hbm, ⟨13, _⟩ => ⟨S73728, .i32⟩
  | .hbm, ⟨14, _⟩ => ⟨S73728, .i32⟩
  | .hbm, ⟨15, _⟩ => ⟨S73728x1, .i32⟩
  | .hbm, ⟨16, _⟩ => ⟨S73728x1024, .f32⟩
  | .hbm, ⟨17, _⟩ => ⟨S288x256x1024, .f32⟩
  | .hbm, ⟨18, _⟩ => ⟨S1x32x1024x2048, .f32⟩
  | .hbm, ⟨19, _⟩ => ⟨S32x1024x2048, .f32⟩
  | .hbm, ⟨20, _⟩ => ⟨S_, .i32⟩
  | .hbm, ⟨21, _⟩ => ⟨S288, .i32⟩
  | .hbm, ⟨22, _⟩ => ⟨S288, .i1⟩
  | .hbm, ⟨23, _⟩ => ⟨S_, .i32⟩
  | .hbm, ⟨24, _⟩ => ⟨S288, .i32⟩
  | .hbm, ⟨25, _⟩ => ⟨S288, .i32⟩
  | .hbm, ⟨26, _⟩ => ⟨S288, .i32⟩
  | .hbm, ⟨27, _⟩ => ⟨S288x1, .i32⟩
  | .hbm, ⟨28, _⟩ => ⟨S288x1024x2048, .f32⟩
  | .hbm, ⟨29, _⟩ => ⟨S288x256x2048, .f32⟩
  | .hbm, ⟨30, _⟩ => ⟨S1x32x2048, .f32⟩
  | .hbm, ⟨31, _⟩ => ⟨S32x2048, .f32⟩
  | .hbm, ⟨32, _⟩ => ⟨S_, .i32⟩
  | .hbm, ⟨33, _⟩ => ⟨S288, .i32⟩
  | .hbm, ⟨34, _⟩ => ⟨S288, .i1⟩
  | .hbm, ⟨35, _⟩ => ⟨S_, .i32⟩
  | .hbm, ⟨36, _⟩ => ⟨S288, .i32⟩
  | .hbm, ⟨37, _⟩ => ⟨S288, .i32⟩
  | .hbm, ⟨38, _⟩ => ⟨S288, .i32⟩
  | .hbm, ⟨39, _⟩ => ⟨S288x1, .i32⟩
  | .hbm, ⟨40, _⟩ => ⟨S288x2048, .f32⟩
  | .hbm, ⟨41, _⟩ => ⟨S288x1x2048, .f32⟩
  | .hbm, ⟨42, _⟩ => ⟨S288x256x2048, .f32⟩
  | .hbm, ⟨43, _⟩ => ⟨S288x256x2048, .f32⟩
  | .hbm, ⟨44, _⟩ => ⟨S288x256x1024, .f32⟩
  | .hbm, ⟨45, _⟩ => ⟨S_, .f32⟩
  | .hbm, ⟨46, _⟩ => ⟨S288x256x1024, .f32⟩
  | .hbm, ⟨47, _⟩ => ⟨S288x256x1024, .f32⟩
  | .hbm, ⟨48, _⟩ => ⟨S288x256x1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S288x256x1024, .f32⟩
  | .hbm, ⟨53, _⟩ => ⟨S288x256x1024, .f32⟩
  | .hbm, ⟨54, _⟩ => ⟨S_, .f32⟩
  | .hbm, ⟨55, _⟩ => ⟨S288x256x1024, .f32⟩
  | .hbm, ⟨56, _⟩ => ⟨S288x256x1024, .f32⟩
  | .hbm, ⟨57, _⟩ => ⟨S_, .f32⟩
  | .hbm, ⟨58, _⟩ => ⟨S288x256x1024, .f32⟩
  | .hbm, ⟨59, _⟩ => ⟨S288x256x1024, .f32⟩
  | .hbm, ⟨60, _⟩ => ⟨S288x256x1024, .f32⟩
  | .hbm, ⟨61, _⟩ => ⟨S288x256x1024, .f32⟩
  | .hbm, ⟨62, _⟩ => ⟨S_, .f32⟩
  | .hbm, ⟨63, _⟩ => ⟨S288x256x1024, .f32⟩
  | .hbm, ⟨64, _⟩ => ⟨S288x256x1024, .f32⟩
  | .hbm, ⟨65, _⟩ => ⟨S_, .f32⟩
  | .hbm, ⟨66, _⟩ => ⟨S288x256x1024, .f32⟩
  | .hbm, ⟨67, _⟩ => ⟨S288x256x1024, .f32⟩
  | .hbm, ⟨68, _⟩ => ⟨S288x256x1024, .f32⟩
  | .hbm, ⟨69, _⟩ => ⟨S_, .f32⟩
  | .hbm, ⟨70, _⟩ => ⟨S288x256x1024, .f32⟩
  | .hbm, ⟨71, _⟩ => ⟨S288x256x1024, .f32⟩
  | .hbm, ⟨72, _⟩ => ⟨S288x256x1024, .f32⟩
  | .hbm, ⟨73, _⟩ => ⟨S1x32x1024x1024, .f32⟩
  | .hbm, ⟨74, _⟩ => ⟨S32x1024x1024, .f32⟩
  | .hbm, ⟨75, _⟩ => ⟨S_, .i32⟩
  | .hbm, ⟨76, _⟩ => ⟨S288, .i32⟩
  | .hbm, ⟨77, _⟩ => ⟨S288, .i1⟩
  | .hbm, ⟨78, _⟩ => ⟨S_, .i32⟩
  | .hbm, ⟨79, _⟩ => ⟨S288, .i32⟩
  | .hbm, ⟨80, _⟩ => ⟨S288, .i32⟩
  | .hbm, ⟨81, _⟩ => ⟨S288, .i32⟩
  | .hbm, ⟨82, _⟩ => ⟨S288x1, .i32⟩
  | .hbm, ⟨83, _⟩ => ⟨S288x1024x1024, .f32⟩
  | .hbm, ⟨84, _⟩ => ⟨S288x256x1024, .f32⟩
  | .hbm, ⟨85, _⟩ => ⟨S1x32x1024, .f32⟩
  | .hbm, ⟨86, _⟩ => ⟨S32x1024, .f32⟩
  | .hbm, ⟨87, _⟩ => ⟨S_, .i32⟩
  | .hbm, ⟨88, _⟩ => ⟨S288, .i32⟩
  | .hbm, ⟨89, _⟩ => ⟨S288, .i1⟩
  | .hbm, ⟨90, _⟩ => ⟨S_, .i32⟩
  | .hbm, ⟨91, _⟩ => ⟨S288, .i32⟩
  | .hbm, ⟨92, _⟩ => ⟨S288, .i32⟩
  | .hbm, ⟨93, _⟩ => ⟨S288, .i32⟩
  | .hbm, ⟨94, _⟩ => ⟨S288x1, .i32⟩
  | .hbm, ⟨95, _⟩ => ⟨S288x1024, .f32⟩
  | .hbm, ⟨96, _⟩ => ⟨S288x1x1024, .f32⟩
  | .hbm, ⟨97, _⟩ => ⟨S288x256x1024, .f32⟩
  | .hbm, ⟨98, _⟩ => ⟨S288x256x1024, .f32⟩
  | .hbm, ⟨99, _⟩ => ⟨S288, .i32⟩
  | .hbm, ⟨100, _⟩ => ⟨S_, .i32⟩
  | .hbm, ⟨101, _⟩ => ⟨S288, .i32⟩
  | .hbm, ⟨102, _⟩ => ⟨S288, .i1⟩
  | .hbm, ⟨103, _⟩ => ⟨S288x1x1, .i1⟩
  | .hbm, ⟨104, _⟩ => ⟨S_, .f32⟩
  | .hbm, ⟨105, _⟩ => ⟨S_, .f32⟩
  | .hbm, ⟨106, _⟩ => ⟨S288x256x1024, .i1⟩
  | .hbm, ⟨107, _⟩ => ⟨S288x256x1024, .f32⟩
  | .hbm, ⟨108, _⟩ => ⟨S288x256x1024, .f32⟩
  | .hbm, ⟨109, _⟩ => ⟨S73728x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_cst_6 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_11 : Ref sig .tc := ⟨.hbm, 75, rfl⟩
abbrev main_v49 : Ref sig .tc := ⟨.hbm, 76, rfl⟩
abbrev main_v50 : Ref sig .tc := ⟨.hbm, 77, rfl⟩
abbrev main_c_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v74 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== SmpKernel.lean ====
abbrev S32x1024 : Shape := ⟨2, ![32, 1024]⟩
abbrev S1024x2688 : Shape := ⟨2, ![1024, 2688]⟩
abbrev S2x32x1024 : Shape := ⟨3, ![2, 32, 1024]⟩
abbrev S2x1024 : Shape := ⟨2, ![2, 1024]⟩
abbrev S256x2048 : Shape := ⟨2, ![256, 2048]⟩
abbrev S2048x256 : Shape := ⟨2, ![2048, 256]⟩
abbrev S256 : Shape := ⟨1, ![256]⟩
abbrev S256x256 : Shape := ⟨2, ![256, 256]⟩
abbrev S1x256 : Shape := ⟨2, ![1, 256]⟩
abbrev S32x384 : Shape := ⟨2, ![32, 384]⟩
abbrev S32x1280 : Shape := ⟨2, ![32, 1280]⟩
abbrev S32x256 : Shape := ⟨2, ![32, 256]⟩
abbrev S1024x256 : Shape := ⟨2, ![1024, 256]⟩
abbrev S1024x384 : Shape := ⟨2, ![1024, 384]⟩
abbrev S1024x1280 : Shape := ⟨2, ![1024, 1280]⟩
abbrev S32x2048 : Shape := ⟨2, ![32, 2048]⟩
abbrev S1x1024 : Shape := ⟨2, ![1, 1024]⟩
abbrev S1x32x1024 : Shape := ⟨3, ![1, 32, 1024]⟩

abbrev nBuf : Space → Nat
  | .hbm => 19
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S1024x2688, .f32⟩
  | .hbm, ⟨2, _⟩ => ⟨S2x32x1024, .f32⟩
  | .hbm, ⟨3, _⟩ => ⟨S2x1024, .f32⟩
  | .hbm, ⟨4, _⟩ => ⟨S256x2048, .bf16⟩
  | .hbm, ⟨5, _⟩ => ⟨S2048x256, .bf16⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1024x2688, .bf16⟩
  | .hbm, ⟨10, _⟩ => ⟨S1x256, .f32⟩
  | .hbm, ⟨11, _⟩ => ⟨S256x256, .bf16⟩
  | .hbm, ⟨12, _⟩ => ⟨S1x256, .f32⟩
  | .hbm, ⟨13, _⟩ => ⟨S32x384, .f32⟩
  | .hbm, ⟨14, _⟩ => ⟨S32x384, .f32⟩
  | .hbm, ⟨15, _⟩ => ⟨S32x384, .f32⟩
  | .hbm, ⟨16, _⟩ => ⟨S32x1280, .f32⟩
  | .hbm, ⟨17, _⟩ => ⟨S32x256, .f32⟩
  | .hbm, ⟨18, _⟩ => ⟨S2x32x1024, .f32⟩
  | .local _ .vmem, ⟨0, _⟩ => ⟨S32x1024, .f32⟩
  | .local _ .vmem, ⟨1, _⟩ => ⟨S1024x2688, .bf16⟩
  | .local _ .vmem, ⟨2, _⟩ => ⟨S2x32x1024, .f32⟩
  | .local _ .vmem, ⟨3, _⟩ => ⟨S2x1024, .f32⟩
  | .local _ .vmem, ⟨4, _⟩ => ⟨S256x2048, .bf16⟩
  | .local _ .vmem, ⟨5, _⟩ => ⟨S2048x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S32x384, .f32⟩
  | .local _ .vmem, ⟨10, _⟩ => ⟨S32x384, .f32⟩
  | .local _ .vmem, ⟨11, _⟩ => ⟨S32x384, .f32⟩
  | .local _ .vmem, ⟨12, _⟩ => ⟨S32x1280, .f32⟩
  | .local _ .vmem, ⟨13, _⟩ => ⟨S32x256, .f32⟩
  | .local _ .vmem, ⟨14, _⟩ => ⟨S2x32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== SmpReferenceIdeal.lean ====
abbrev S32x1024 : Shape := ⟨2, ![32, 1024]⟩
abbrev S1024x2688 : Shape := ⟨2, ![1024, 2688]⟩
abbrev S2x32x1024 : Shape := ⟨3, ![2, 32, 1024]⟩
abbrev S2x1024 : Shape := ⟨2, ![2, 1024]⟩
abbrev S256x2048 : Shape := ⟨2, ![256, 2048]⟩
abbrev S2048x256 : Shape := ⟨2, ![2048, 256]⟩
abbrev S256 : Shape := ⟨1, ![256]⟩
abbrev S256x256 : Shape := ⟨2, ![256, 256]⟩
abbrev S32x2688 : Shape := ⟨2, ![32, 2688]⟩
abbrev S32x256 : Shape := ⟨2, ![32, 256]⟩
abbrev S32x384 : Shape := ⟨2, ![32, 384]⟩
abbrev S32x1280 : Shape := ⟨2, ![32, 1280]⟩

abbrev nBuf : Space → Nat
  | .hbm => 15
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x2688, .f32⟩
  | .hbm, ⟨2, _⟩ => ⟨S2x32x1024, .f32⟩
  | .hbm, ⟨3, _⟩ => ⟨S2x1024, .f32⟩
  | .hbm, ⟨4, _⟩ => ⟨S256x2048, .bf16⟩
  | .hbm, ⟨5, _⟩ => ⟨S2048x256, .bf16⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S32x2688, .f32⟩
  | .hbm, ⟨10, _⟩ => ⟨S32x256, .f32⟩
  | .hbm, ⟨11, _⟩ => ⟨S32x384, .f32⟩
  | .hbm, ⟨12, _⟩ => ⟨S32x384, .f32⟩
  | .hbm, ⟨13, _⟩ => ⟨S32x384, .f32⟩
  | .hbm, ⟨14, _⟩ => ⟨S32x1280, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== OutKernel.lean ====
abbrev S16384x1024 : Shape := ⟨2, ![16384, 1024]⟩
abbrev S16384x256 : Shape := ⟨2, ![16384, 256]⟩
abbrev S16384x384 : Shape := ⟨2, ![16384, 384]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024 : Shape := ⟨2, ![1, 1024]⟩
abbrev S1x32 : Shape := ⟨2, ![1, 32]⟩
abbrev S16384x4 : Shape := ⟨2, ![16384, 4]⟩
abbrev S512x1024 : Shape := ⟨2, ![512, 1024]⟩
abbrev S512x256 : Shape := ⟨2, ![512, 256]⟩
abbrev S512x384 : Shape := ⟨2, ![512, 384]⟩
abbrev S512x4 : Shape := ⟨2, ![512, 4]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩
abbrev S512x32 : Shape := ⟨2, ![512, 32]⟩

abbrev nBuf : Space → Nat
  | .hbm => 17
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x32, .bf16⟩
  | .hbm, ⟨13, _⟩ => ⟨S1x32, .f32⟩
  | .hbm, ⟨14, _⟩ => ⟨S16384x1024, .f32⟩
  | .hbm, ⟨15, _⟩ => ⟨S16384x4, .i32⟩
  | .hbm, ⟨16, _⟩ => ⟨S16384x4, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x32, .bf16⟩
  | .local _ .vmem, ⟨12, _⟩ => ⟨S1x32, .f32⟩
  | .local _ .vmem, ⟨13, _⟩ => ⟨S512x1024, .f32⟩
  | .local _ .vmem, ⟨14, _⟩ => ⟨S512x1024, .f32⟩
  | .local _ .vmem, ⟨15, _⟩ => ⟨S512x4, .i32⟩
  | .local _ .vmem, ⟨16, _⟩ => ⟨S512x4, .i32⟩
  | .local _ .vmem, ⟨17, _⟩ => ⟨S512x4, .f32⟩
  | .local _ .vmem, ⟨18, _⟩ => ⟨S512x4, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutReferenceIdeal.lean ====
abbrev S16384x1024 : Shape := ⟨2, ![16384, 1024]⟩
abbrev S16384x256 : Shape := ⟨2, ![16384, 256]⟩
abbrev S16384x384 : Shape := ⟨2, ![16384, 384]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x32, .f32⟩
  | .hbm, ⟨8, _⟩ => ⟨S32, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== MixKernel.lean ====
abbrev S32x1024 : Shape := ⟨2, ![32, 1024]⟩
abbrev S32x4 : Shape := ⟨2, ![32, 4]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x1024 : Shape := ⟨2, ![2, 1024]⟩
abbrev S32x4x1 : Shape := ⟨3, ![32, 4, 1]⟩
abbrev S32 : Shape := ⟨1, ![32]⟩
abbrev S1x1x32 : Shape := ⟨3, ![1, 1, 32]⟩
abbrev S32x4x32 : Shape := ⟨3, ![32, 4, 32]⟩
abbrev S_ : Shape := ⟨0, ![]⟩
abbrev S32x32 : Shape := ⟨2, ![32, 32]⟩
abbrev S32x32x1 : Shape := ⟨3, ![32, 32, 1]⟩
abbrev S2x32x1x2048 : Shape := ⟨4, ![2, 32, 1, 2048]⟩
abbrev S2x32x1x1024 : Shape := ⟨4, ![2, 32, 1, 1024]⟩
abbrev S1x1024 : Shape := ⟨2, ![1, 1024]⟩
abbrev S1024 : Shape := ⟨1, ![1024]⟩
abbrev S1x32x1 : Shape := ⟨3, ![1, 32, 1]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S32x2048 : Shape := ⟨2, ![32, 2048]⟩
abbrev S1x2048 : Shape := ⟨2, ![1, 2048]⟩
abbrev S1024x1024 : Shape := ⟨2, ![1024, 1024]⟩
abbrev S32x1 : Shape := ⟨2, ![32, 1]⟩

abbrev nBuf : Space → Nat
  | .hbm => 34
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S32x4, .i32⟩
  | .hbm, ⟨2, _⟩ => ⟨S32x4, .f32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S2x1024, .f32⟩
  | .hbm, ⟨8, _⟩ => ⟨S2x1024, .f32⟩
  | .hbm, ⟨9, _⟩ => ⟨S32x4x1, .i32⟩
  | .hbm, ⟨10, _⟩ => ⟨S32, .i32⟩
  | .hbm, ⟨11, _⟩ => ⟨S1x1x32, .i32⟩
  | .hbm, ⟨12, _⟩ => ⟨S32x4x32, .i32⟩
  | .hbm, ⟨13, _⟩ => ⟨S32x4x32, .i32⟩
  | .hbm, ⟨14, _⟩ => ⟨S32x4x32, .i1⟩
  | .hbm, ⟨15, _⟩ => ⟨S32x4x1, .f32⟩
  | .hbm, ⟨16, _⟩ => ⟨S_, .f32⟩
  | .hbm, ⟨17, _⟩ => ⟨S_, .f32⟩
  | .hbm, ⟨18, _⟩ => ⟨S32x4x32, .f32⟩
  | .hbm, ⟨19, _⟩ => ⟨S32x4x32, .f32⟩
  | .hbm, ⟨20, _⟩ => ⟨S32x4x32, .f32⟩
  | .hbm, ⟨21, _⟩ => ⟨S_, .f32⟩
  | .hbm, ⟨22, _⟩ => ⟨S32x32, .f32⟩
  | .hbm, ⟨23, _⟩ => ⟨S32x32, .f32⟩
  | .hbm, ⟨24, _⟩ => ⟨S32x32x1, .f32⟩
  | .hbm, ⟨25, _⟩ => ⟨S2x32x1x2048, .f32⟩
  | .hbm, ⟨26, _⟩ => ⟨S2x32x1x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S32x1024, .f32⟩
  | .local _ .vmem, ⟨0, _⟩ => ⟨S32x1024, .f32⟩
  | .local _ .vmem, ⟨1, _⟩ => ⟨S1x32x1, .f32⟩
  | .local _ .vmem, ⟨2, _⟩ => ⟨S1x32x1, .f32⟩
  | .local _ .vmem, ⟨3, _⟩ => ⟨S1x1x1024x2048, .f32⟩
  | .local _ .vmem, ⟨4, _⟩ => ⟨S1x1x1024x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1024, .f32⟩
  | .local _ .vmem, ⟨12, _⟩ => ⟨S1x1024, .f32⟩
  | .local _ .vmem, ⟨13, _⟩ => ⟨S32x1024, .f32⟩
  | .local _ .vmem, ⟨14, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v52 : BitVec 1 := Scalar.cmpi .eq arg0 c31_i32
  let v53 : BitVec 32 := Scalar.extui v52
  let c0_i32_34 : BitVec 32 := 0#32
  let v54 : BitVec 1 := Scalar.cmpi .ne v53 c0_i32_34
  v54

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixReferenceIdeal.lean ====
abbrev S32x1024 : Shape := ⟨2, ![32, 1024]⟩
abbrev S32x4 : Shape := ⟨2, ![32, 4]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x1024 : Shape := ⟨2, ![2, 1024]⟩
abbrev S128 : Shape := ⟨1, ![128]⟩
abbrev S32x1x1024 : Shape := ⟨3, ![32, 1, 1024]⟩
abbrev S32x4x1024 : Shape := ⟨3, ![32, 4, 1024]⟩
abbrev S128x1024 : Shape := ⟨2, ![128, 1024]⟩
abbrev S1x32x1024x2048 : Shape := ⟨4, ![1, 32, 1024, 2048]⟩
abbrev S32x1024x2048 : Shape := ⟨3, ![32, 1024, 2048]⟩
abbrev S_ : Shape := ⟨0, ![]⟩
abbrev S128x1 : Shape := ⟨2, ![128, 1]⟩
abbrev S128x1024x2048 : Shape := ⟨3, ![128, 1024, 2048]⟩
abbrev S128x2048 : Shape := ⟨2, ![128, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S128x1024x1024 : Shape := ⟨3, ![128, 1024, 1024]⟩
abbrev S1x32x1024 : Shape := ⟨3, ![1, 32, 1024]⟩
abbrev S32x4x1 : Shape := ⟨3, ![32, 4, 1]⟩
abbrev S32 : Shape := ⟨1, ![32]⟩
abbrev S32x1 : Shape := ⟨2, ![32, 1]⟩
abbrev S1x1024 : Shape := ⟨2, ![1, 1024]⟩
abbrev S1024 : Shape := ⟨1, ![1024]⟩

abbrev nBuf : Space → Nat
  | .hbm => 133
  | .vmem => 0
  | .smem => 0
  | _ => 0

abbrev hbmTy0_0 (i : Nat) : BufTy := match i % 128 with
  | 0 => ⟨S32x1024, .f32⟩
  | 1 => ⟨S32x4, .i32⟩
  | 2 => ⟨S32x4, .f32⟩
  | 3 => ⟨S2x32x1024x2048, .f32⟩
  | 4 => ⟨S2x32x2048, .f32⟩
  | 5 => ⟨S2x32x1024x1024, .f32⟩
  | 6 => ⟨S2x32x1024, .f32⟩
  | 7 => ⟨S2x1024, .f32⟩
  | 8 => ⟨S2x1024, .f32⟩
  | 9 => ⟨S128, .i32⟩
  | 10 => ⟨S32x1x1024, .f32⟩
  | 11 => ⟨S32x4x1024, .f32⟩
  | 12 => ⟨S128x1024, .f32⟩
  | 13 => ⟨S1x32x1024x2048, .f32⟩
  | 14 => ⟨S32x1024x2048, .f32⟩
  | 15 => ⟨S_, .i32⟩
  | 16 => ⟨S128, .i32⟩
  | 17 => ⟨S128, .i1⟩
  | 18 => ⟨S_, .i32⟩
  | 19 => ⟨S128, .i32⟩
  | 20 => ⟨S128, .i32⟩
  | 21 => ⟨S128, .i32⟩
  | 22 => ⟨S128x1, .i32⟩
  | 23 => ⟨S128x1024x2048, .f32⟩
  | 24 => ⟨S128x2048, .f32⟩
  | 25 => ⟨S1x32x2048, .f32⟩
  | 26 => ⟨S32x2048, .f32⟩
  | 27 => ⟨S_, .i32⟩
  | 28 => ⟨S128, .i32⟩
  | 29 => ⟨S128, .i1⟩
  | 30 => ⟨S_, .i32⟩
  | 31 => ⟨S128, .i32⟩
  | 32 => ⟨S128, .i32⟩
  | 33 => ⟨S128, .i32⟩
  | 34 => ⟨S128x1, .i32⟩
  | 35 => ⟨S128x2048, .f32⟩
  | 36 => ⟨S128x2048, .f32⟩
  | 37 => ⟨S128x1024, .f32⟩
  | 38 => ⟨S_, .f32⟩
  | 39 => ⟨S128x1024, .f32⟩
  | 40 => ⟨S128x1024, .f32⟩
  | 41 => ⟨S128x1024, .f32⟩
  | 42 => ⟨S_, .f32⟩
  | 43 => ⟨S_, .f32⟩
  | 44 => ⟨S_, .f32⟩
  | 45 => ⟨S128x1024, .f32⟩
  | 46 => ⟨S128x1024, .f32⟩
  | 47 => ⟨S_, .f32⟩
  | 48 => ⟨S128x1024, .f32⟩
  | 49 => ⟨S128x1024, .f32⟩
  | 50 => ⟨S_, .f32⟩
  | 51 => ⟨S128x1024, .f32⟩
  | 52 => ⟨S128x1024, .f32⟩
  | 53 => ⟨S128x1024, .f32⟩
  | 54 => ⟨S128x1024, .f32⟩
  | 55 => ⟨S_, .f32⟩
  | 56 => ⟨S128x1024, .f32⟩
  | 57 => ⟨S128x1024, .f32⟩
  | 58 => ⟨S_, .f32⟩
  | 59 => ⟨S128x1024, .f32⟩
  | 60 => ⟨S128x1024, .f32⟩
  | 61 => ⟨S128x1024, .f32⟩
  | 62 => ⟨S_, .f32⟩
  | 63 => ⟨S128x1024, .f32⟩
  | 64 => ⟨S128x1024, .f32⟩
  | 65 => ⟨S128x1024, .f32⟩
  | 66 => ⟨S1x32x1024x1024, .f32⟩
  | 67 => ⟨S32x1024x1024, .f32⟩
  | 68 => ⟨S_, .i32⟩
  | 69 => ⟨S128, .i32⟩
  | 70 => ⟨S128, .i1⟩
  | 71 => ⟨S_, .i32⟩
  | 72 => ⟨S128, .i32⟩
  | 73 => ⟨S128, .i32⟩
  | 74 => ⟨S128, .i32⟩
  | 75 => ⟨S128x1, .i32⟩
  | 76 => ⟨S128x1024x1024, .f32⟩
  | 77 => ⟨S128x1024, .f32⟩
  | 78 => ⟨S1x32x1024, .f32⟩
  | 79 => ⟨S32x1024, .f32⟩
  | 80 => ⟨S_, .i32⟩
  | 81 => ⟨S128, .i32⟩
  | 82 => ⟨S128, .i1⟩
  | 83 => ⟨S_, .i32⟩
  | 84 => ⟨S128, .i32⟩
  | 85 => ⟨S128, .i32⟩
  | 86 => ⟨S128, .i32⟩
  | 87 => ⟨S128x1, .i32⟩
  | 88 => ⟨S128x1024, .f32⟩
  | 89 => ⟨S128x1024, .f32⟩
  | 90 => ⟨S32x4x1024, .f32⟩
  | 91 => ⟨S32x4x1, .f32⟩
  | 92 => ⟨S32x4x1024, .f32⟩
  | 93 => ⟨S32x4x1024, .f32⟩
  | 94 => ⟨S_, .f32⟩
  | 95 => ⟨S32x1024, .f32⟩
  | 96 => ⟨S_, .f32⟩
  | 97 => ⟨S32x1024, .f32⟩
  | 98 => ⟨S32x1024, .f32⟩
  | 99 => ⟨S32x1024, .f32⟩
  | 100 => ⟨S_, .f32⟩
  | 101 => ⟨S32, .f32⟩
  | 102 => ⟨S32x1, .f32⟩
  | 103 => ⟨S_, .f32⟩
  | 104 => ⟨S32x1, .f32⟩
  | 105 => ⟨S32x1, .f32⟩
  | 106 => ⟨S32x1024, .f32⟩
  | 107 => ⟨S32x1024, .f32⟩
  | 108 => ⟨S32x1024, .f32⟩
  | 109 => ⟨S_, .f32⟩
  | 110 => ⟨S32, .f32⟩
  | 111 => ⟨S32x1, .f32⟩
  | 112 => ⟨S_, .f32⟩
  | 113 => ⟨S32x1, .f32⟩
  | 114 => ⟨S32x1, .f32⟩
  | 115 => ⟨S32x1024, .f32⟩
  | 116 => ⟨S32x1024, .f32⟩
  | 117 => ⟨S_, .f32⟩
  | 118 => ⟨S32x1, .f32⟩
  | 119 => ⟨S32x1, .f32⟩
  | 120 => ⟨S32x1, .f32⟩
  | 121 => ⟨S32x1024, .f32⟩
  | 122 => ⟨S32x1024, .f32⟩
  | 123 => ⟨S1x1024, .f32⟩
  | 124 => ⟨S1024, .f32⟩
  | 125 => ⟨S1x1024, .f32⟩
  | 126 => ⟨S32x1024, .f32⟩
  | 127 => ⟨S32x1024, .f32⟩
  | _ => ⟨S32x1024, .f32⟩

abbrev hbmTy0_1 (i : Nat) : BufTy := match i % 128 with
  | 0 => ⟨S1x1024, .f32⟩
  | 1 => ⟨S1024, .f32⟩
  | 2 => ⟨S1x1024, .f32⟩
  | 3 => ⟨S32x1024, .f32⟩
  | 4 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_17 : Ref sig .tc := ⟨.hbm, 109, rfl⟩
abbrev main_v76 : Ref sig .tc := ⟨.hbm, 110, rfl⟩
abbrev main_v77 : Ref sig .tc := ⟨.hbm, 111, rfl⟩
abbrev main_cst_18 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]
-- ==== CmbKernel.lean ====
abbrev S65536 : Shape := ⟨1, ![65536]⟩
abbrev S16384x4 : Shape := ⟨2, ![16384, 4]⟩
abbrev S16384x1024 : Shape := ⟨2, ![16384, 1024]⟩
abbrev S73728x1024 : Shape := ⟨2, ![73728, 1024]⟩
abbrev S1024 : Shape := ⟨1, ![1024]⟩
abbrev S128x128x4 : Shape := ⟨3, ![128, 128, 4]⟩
abbrev S128x4x128 : Shape := ⟨3, ![128, 4, 128]⟩
abbrev S128x1x512 : Shape := ⟨3, ![128, 1, 512]⟩
abbrev S1x1024 : Shape := ⟨2, ![1, 1024]⟩
abbrev S1x1x512 : Shape := ⟨3, ![1, 1, 512]⟩
abbrev S128x4 : Shape := ⟨2, ![128, 4]⟩
abbrev S128x1024 : Shape := ⟨2, ![128, 1024]⟩
abbrev S512x1024 : Shape := ⟨2, ![512, 1024]⟩
abbrev S_ : Shape := ⟨0, ![]⟩
abbrev S1x1x1 : Shape := ⟨3, ![1, 1, 1]⟩
abbrev S128x1 : Shape := ⟨2, ![128, 1]⟩
abbrev S128 : Shape := ⟨1, ![128]⟩

abbrev nBuf : Space → Nat
  | .hbm => 12
  | .vmem => 9
  | .smem => 2
  | _ => 0

abbrev bufTy : (tb : Table) → Fin (tcTables nBuf tb) → BufTy
  | .hbm, ⟨0, _⟩ => ⟨S65536, .i32⟩
  | .hbm, ⟨1, _⟩ => ⟨S16384x4, .f32⟩
  | .hbm, ⟨2, _⟩ => ⟨S16384x1024, .f32⟩
  | .hbm, ⟨3, _⟩ => ⟨S73728x1024, .f32⟩
  | .hbm, ⟨4, _⟩ => ⟨S1024, .f32⟩
  | .hbm, ⟨5, _⟩ => ⟨S1024, .f32⟩
  | .hbm, ⟨6, _⟩ => ⟨S128x128x4, .i32⟩
  | .hbm, ⟨7, _⟩ => ⟨S128x4x128, .i32⟩
  | .hbm, ⟨8, _⟩ => ⟨S128x1x512, .i32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S128x4, .f32⟩
  | .local _ .vmem, ⟨1, _⟩ => ⟨S128x4, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | .local _ .vmem, ⟨8, _⟩ => ⟨S512x1024, .f32⟩
  | .local _ .smem, ⟨0, _⟩ => ⟨S1x1x512, .i32⟩
  | .local _ .smem, ⟨1, _⟩ => ⟨S1x1x512, .i32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 3 → Nat :=
  let c0_25 : Index := 0#32
  let c0_26 : Index := 0#32
  let c0_i32 : BitVec 32 := 0#32
  let c1_i32 : BitVec 32 := 1#32
  let arg10 : BitVec 32 := Scf.iv c0_i32 c1_i32 k0_t1
  let v53 : Index := Scalar.indexCast arg10
  ![0, 0, v53.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c0_i32_27 : BitVec 32 := 0#32
  ![arg10.toNat, 0]
def k0_off3 (v54 : BitVec 32) : Fin 2 → Nat :=
  let c0_i32_28 : BitVec 32 := 0#32
  ![v54.toNat, 0]

def k0_chk1 (v54 : BitVec 32) : Prop :=
  (∀ a, (k0_off3 v54) a + S1x1024.size a ≤ S73728x1024.size a)
theorem k0_off3_inb : ∀ (v54 : BitVec 32) (k0_hw1 : k0_chk1 v54), ∀ a, (k0_off3 v54) a + S1x1024.size a ≤ S73728x1024.size a := fun v54 k0_hw1 => k0_hw1

@[reducible] def k0_t2_loop : Scf.Loop 32 :=
  let c0_i32_1 : BitVec 32 := 0#32
  let c512_i32_2 : BitVec 32 := 512#32
  let v1 : BitVec 32 := Scalar.addi c0_i32_1 c512_i32_2
  let c1_i32_3 : BitVec 32 := 1#32
  ⟨c0_i32_1, v1, c1_i32_3⟩
def k0_off4 (k0_t2 : Fin k0_t2_loop.trips) : Fin 2 → Nat :=
  let c0_i32_1 : BitVec 32 := 0#32
  let c1_i32_3 : BitVec 32 := 1#32
  let arg10 : BitVec 32 := Scf.iv c0_i32_1 c1_i32_3 k0_t2
  let c0_i32_25 : BitVec 32 := 0#32
  ![arg10.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CmbReferenceIdeal.lean ====
abbrev S65536 : Shape := ⟨1, ![65536]⟩
abbrev S16384x4 : Shape := ⟨2, ![16384, 4]⟩
abbrev S16384x1024 : Shape := ⟨2, ![16384, 1024]⟩
abbrev S73728x1024 : Shape := ⟨2, ![73728, 1024]⟩
abbrev S1024 : Shape := ⟨1, ![1024]⟩
abbrev S_ : Shape := ⟨0, ![]⟩
abbrev S65536x1 : Shape := ⟨2, ![65536, 1]⟩
abbrev S65536x1024 : Shape := ⟨2, ![65536, 1024]⟩
abbrev S16384x4x1024 : Shape := ⟨3, ![16384, 4, 1024]⟩
abbrev S16384x4x1 : Shape := ⟨3, ![16384, 4, 1]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S65536, .i32⟩
  | .hbm, ⟨1, _⟩ => ⟨S16384x4, .f32⟩
  | .hbm, ⟨2, _⟩ => ⟨S16384x1024, .f32⟩
  | .hbm, ⟨3, _⟩ => ⟨S73728x1024, .f32⟩
  | .hbm, ⟨4, _⟩ => ⟨S1024, .f32⟩
  | .hbm, ⟨5, _⟩ => ⟨S1024, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536x1024, .f32⟩
  | .hbm, ⟨15, _⟩ => ⟨S16384x4x1024, .f32⟩
  | .hbm, ⟨16, _⟩ => ⟨S16384x4x1, .f32⟩
  | .hbm, ⟨17, _⟩ => ⟨S16384x4x1024, .f32⟩
  | .hbm, ⟨18, _⟩ => ⟨S16384x4x1024, .f32⟩
  | .hbm, ⟨19, _⟩ => ⟨S_, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Proof.Proj.lean ====
/- The combined input projection: the five result arrays of the call are the column ranges of `x @ w_in`. -/
module

public import proofs.«01_k».proof.Proof.Gen.ProjKernelIdeal.Value
public import proofs.«01_k».proof.Proof.Gen.ProjReferenceIdeal.Read
public import Idealize.ShloMosaic.Lib.Pipeline.ValueKit
public import Idealize.ShloMosaic.Lib.MatmulPlain

@[expose] public section

set_option maxRecDepth 16384

noncomputable section

namespace Cert.ProjValue

open Cert.ProjKernelIdeal Cert.ProjKernelIdeal.Gen Idealize.ShloMosaic
open Idealize.ShloMosaic.TcCoe Idealize.SL.Sem

variable (m : (ℓ : Loc nD τ sig) → Buf (Elt Ideal) ℓ)

/-- The region finds the weights as launched: the host's cast is the identity on extended reals. -/
theorem weights (c : Dev nD) (i : S1024x2688.Idx) :
    V m c main_v0 i = m ((c : Thread nD τ).loc main_arg1) i := by
  have h : V m c main_v0 = (truncf (F := Ideal) (s := S1024x2688) (φ := .f32) FTy.bf16 (m ((c : Thread nD τ).loc main_arg1)) bitsLt_bf16_f32 : FVec Ideal S1024x2688 .bf16) := by
    unfold V; after_results
  rw [h]; rfl

/-- The row block moves with the output's; the weights' block is the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem pay2 (x : Vec Ideal S512x1024 .f32) (w : Vec Ideal S1024x256 .bf16) (r : Fin 512) (j : Fin 256) :
    k0_pay2 x w (ValueIdx.ix2 r j) = ∑ k : Fin 1024, x (ValueIdx.ix2 r k) * w (ValueIdx.ix2 k j) := by
  unfold k0_pay2 k0_pay1
  dsimp only
  rw [shapeCast_self]
  refine (Ideal.matmul_plain_apply none _ _ _ r j).trans ?_
  rw [show (constant S512x256 .f32 0x00000000#32 : FVec Ideal S512x256 .f32) (ValueIdx.ix2 r j) = 0 from Ideal.ofBits_zero_f32, zero_add]
  rfl

/-- Columns 0..256 of the product. -/
theorem out2 (c : Dev nD) : (dats m 0 c).arrAt 2 cfg0.N
    = Cert.ProjReferenceIdeal.Read.val_main_v1 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, f0, f1⟩ := idx0 t
  obtain ⟨g0, g1⟩ := idx2 t
  obtain ⟨r, j, rfl⟩ : ∃ (r : Fin 512) (j : Fin 256), y = ValueIdx.ix2 r j := ⟨y 0, y 1, ValueIdx.eq_ix2 y⟩
  refine (pay2 _ _ r j).trans ?_
  rw [Cert.ProjReferenceIdeal.Read.val_main_v1_apply, Cert.ProjReferenceIdeal.Read.val_main_v0_apply]
  refine Finset.sum_congr rfl fun k _ => ?_
  have q0 : (((cfg0.win 2).blk t).view.emb (ValueIdx.ix2 r j) (0 : Fin 2) : ℕ) = t.val * 512 + r.val := by
    blk_simp [g0]
  have q1 : (((cfg0.win 2).blk t).view.emb (ValueIdx.ix2 r j) (1 : Fin 2) : ℕ) = j.val := by
    blk_simp [g1]
  congr 1
  · rw [iblk, View.read_apply]
    show V m c main_arg0 _ = _
    rw [V_main_arg0]
    refine congrArg (m ((c : Thread nD τ).loc main_arg0)) (funext fun a => Fin.ext ?_)
    match a with
    | ⟨0, _⟩ => refine Eq.trans ?_ q0.symm; blk_simp [e0]
    | ⟨1, _⟩ => blk_simp [e1]
  · rw [View.ld_apply, iblk, View.read_apply]
    refine (weights m c _).trans (congrArg (m ((c : Thread nD τ).loc main_arg1)) (funext fun a => Fin.ext ?_))
    match a with
    | ⟨0, _⟩ =>
      blk_simp [f0]
      show 0 + 1 * k.val = k.val
      omega
    | ⟨1, _⟩ =>
      refine Eq.trans ?_ q1.symm
      blk_simp [f1]
      show 0 + 1 * j.val = _
      omega

theorem idx3 : ∀ t : Fin cfg0.N, win0_3.index t (0 : Fin 2) = t.val ∧ win0_3.index t (1 : Fin 2) = 0 :=
  (by decide +kernel : ∀ t : Fin grid0.N, _)

theorem pay3 (x : Vec Ideal S512x1024 .f32) (w : Vec Ideal S1024x384 .bf16) (r : Fin 512) (j : Fin 384) :
    k0_pay3 x w (ValueIdx.ix2 r j) = ∑ k : Fin 1024, x (ValueIdx.ix2 r k) * w (ValueIdx.ix2 k j) := by
  unfold k0_pay3 k0_pay1
  dsimp only
  rw [shapeCast_self]
  refine (Ideal.matmul_plain_apply none _ _ _ r j).trans ?_
  rw [show (constant S512x384 .f32 0x00000000#32 : FVec Ideal S512x384 .f32) (ValueIdx.ix2 r j) = 0 from Ideal.ofBits_zero_f32, zero_add]
  rfl

/-- Columns 256..640 of the product. -/
theorem out3 (c : Dev nD) : (dats m 0 c).arrAt 3 cfg0.N
    = Cert.ProjReferenceIdeal.Read.val_main_v2 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  obtain ⟨e0, e1, f0, f1⟩ := idx0 t
  obtain ⟨g0, g1⟩ := idx3 t
  obtain ⟨r, j, rfl⟩ : ∃ (r : Fin 512) (j : Fin 384), y = ValueIdx.ix2 r j := ⟨y 0, y 1, ValueIdx.eq_ix2 y⟩
  refine (pay3 _ _ r j).trans ?_
  rw [Cert.ProjReferenceIdeal.Read.val_main_v2_apply, Cert.ProjReferenceIdeal.Read.val_main_v0_apply]
  refine Finset.sum_congr rfl fun k _ => ?_
  have q0 : (((cfg0.win 3).blk t).view.emb (ValueIdx.ix2 r j) (0 : Fin 2) : ℕ) = t.val * 512 + r.val := by
    blk_simp [g0]
  have q1 : (((cfg0.win 3).blk t).view.emb (ValueIdx.ix2 r j) (1 : Fin 2) : ℕ) = j.val := by
    blk_simp [g1]
  congr 1
  · rw [iblk, View.read_apply]
    show V m c main_arg0 _ = _
    rw [V_main_arg0]
    refine congrArg (m ((c : Thread nD τ).loc main_arg0)) (funext fun a => Fin.ext ?_)
    match a with
    | ⟨0, _⟩ => refine Eq.trans ?_ q0.symm; blk_simp [e0]
    | ⟨1, _⟩ => blk_simp [e1]
  · rw [View.ld_apply, iblk, View.read_apply]
    refine (weights m c _).trans (congrArg (m ((c : Thread nD τ).loc main_arg1)) (funext fun a => Fin.ext ?_))
    match a with
    | ⟨0, _⟩ =>
      blk_simp [f0]
      show 0 + 1 * k.val = k.val
      omega
    | ⟨1, _⟩ =>
      refine Eq.trans ?_ (congrArg (256 + ·) q1).symm
      blk_simp [f1]
      show 256 + 1 * j.val = _
      omega

theorem idx4 : ∀ t : Fin cfg0.N, win0_4.index t (0 : Fin 2) = t.val ∧ win0_4.index t (1 : Fin 2) = 0 :=
  (by decide +kernel : ∀ t : Fin grid0.N, _)

theorem pay4 (x : Vec Ideal S512x1024 .f32) (w : Vec Ideal S1024x384 .bf16) (r : Fin 512) (j : Fin 384) :
    k0_pay4 x w (ValueIdx.ix2 r j) = ∑ k : Fin 1024, x (ValueIdx.ix2 r k) * w (ValueIdx.ix2 k j) := by
  unfold k0_pay4 k0_pay1
  dsimp only
  rw [shapeCast_self]
  refine (Ideal.matmul_plain_apply none _ _ _ r j).trans ?_
  rw [show (constant S512x384 .f32 0x00000000#32 : FVec Ideal S512x384 .f32) (ValueIdx.ix2 r j) = 0 from Ideal.ofBits_zero_f32, zero_add]
  rfl

/-- Columns 640..1024 of the product. -/
theorem out4 (c : Dev nD) : (dats m 0 c).arrAt 4 cfg0.N
    = Cert.ProjReferenceIdeal.Read.val_main_v3 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  obtain ⟨e0, e1, f0, f1⟩ := idx0 t
  obtain ⟨g0, g1⟩ := idx4 t
  obtain ⟨r, j, rfl⟩ : ∃ (r : Fin 512) (j : Fin 384), y = ValueIdx.ix2 r j := ⟨y 0, y 1, ValueIdx.eq_ix2 y⟩
  refine (pay4 _ _ r j).trans ?_
  rw [Cert.ProjReferenceIdeal.Read.val_main_v3_apply, Cert.ProjReferenceIdeal.Read.val_main_v0_apply]
  refine Finset.sum_congr rfl fun k _ => ?_
  have q0 : (((cfg0.win 4).blk t).view.emb (ValueIdx.ix2 r j) (0 : Fin 2) : ℕ) = t.val * 512 + r.val := by
    blk_simp [g0]
  have q1 : (((cfg0.win 4).blk t).view.emb (ValueIdx.ix2 r j) (1 : Fin 2) : ℕ) = j.val := by
    blk_simp [g1]
  congr 1
  · rw [iblk, View.read_apply]
    show V m c main_arg0 _ = _
    rw [V_main_arg0]
    refine congrArg (m ((c : Thread nD τ).loc main_arg0)) (funext fun a => Fin.ext ?_)
    match a with
    | ⟨0, _⟩ => refine Eq.trans ?_ q0.symm; blk_simp [e0]
    | ⟨1, _⟩ => blk_simp [e1]
  · rw [View.ld_apply, iblk, View.read_apply]
    refine (weights m c _).trans (congrArg (m ((c : Thread nD τ).loc main_arg1)) (funext fun a => Fin.ext ?_))
    match a with
    | ⟨0, _⟩ =>
      blk_simp [f0]
      show 0 + 1 * k.val = k.val
      omega
    | ⟨1, _⟩ =>
      refine Eq.trans ?_ (congrArg (640 + ·) q1).symm
      blk_simp [f1]
      show 640 + 1 * j.val = _
      omega

theorem idx5 : ∀ t : Fin cfg0.N, win0_5.index t (0 : Fin 2) = t.val ∧ win0_5.index t (1 : Fin 2) = 0 :=
  (by decide +kernel : ∀ t : Fin grid0.N, _)

theorem pay5 (x : Vec Ideal S512x1024 .f32) (w : Vec Ideal S1024x384 .bf16) (r : Fin 512) (j : Fin 384) :
    k0_pay5 x w (ValueIdx.ix2 r j) = ∑ k : Fin 1024, x (ValueIdx.ix2 r k) * w (ValueIdx.ix2 k j) := by
  unfold k0_pay5 k0_pay1
  dsimp only
  rw [shapeCast_self]
  refine (Ideal.matmul_plain_apply none _ _ _ r j).trans ?_
  rw [show (constant S512x384 .f32 0x00000000#32 : FVec Ideal S512x384 .f32) (ValueIdx.ix2 r j) = 0 from Ideal.ofBits_zero_f32, zero_add]
  rfl

/-- Columns 1024..1408 of the product. -/
theorem out5 (c : Dev nD) : (dats m 0 c).arrAt 5 cfg0.N
    = Cert.ProjReferenceIdeal.Read.val_main_v4 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨e0, e1, f0, f1⟩ := idx0 t
  obtain ⟨g0, g1⟩ := idx5 t
  obtain ⟨r, j, rfl⟩ : ∃ (r : Fin 512) (j : Fin 384), y = ValueIdx.ix2 r j := ⟨y 0, y 1, ValueIdx.eq_ix2 y⟩
  refine (pay5 _ _ r j).trans ?_
  rw [Cert.ProjReferenceIdeal.Read.val_main_v4_apply, Cert.ProjReferenceIdeal.Read.val_main_v0_apply]
  refine Finset.sum_congr rfl fun k _ => ?_
  have q0 : (((cfg0.win 5).blk t).view.emb (ValueIdx.ix2 r j) (0 : Fin 2) : ℕ) = t.val * 512 + r.val := by
    blk_simp [g0]
  have q1 : (((cfg0.win 5).blk t).view.emb (ValueIdx.ix2 r j) (1 : Fin 2) : ℕ) = j.val := by
    blk_simp [g1]
  congr 1
  · rw [iblk, View.read_apply]
    show V m c main_arg0 _ = _
    rw [V_main_arg0]
    refine congrArg (m ((c : Thread nD τ).loc main_arg0)) (funext fun a => Fin.ext ?_)
    match a with
    | ⟨0, _⟩ => refine Eq.trans ?_ q0.symm; blk_simp [e0]
    | ⟨1, _⟩ => blk_simp [e1]
  · rw [View.ld_apply, iblk, View.read_apply]
    refine (weights m c _).trans (congrArg (m ((c : Thread nD τ).loc main_arg1)) (funext fun a => Fin.ext ?_))
    match a with
    | ⟨0, _⟩ =>
      blk_simp [f0]
      show 0 + 1 * k.val = k.val
      omega
    | ⟨1, _⟩ =>
      refine Eq.trans ?_ (congrArg (1024 + ·) q1).symm
      blk_simp [f1]
      show 1024 + 1 * j.val = _
      omega

theorem idx6 : ∀ t : Fin cfg0.N, win0_6.index t (0 : Fin 2) = t.val ∧ win0_6.index t (1 : Fin 2) = 0 :=
  (by decide +kernel : ∀ t : Fin grid0.N, _)

theorem pay6 (x : Vec Ideal S512x1024 .f32) (w : Vec Ideal S1024x1280 .bf16) (r : Fin 512) (j : Fin 1280) :
    k0_pay6 x w (ValueIdx.ix2 r j) = ∑ k : Fin 1024, x (ValueIdx.ix2 r k) * w (ValueIdx.ix2 k j) := by
  unfold k0_pay6 k0_pay1
  dsimp only
  rw [shapeCast_self]
  refine (Ideal.matmul_plain_apply none _ _ _ r j).trans ?_
  rw [show (constant S512x1280 .f32 0x00000000#32 : FVec Ideal S512x1280 .f32) (ValueIdx.ix2 r j) = 0 from Ideal.ofBits_zero_f32, zero_add]
  rfl

/-- Columns 1408..2688 of the product. -/
theorem out6 (c : Dev nD) : (dats m 0 c).arrAt 6 cfg0.N
    = Cert.ProjReferenceIdeal.Read.val_main_v5 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  frame_out
  obtain ⟨e0, e1, f0, f1⟩ := idx0 t
  obtain ⟨g0, g1⟩ := idx6 t
  obtain ⟨r, j, rfl⟩ : ∃ (r : Fin 512) (j : Fin 1280), y = ValueIdx.ix2 r j := ⟨y 0, y 1, ValueIdx.eq_ix2 y⟩
  refine (pay6 _ _ r j).trans ?_
  rw [Cert.ProjReferenceIdeal.Read.val_main_v5_apply, Cert.ProjReferenceIdeal.Read.val_main_v0_apply]
  refine Finset.sum_congr rfl fun k _ => ?_
  have q0 : (((cfg0.win 6).blk t).view.emb (ValueIdx.ix2 r j) (0 : Fin 2) : ℕ) = t.val * 512 + r.val := by
    blk_simp [g0]
  have q1 : (((cfg0.win 6).blk t).view.emb (ValueIdx.ix2 r j) (1 : Fin 2) : ℕ) = j.val := by
    blk_simp [g1]
  congr 1
  · rw [iblk, View.read_apply]
    show V m c main_arg0 _ = _
    rw [V_main_arg0]
    refine congrArg (m ((c : Thread nD τ).loc main_arg0)) (funext fun a => Fin.ext ?_)
    match a with
    | ⟨0, _⟩ => refine Eq.trans ?_ q0.symm; blk_simp [e0]
    | ⟨1, _⟩ => blk_simp [e1]
  · rw [View.ld_apply, iblk, View.read_apply]
    refine (weights m c _).trans (congrArg (m ((c : Thread nD τ).loc main_arg1)) (funext fun a => Fin.ext ?_))
    match a with
    | ⟨0, _⟩ =>
      blk_simp [f0]
      show 0 + 1 * k.val = k.val
      omega
    | ⟨1, _⟩ =>
      refine Eq.trans ?_ (congrArg (1408 + ·) q1).symm
      blk_simp [f1]
      show 1408 + 1 * j.val = _
      omega

end Cert.ProjValue
end
-- ==== Proof.Smp.lean ====
/- The sample batch's projection: the call's q, keys, values and shift row are column ranges of `x @ w_in`. The call has
   one grid point, whose blocks are the whole arrays. -/
module

public import proofs.«01_k».proof.Proof.Gen.SmpKernelIdeal.Value
public import proofs.«01_k».proof.Proof.Gen.SmpReferenceIdeal.Read
public import Idealize.ShloMosaic.Lib.Pipeline.ValueKit
public import Idealize.ShloMosaic.Lib.MatmulPlain

@[expose] public section

set_option maxRecDepth 16384

noncomputable section

namespace Cert.SmpValue

open Cert.SmpKernelIdeal Cert.SmpKernelIdeal.Gen Idealize.ShloMosaic
open Idealize.ShloMosaic.TcCoe Idealize.SL.Sem

variable (m : (ℓ : Loc nD τ sig) → Buf (Elt Ideal) ℓ)

/-- The region finds the weights as launched: the host's cast is the identity on extended reals. -/
theorem weights (c : Dev nD) (i : S1024x2688.Idx) :
    V m c main_v0 i = m ((c : Thread nD τ).loc main_arg1) i := by
  have h : V m c main_v0 = (truncf (F := Ideal) (s := S1024x2688) (φ := .f32) FTy.bf16 (m ((c : Thread nD τ).loc main_arg1)) bitsLt_bf16_f32 : FVec Ideal S1024x2688 .bf16) := by
    unfold V; after_results
  rw [h]; rfl

/-- Both input blocks are the whole arrays. -/
theorem idx0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem pay4 (x : Vec Ideal S32x1024 .f32) (w : Vec Ideal S1024x384 .bf16) (r : Fin 32) (j : Fin 384) :
    k0_pay4 x w (ValueIdx.ix2 r j) = ∑ k : Fin 1024, x (ValueIdx.ix2 r k) * w (ValueIdx.ix2 k j) := by
  unfold k0_pay4 k0_pay2
  dsimp only
  rw [shapeCast_self]
  refine (Ideal.matmul_plain_apply none _ _ _ r j).trans ?_
  rw [show (constant S32x384 .f32 0x00000000#32 : FVec Ideal S32x384 .f32) (ValueIdx.ix2 r j) = 0 from Ideal.ofBits_zero_f32, zero_add]
  rfl

/-- Columns 256..640 of the product. -/
theorem out9 (c : Dev nD) : (dats m 0 c).arrAt 9 cfg0.N
    = Cert.SmpReferenceIdeal.Read.val_main_v2 (F := Ideal) (m ((c : Thread nD τ).loc main_arg0)) (m ((c : Thread nD τ).loc main_arg1)) := by
  refine (dats m 0 c).arrAt_eq_of_covers 9 _ (by decide +kernel) fun t hf y => ?_
  blk_simp
  rw [after0_9]
  frame_out
  obtain ⟨e0, e1, f0, f1⟩ := idx0 t
  obtain ⟨g0, g1⟩ := idx9 t
  obtain ⟨r, j, rfl⟩ : ∃ (r : Fin 32) (j : Fin 384), y = ValueIdx.ix2 r j := ⟨y 0, y 1, ValueIdx.eq_ix2 y⟩
  refine (pay4 _ _ r j).trans ?_
  rw [Cert.SmpReferenceIdeal.Read.val_main_v2_apply, Cert.SmpReferenceIdeal.Read.val_main_v0_apply]
  refine Finset.sum_congr rfl fun k _ => ?_
  have q0 : (((cfg0.win 9).blk t).view.emb (ValueIdx.ix2 r j) (0 : Fin 2) : ℕ) = r.val := by
    blk_simp [g0]
  have q1 : (((cfg0.win 9).blk t).view.emb (ValueIdx.ix2 r j) (1 : Fin 2) : ℕ) = j.val := by
    blk_simp [g1]
  congr 1
  · rw [iblk, View.read_apply]
    show V m c main_arg0 _ = _
    rw [V_main_arg0]
    refine congrArg (m ((c : Thread nD τ).loc main_arg0)) (funext fun a => Fin.ext ?_)
    match a with
    | ⟨0, _⟩ => refine Eq.trans ?_ q0.symm; blk_simp [e0]
    | ⟨1, _⟩ => blk_simp [e1]
  · rw [View.ld_apply, iblk, View.read_apply]
    refine (weights m c _).trans (congrArg (m ((c : Thread nD τ).loc main_arg1)) (funext fun a => Fin.ext ?_))
    match a with
    | ⟨0, _⟩ =>
      blk_simp [f0]
      show 0 + 1 * k.val = k.val
      omega
    | ⟨1, _⟩ =>
      refine Eq.trans ?_ (congrArg (256 + ·) q1).symm
      blk_simp [f1]
      show 256 + 1 * j.val = _
      omega

theorem idx10 : ∀ t : Fin cfg0.N, win0_10.index t (0 : Fin 2) = 0 ∧ win0_10.index t (1 : Fin 2) = 0 :=
  (by decide +kernel : ∀ t : Fin grid0.N, _)

theorem pay5 (x : Vec Ideal S32x1024 .f32) (w : Vec Ideal S1024x384 .bf16) (r : Fin 32) (j : Fin 384) :
    k0_pay5 x w (ValueIdx.ix2 r j) = ∑ k : Fin 1024, x (ValueIdx.ix2 r k) * w (ValueIdx.ix2 k j) := by
  unfold k0_pay5 k0_pay2
  dsimp only
  rw [shapeCast_self]
  refine (Ideal.matmul_plain_apply none _ _ _ r j).trans ?_
  rw [show (constant S32x384 .f32 0x00000000#32 : FVec Ideal S32x384 .f32) (ValueIdx.ix2 r j) = 0 from Ideal.ofBits_zero_f32, zero_add]
  rfl

/-- Columns 640..1024 of the product. -/
theorem out10 (c : Dev nD) : (dats m 0 c).arrAt 10 cfg0.N
    = Cert.SmpReferenceIdeal.Read.val_main_v3 (F := Ideal) (m ((c : Thread nD τ).loc main_arg0)) (m ((c : Thread nD τ).loc main_arg1)) := by
  refine (dats m 0 c).arrAt_eq_of_covers 10 _ (by decide +kernel) fun t hf y => ?_
  blk_simp
  rw [after0_10]
  frame_out
  obtain ⟨e0, e1, f0, f1⟩ := idx0 t
  obtain ⟨g0, g1⟩ := idx10 t
  obtain ⟨r, j, rfl⟩ : ∃ (r : Fin 32) (j : Fin 384), y = ValueIdx.ix2 r j := ⟨y 0, y 1, ValueIdx.eq_ix2 y⟩
  refine (pay5 _ _ r j).trans ?_
  rw [Cert.SmpReferenceIdeal.Read.val_main_v3_apply, Cert.SmpReferenceIdeal.Read.val_main_v0_apply]
  refine Finset.sum_congr rfl fun k _ => ?_
  have q0 : (((cfg0.win 10).blk t).view.emb (ValueIdx.ix2 r j) (0 : Fin 2) : ℕ) = r.val := by
    blk_simp [g0]
  have q1 : (((cfg0.win 10).blk t).view.emb (ValueIdx.ix2 r j) (1 : Fin 2) : ℕ) = j.val := by
    blk_simp [g1]
  congr 1
  · rw [iblk, View.read_apply]
    show V m c main_arg0 _ = _
    rw [V_main_arg0]
    refine congrArg (m ((c : Thread nD τ).loc main_arg0)) (funext fun a => Fin.ext ?_)
    match a with
    | ⟨0, _⟩ => refine Eq.trans ?_ q0.symm; blk_simp [e0]
    | ⟨1, _⟩ => blk_simp [e1]
  · rw [View.ld_apply, iblk, View.read_apply]
    refine (weights m c _).trans (congrArg (m ((c : Thread nD τ).loc main_arg1)) (funext fun a => Fin.ext ?_))
    match a with
    | ⟨0, _⟩ =>
      blk_simp [f0]
      show 0 + 1 * k.val = k.val
      omega
    | ⟨1, _⟩ =>
      refine Eq.trans ?_ (congrArg (640 + ·) q1).symm
      blk_simp [f1]
      show 640 + 1 * j.val = _
      omega

theorem idx11 : ∀ t : Fin cfg0.N, win0_11.index t (0 : Fin 2) = 0 ∧ win0_11.index t (1 : Fin 2) = 0 :=
  (by decide +kernel : ∀ t : Fin grid0.N, _)

theorem pay6 (x : Vec Ideal S32x1024 .f32) (w : Vec Ideal S1024x384 .bf16) (r : Fin 32) (j : Fin 384) :
    k0_pay6 x w (ValueIdx.ix2 r j) = ∑ k : Fin 1024, x (ValueIdx.ix2 r k) * w (ValueIdx.ix2 k j) := by
  unfold k0_pay6 k0_pay2
  dsimp only
  rw [shapeCast_self]
  refine (Ideal.matmul_plain_apply none _ _ _ r j).trans ?_
  rw [show (constant S32x384 .f32 0x00000000#32 : FVec Ideal S32x384 .f32) (ValueIdx.ix2 r j) = 0 from Ideal.ofBits_zero_f32, zero_add]
  rfl

/-- Columns 1024..1408 of the product. -/
theorem out11 (c : Dev nD) : (dats m 0 c).arrAt 11 cfg0.N
    = Cert.SmpReferenceIdeal.Read.val_main_v4 (F := Ideal) (m ((c : Thread nD τ).loc main_arg0)) (m ((c : Thread nD τ).loc main_arg1)) := by
  refine (dats m 0 c).arrAt_eq_of_covers 11 _ (by decide +kernel) fun t hf y => ?_
  blk_simp
  rw [after0_11]
  frame_out
  obtain ⟨e0, e1, f0, f1⟩ := idx0 t
  obtain ⟨g0, g1⟩ := idx11 t
  obtain ⟨r, j, rfl⟩ : ∃ (r : Fin 32) (j : Fin 384), y = ValueIdx.ix2 r j := ⟨y 0, y 1, ValueIdx.eq_ix2 y⟩
  refine (pay6 _ _ r j).trans ?_
  rw [Cert.SmpReferenceIdeal.Read.val_main_v4_apply, Cert.SmpReferenceIdeal.Read.val_main_v0_apply]
  refine Finset.sum_congr rfl fun k _ => ?_
  have q0 : (((cfg0.win 11).blk t).view.emb (ValueIdx.ix2 r j) (0 : Fin 2) : ℕ) = r.val := by
    blk_simp [g0]
  have q1 : (((cfg0.win 11).blk t).view.emb (ValueIdx.ix2 r j) (1 : Fin 2) : ℕ) = j.val := by
    blk_simp [g1]
  congr 1
  · rw [iblk, View.read_apply]
    show V m c main_arg0 _ = _
    rw [V_main_arg0]
    refine congrArg (m ((c : Thread nD τ).loc main_arg0)) (funext fun a => Fin.ext ?_)
    match a with
    | ⟨0, _⟩ => refine Eq.trans ?_ q0.symm; blk_simp [e0]
    | ⟨1, _⟩ => blk_simp [e1]
  · rw [View.ld_apply, iblk, View.read_apply]
    refine (weights m c _).trans (congrArg (m ((c : Thread nD τ).loc main_arg1)) (funext fun a => Fin.ext ?_))
    match a with
    | ⟨0, _⟩ =>
      blk_simp [f0]
      show 0 + 1 * k.val = k.val
      omega
    | ⟨1, _⟩ =>
      refine Eq.trans ?_ (congrArg (1024 + ·) q1).symm
      blk_simp [f1]
      show 1024 + 1 * j.val = _
      omega

theorem idx12 : ∀ t : Fin cfg0.N, win0_12.index t (0 : Fin 2) = 0 ∧ win0_12.index t (1 : Fin 2) = 0 :=
  (by decide +kernel : ∀ t : Fin grid0.N, _)

theorem pay7 (x : Vec Ideal S32x1024 .f32) (w : Vec Ideal S1024x1280 .bf16) (r : Fin 32) (j : Fin 1280) :
    k0_pay7 x w (ValueIdx.ix2 r j) = ∑ k : Fin 1024, x (ValueIdx.ix2 r k) * w (ValueIdx.ix2 k j) := by
  unfold k0_pay7 k0_pay2
  dsimp only
  rw [shapeCast_self]
  refine (Ideal.matmul_plain_apply none _ _ _ r j).trans ?_
  rw [show (constant S32x1280 .f32 0x00000000#32 : FVec Ideal S32x1280 .f32) (ValueIdx.ix2 r j) = 0 from Ideal.ofBits_zero_f32, zero_add]
  rfl

/-- Columns 1408..2688 of the product. -/
theorem out12 (c : Dev nD) : (dats m 0 c).arrAt 12 cfg0.N
    = Cert.SmpReferenceIdeal.Read.val_main_v5 (F := Ideal) (m ((c : Thread nD τ).loc main_arg0)) (m ((c : Thread nD τ).loc main_arg1)) := by
  refine (dats m 0 c).arrAt_eq_of_covers 12 _ (by decide +kernel) fun t hf y => ?_
  blk_simp
  rw [after0_12]
  frame_out
  obtain ⟨e0, e1, f0, f1⟩ := idx0 t
  obtain ⟨g0, g1⟩ := idx12 t
  obtain ⟨r, j, rfl⟩ : ∃ (r : Fin 32) (j : Fin 1280), y = ValueIdx.ix2 r j := ⟨y 0, y 1, ValueIdx.eq_ix2 y⟩
  refine (pay7 _ _ r j).trans ?_
  rw [Cert.SmpReferenceIdeal.Read.val_main_v5_apply, Cert.SmpReferenceIdeal.Read.val_main_v0_apply]
  refine Finset.sum_congr rfl fun k _ => ?_
  have q0 : (((cfg0.win 12).blk t).view.emb (ValueIdx.ix2 r j) (0 : Fin 2) : ℕ) = r.val := by
    blk_simp [g0]
  have q1 : (((cfg0.win 12).blk t).view.emb (ValueIdx.ix2 r j) (1 : Fin 2) : ℕ) = j.val := by
    blk_simp [g1]
  congr 1
  · rw [iblk, View.read_apply]
    show V m c main_arg0 _ = _
    rw [V_main_arg0]
    refine congrArg (m ((c : Thread nD τ).loc main_arg0)) (funext fun a => Fin.ext ?_)
    match a with
    | ⟨0, _⟩ => refine Eq.trans ?_ q0.symm; blk_simp [e0]
    | ⟨1, _⟩ => blk_simp [e1]
  · rw [View.ld_apply, iblk, View.read_apply]
    refine (weights m c _).trans (congrArg (m ((c : Thread nD τ).loc main_arg1)) (funext fun a => Fin.ext ?_))
    match a with
    | ⟨0, _⟩ =>
      blk_simp [f0]
      show 0 + 1 * k.val = k.val
      omega
    | ⟨1, _⟩ =>
      refine Eq.trans ?_ (congrArg (1408 + ·) q1).symm
      blk_simp [f1]
      show 1408 + 1 * j.val = _
      omega

end Cert.SmpValue

end
-- ==== Proof.OutMath.lean ====
/- The output projection's row, on extended reals: the three branches' columns against their rows of the weights, the
   residual added, and the layer norm of what that gives. -/
module

public import Idealize.ShloMosaic.PureOps.Ideal.Laws

@[expose] public section

noncomputable section

namespace Cert.OutMath

open Idealize.ShloMosaic

abbrev width : EReal := Ideal.ofBits .f32 0x44800000#32
abbrev eps : EReal := Ideal.ofBits .f32 0x3727C5AC#32
abbrev alpha : EReal := Ideal.ofBits .f32 0x3FB504F3#32

/-- Attention's 256 entries, the state space model's 384 and the recurrent branch's 384 against one column of the weights. -/
def mix (a : Fin 256 → EReal) (b c : Fin 384 → EReal) (w : Fin 1024 → EReal) : EReal :=
  ((∑ k : Fin 256, a k * w ⟨k.val, by omega⟩) + ∑ k : Fin 384, b k * w ⟨256 + k.val, by omega⟩)
    + ∑ k : Fin 384, c k * w ⟨640 + k.val, by omega⟩

/-- A sum of 1024 terms is that of the first 256, of the next 384 and of the last 384. -/
theorem sum_split (f : Fin 1024 → EReal) : ∑ k : Fin 1024, f k
    = ((∑ k : Fin 256, f ⟨k.val, by omega⟩) + ∑ k : Fin 384, f ⟨256 + k.val, by omega⟩)
      + ∑ k : Fin 384, f ⟨640 + k.val, by omega⟩ := by
  have h1 := Fin.sum_univ_add (a := 640) (b := 384) (f := f)
  have h2 := Fin.sum_univ_add (a := 256) (b := 384) (f := fun i => f (Fin.castAdd 384 i))
  exact h1.trans (congrArg (· + _) h2)

/-- What an entry is above its row's mean. -/
def dev (z : Fin 1024 → EReal) (j : Fin 1024) : EReal := z j - Ideal.div (∑ k : Fin 1024, z k) width

/-- The row's variance. -/
def var (z : Fin 1024 → EReal) : EReal := Ideal.div (∑ k : Fin 1024, dev z k * dev z k) width

/-- The layer norm's entry `j`, with scale `g` and shift `b` there. -/
def norm (z : Fin 1024 → EReal) (g b : EReal) (j : Fin 1024) : EReal :=
  dev z j * Ideal.rsqrt (var z + eps) * g + b

end Cert.OutMath

end
-- ==== Proof.OutRef.lean ====
/- The reference of the output projection, entry by entry: the layer norm of its row. -/
module

public import proofs.«01_k».proof.Proof.OutMath
public import proofs.«01_k».proof.Proof.Gen.OutReferenceIdeal.Read
public import Idealize.ShloMosaic.Lib.Pipeline.ValueKit
public import Idealize.ShloMosaic.Lib.Pointwise.SelectCore

@[expose] public section

set_option maxRecDepth 16384

noncomputable section

namespace Cert.OutRef

open Cert.OutReferenceIdeal Cert.OutReferenceIdeal.Gen Cert.OutReferenceIdeal.Read Idealize.ShloMosaic Idealize.ShloMosaic.TcCoe Cert.OutMath

variable (x0 : FVec Ideal S16384x1024 .f32) (x1 : FVec Ideal S16384x256 .f32) (x2 x3 : FVec Ideal S16384x384 .f32)
  (x4 : FVec Ideal S1024x1024 .f32) (x5 x6 : FVec Ideal S1024 .f32)

theorem cat0 (R : Fin 16384) (q : S16384x1024.Idx) (k : Fin 256) (h0 : (q 0 : Fin 16384).val = R.val) (h1 : (q 1 : Fin 1024).val = k.val) :
    val_main_v0 (F := Ideal) x1 x2 x3 q = x1 (ValueIdx.ix2 R k) := by
  unfold val_main_v0
  rw [concatenate_apply, concatenateAt_cons, dif_pos (by show (q 1 : Fin 1024).val < 256; omega)]
  refine congrArg x1 (funext fun a => Fin.ext ?_)
  match a with
  | ⟨0, _⟩ => exact h0
  | ⟨1, _⟩ => exact h1

theorem cat1 (R : Fin 16384) (q : S16384x1024.Idx) (k : Fin 384) (h0 : (q 0 : Fin 16384).val = R.val) (h1 : (q 1 : Fin 1024).val = 256 + k.val) :
    val_main_v0 (F := Ideal) x1 x2 x3 q = x2 (ValueIdx.ix2 R k) := by
  unfold val_main_v0
  rw [concatenate_apply, concatenateAt_cons, dif_neg (by show ¬ (q 1 : Fin 1024).val < 256; omega),
    concatenateAt_cons, dif_pos (by show (q 1 : Fin 1024).val - 256 < 384; omega)]
  refine congrArg x2 (funext fun a => Fin.ext ?_)
  match a with
  | ⟨0, _⟩ => exact h0
  | ⟨1, _⟩ => show (q 1 : Fin 1024).val - 256 = k.val; omega

theorem cat2 (R : Fin 16384) (q : S16384x1024.Idx) (k : Fin 384) (h0 : (q 0 : Fin 16384).val = R.val) (h1 : (q 1 : Fin 1024).val = 640 + k.val) :
    val_main_v0 (F := Ideal) x1 x2 x3 q = x3 (ValueIdx.ix2 R k) := by
  unfold val_main_v0
  rw [concatenate_apply, concatenateAt_cons, dif_neg (by show ¬ (q 1 : Fin 1024).val < 256; omega),
    concatenateAt_cons, dif_neg (by show ¬ (q 1 : Fin 1024).val - 256 < 384; omega), concatenateAt_singleton]
  refine congrArg x3 (funext fun a => Fin.ext ?_)
  match a with
  | ⟨0, _⟩ => exact h0
  | ⟨1, _⟩ => show (q 1 : Fin 1024).val - 256 - 384 = k.val; omega

/-- The residual and the projected branches, row `R`. -/
def row (R : Fin 16384) (j : Fin 1024) : EReal :=
  alpha * x0 (ValueIdx.ix2 R j) + mix (fun k => x1 (ValueIdx.ix2 R k)) (fun k => x2 (ValueIdx.ix2 R k)) (fun k => x3 (ValueIdx.ix2 R k)) (fun k => x4 (ValueIdx.ix2 k j))

theorem v1_eq (i : S16384x1024.Idx) : val_main_v1 (F := Ideal) x1 x2 x3 x4 i
    = mix (fun k => x1 (ValueIdx.ix2 (i 0) k)) (fun k => x2 (ValueIdx.ix2 (i 0) k)) (fun k => x3 (ValueIdx.ix2 (i 0) k)) (fun k => x4 (ValueIdx.ix2 k (i 1))) := by
  rw [val_main_v1_apply, sum_split]
  have hr : ∀ k : Fin 1024, ridx_main_v1 i k = ValueIdx.ix2 k (i 1) := fun k => funext fun a => match a with | ⟨0, _⟩ => rfl | ⟨1, _⟩ => rfl
  unfold mix
  congr 1
  · congr 1
    · refine Finset.sum_congr rfl fun k _ => ?_
      exact congrArg₂ (· * ·) (cat0 x1 x2 x3 (i 0) (lidx_main_v1 i ⟨k.val, by omega⟩) k rfl rfl) (congrArg x4 (hr _))
    · refine Finset.sum_congr rfl fun k _ => ?_
      exact congrArg₂ (· * ·) (cat1 x1 x2 x3 (i 0) (lidx_main_v1 i ⟨256 + k.val, by omega⟩) k rfl rfl) (congrArg x4 (hr _))
  · refine Finset.sum_congr rfl fun k _ => ?_
    exact congrArg₂ (· * ·) (cat2 x1 x2 x3 (i 0) (lidx_main_v1 i ⟨640 + k.val, by omega⟩) k rfl rfl) (congrArg x4 (hr _))

theorem v4_eq (i : S16384x1024.Idx) : val_main_v4 (F := Ideal) x0 x1 x2 x3 x4 i = row x0 x1 x2 x3 x4 (i 0) (i 1) := by
  rw [val_main_v4_apply, v1_eq, val_main_v3_apply, val_main_v2_apply]
  unfold row
  rw [show x0 i = x0 (ValueIdx.ix2 (i 0) (i 1)) from congrArg x0 (ValueIdx.eq_ix2 i)]
  rfl

theorem v5_eq (i : S16384.Idx) : val_main_v5 (F := Ideal) x0 x1 x2 x3 x4 i = ∑ k : Fin 1024, row x0 x1 x2 x3 x4 (i 0) k := by
  rw [val_main_v5_apply, show val_main_cst_0 (F := Ideal) (Shape.Idx.first h_S_) = 0 from Ideal.ofBits_zero_f32, zero_add]
  exact Finset.sum_congr rfl fun k _ => v4_eq x0 x1 x2 x3 x4 _

theorem v8_eq (i : S16384x1.Idx) : val_main_v8 (F := Ideal) x0 x1 x2 x3 x4 i = Ideal.div (∑ k : Fin 1024, row x0 x1 x2 x3 x4 (i 0) k) width := by
  rw [val_main_v8_apply, val_main_v6_apply, v5_eq, val_main_v7_apply]; rfl

theorem v10_eq (i : S16384x1024.Idx) : val_main_v10 (F := Ideal) x0 x1 x2 x3 x4 i = dev (row x0 x1 x2 x3 x4 (i 0)) (i 1) := by
  rw [val_main_v10_apply, val_main_v9_apply, v4_eq, v8_eq]; rfl

theorem v17_eq (i : S16384x1024.Idx) : val_main_v17 (F := Ideal) x0 x1 x2 x3 x4 i = dev (row x0 x1 x2 x3 x4 (i 0)) (i 1) := by
  rw [val_main_v17_apply, val_main_v16_apply, v4_eq, v8_eq]; rfl

theorem v12_eq (i : S16384.Idx) : val_main_v12 (F := Ideal) x0 x1 x2 x3 x4 i
    = ∑ k : Fin 1024, dev (row x0 x1 x2 x3 x4 (i 0)) k * dev (row x0 x1 x2 x3 x4 (i 0)) k := by
  rw [val_main_v12_apply, show val_main_cst_2 (F := Ideal) (Shape.Idx.first h_S_) = 0 from Ideal.ofBits_zero_f32, zero_add]
  refine Finset.sum_congr rfl fun k _ => ?_
  rw [val_main_v11_apply, v10_eq]; rfl

theorem v20_eq (i : S16384x1.Idx) : val_main_v20 (F := Ideal) x0 x1 x2 x3 x4 i = Ideal.rsqrt (var (row x0 x1 x2 x3 x4 (i 0)) + eps) := by
  rw [val_main_v20_apply, val_main_v19_apply, val_main_v15_apply, val_main_v13_apply, v12_eq, val_main_v14_apply, val_main_v18_apply]; rfl

/-- The reference's entry is the layer norm of its row. -/
theorem v28_eq (R : Fin 16384) (j : Fin 1024) : val_main_v28 (F := Ideal) x0 x1 x2 x3 x4 x5 x6 (ValueIdx.ix2 R j)
    = norm (row x0 x1 x2 x3 x4 R) (x5 (ValueIdx.ix1 j)) (x6 (ValueIdx.ix1 j)) j := by
  rw [val_main_v28_apply, val_main_v25_apply, val_main_v22_apply, v17_eq, val_main_v21_apply, v20_eq, val_main_v24_apply,
    val_main_v23_apply, val_main_v27_apply, val_main_v26_apply]
  rw [show x5 (idx_main_v23 (idx_main_v24 (ValueIdx.ix2 R j))) = x5 (ValueIdx.ix1 j) from
      congrArg x5 (funext fun a => match a with | ⟨0, _⟩ => rfl),
    show x6 (idx_main_v26 (idx_main_v27 (ValueIdx.ix2 R j))) = x6 (ValueIdx.ix1 j) from
      congrArg x6 (funext fun a => match a with | ⟨0, _⟩ => rfl)]
  rfl

end Cert.OutRef

end
-- ==== Proof.Out.lean ====
/- The output projection's call: its first result is the layer norm of the residual plus the projected branches. A block of
   the call is 512 rows, each row whole. -/
module

public import proofs.«01_k».proof.Proof.OutRef
public import proofs.«01_k».proof.Proof.Gen.OutKernelIdeal.Value
public import Idealize.ShloMosaic.Lib.Pipeline.ValueKit
public import Idealize.ShloMosaic.Lib.MatmulPlain

@[expose] public section

set_option maxRecDepth 16384

noncomputable section

namespace Cert.OutValue

open Cert.OutKernelIdeal Cert.OutKernelIdeal.Gen Idealize.ShloMosaic Cert.OutMath
open Idealize.ShloMosaic.TcCoe Idealize.SL.Sem

/-- A row of the block before its mean is taken off. -/
def brow (P0 : Vec Ideal S512x256 .f32) (P1 : Vec Ideal S256x1024 .bf16) (P2 : Vec Ideal S512x384 .f32) (P3 : Vec Ideal S384x1024 .bf16)
    (P4 : Vec Ideal S512x384 .f32) (P5 : Vec Ideal S384x1024 .bf16) (P6 : Vec Ideal S512x1024 .f32) (r : Fin 512) (j : Fin 1024) : EReal :=
  alpha * P6 (ValueIdx.ix2 r j) + (((∑ k : Fin 256, P0 (ValueIdx.ix2 r k) * P1 (ValueIdx.ix2 k j))
    + ∑ k : Fin 384, P2 (ValueIdx.ix2 r k) * P3 (ValueIdx.ix2 k j)) + ∑ k : Fin 384, P4 (ValueIdx.ix2 r k) * P5 (ValueIdx.ix2 k j))

/-- A sum along the rows of a block. -/
theorem rowsum (v : FVec Ideal S512x1024 .f32) (r : S512.Idx) :
    multiReduction .add [1] S512 v 0x00000000#32 reduces_S512x1024_S512 (.inl rfl) rfl r = ∑ k : Fin 1024, v (ValueIdx.ix2 (r 0) k) := by
  refine (Ideal.multiReduction_add_single v _ reduces_S512x1024_S512 _ _ r).trans (Finset.sum_congr rfl fun k _ => congrArg v (funext fun a => ?_))
  match a with
  | ⟨0, _⟩ => rfl
  | ⟨1, _⟩ => rfl

theorem prod0 (P0 : Vec Ideal S512x256 .f32) (P1 : Vec Ideal S256x1024 .bf16) (r : Fin 512) (j : Fin 1024) :
    matmul (φ₂ := .bf16) dot_S512x256_S256x1024_S512x1024_1_0_0_1_n_n none (truncf .bf16 P0 bitsLt_bf16_f32) (P1 : FVec Ideal S256x1024 .bf16) (constant S512x1024 .f32 0x00000000#32 : FVec Ideal S512x1024 .f32) (ValueIdx.ix2 r j)
      = ∑ k : Fin 256, P0 (ValueIdx.ix2 r k) * P1 (ValueIdx.ix2 k j) := by
  refine (Ideal.matmul_plain_apply none _ _ _ r j).trans ?_
  rw [show (constant S512x1024 .f32 0x00000000#32 : FVec Ideal S512x1024 .f32) (ValueIdx.ix2 r j) = 0 from Ideal.ofBits_zero_f32, zero_add]
  rfl

theorem prod1 (P2 : Vec Ideal S512x384 .f32) (P3 : Vec Ideal S384x1024 .bf16) (r : Fin 512) (j : Fin 1024) :
    matmul (φ₂ := .bf16) dot_S512x384_S384x1024_S512x1024_1_0_0_1_n_n none (truncf .bf16 P2 bitsLt_bf16_f32) (P3 : FVec Ideal S384x1024 .bf16) (constant S512x1024 .f32 0x00000000#32 : FVec Ideal S512x1024 .f32) (ValueIdx.ix2 r j)
      = ∑ k : Fin 384, P2 (ValueIdx.ix2 r k) * P3 (ValueIdx.ix2 k j) := by
  refine (Ideal.matmul_plain_apply none _ _ _ r j).trans ?_
  rw [show (constant S512x1024 .f32 0x00000000#32 : FVec Ideal S512x1024 .f32) (ValueIdx.ix2 r j) = 0 from Ideal.ofBits_zero_f32, zero_add]
  rfl

section Block
variable (P0 : Vec Ideal S512x256 .f32) (P1 : Vec Ideal S256x1024 .bf16) (P2 : Vec Ideal S512x384 .f32) (P3 : Vec Ideal S384x1024 .bf16)
    (P4 : Vec Ideal S512x384 .f32) (P5 : Vec Ideal S384x1024 .bf16) (P6 : Vec Ideal S512x1024 .f32) (P7 P8 : Vec Ideal S1x1024 .f32)

/-- The block's row before the mean is taken off, as the body computes it. -/
def body : FVec Ideal S512x1024 .f32 :=
  addf (mulf (broadcast S512x1024 (Scalar.ofBits .f32 0x3FB504F3#32)) P6)
    (addf (addf (matmul (φ₂ := .bf16) dot_S512x256_S256x1024_S512x1024_1_0_0_1_n_n none (truncf .bf16 P0 bitsLt_bf16_f32) (P1 : FVec Ideal S256x1024 .bf16) (constant S512x1024 .f32 0x00000000#32))
      (matmul (φ₂ := .bf16) dot_S512x384_S384x1024_S512x1024_1_0_0_1_n_n none (truncf .bf16 P2 bitsLt_bf16_f32) (P3 : FVec Ideal S384x1024 .bf16) (constant S512x1024 .f32 0x00000000#32)))
      (matmul (φ₂ := .bf16) dot_S512x384_S384x1024_S512x1024_1_0_0_1_n_n none (truncf .bf16 P4 bitsLt_bf16_f32) (P5 : FVec Ideal S384x1024 .bf16) (constant S512x1024 .f32 0x00000000#32)))

theorem body_eq (r : Fin 512) (j : Fin 1024) : body P0 P1 P2 P3 P4 P5 P6 (ValueIdx.ix2 r j) = brow P0 P1 P2 P3 P4 P5 P6 r j := by
  have h0 := prod0 P0 P1 r j
  have h1 := prod1 P2 P3 r j
  have h2 := prod1 P4 P5 r j
  exact congrArg (alpha * P6 (ValueIdx.ix2 r j) + ·) (congrArg₂ (· + ·) (congrArg₂ (· + ·) h0 h1) h2)

theorem pay10 (r : Fin 512) (j : Fin 1024) :
    k0_pay10 P0 P1 P2 P3 P4 P5 P6 (ValueIdx.ix2 r j) = dev (brow P0 P1 P2 P3 P4 P5 P6 r) j := by
  have e : k0_pay10 P0 P1 P2 P3 P4 P5 P6 = subf (body P0 P1 P2 P3 P4 P5 P6)
      (broadcastTo S512x1024 (divf (shapeCast S512x1 (multiReduction .add [1] S512 (body P0 P1 P2 P3 P4 P5 P6) 0x00000000#32 reduces_S512x1024_S512 (.inl rfl) rfl) shapeCasts_S512_S512x1)
        (broadcast S512x1 (Scalar.ofBits .f32 0x44800000#32))) broadcasts_S512x1_S512x1024) := by
    unfold k0_pay10 body
    simp only [shapeCast_self]
  rw [e]
  have hb : ∀ k : Fin 1024, body P0 P1 P2 P3 P4 P5 P6 (ValueIdx.ix2 r k) = brow P0 P1 P2 P3 P4 P5 P6 r k := fun k => body_eq P0 P1 P2 P3 P4 P5 P6 r k
  generalize body P0 P1 P2 P3 P4 P5 P6 = z at hb ⊢
  refine congrArg₂ (· - ·) (hb j) ?_
  refine (broadcastTo_apply _ _ (ValueIdx.ix2 r j) (ValueIdx.ix2 r (0 : Fin 1)) (fun a => match a with
    | ⟨0, _⟩ => by show r.val = (if (512 : Nat) = 1 then 0 else r.val); rw [if_neg (by decide)]
    | ⟨1, _⟩ => by show 0 = (if (1 : Nat) = 1 then 0 else j.val); rw [if_pos rfl])).trans ?_
  refine congrArg (fun s => Ideal.div s width) ?_
  refine (shapeCast_apply _ _ (ValueIdx.ix2 r (0 : Fin 1)) (ValueIdx.ix1 r) (by rw [Shape.rowMajor_val_one, Shape.rowMajor_val_two]; show r.val = r.val * 1 + 0; omega)).trans ?_
  refine (rowsum z (ValueIdx.ix1 r)).trans (Finset.sum_congr rfl fun k _ => hb k)

/-- What the body stores: the layer norm of the block's rows. -/
theorem stored (r : Fin 512) (j : Fin 1024) :
    (View.canon [⟨r0_5, k0_pay12 (k0_pay8 P7) (k0_pay9 P8) (k0_pay10 P0 P1 P2 P3 P4 P5 P6) (k0_pay11 P0 P1 P2 P3 P4 P5 P6)⟩] : Vec Ideal S512x1024 .f32) (ValueIdx.ix2 r j)
      = norm (brow P0 P1 P2 P3 P4 P5 P6 r) (P7 (ValueIdx.ix2 (0 : Fin 1) j)) (P8 (ValueIdx.ix2 (0 : Fin 1) j)) j := by
  refine (Cert.OutKernelIdeal.Value.canon9_eq P0 P1 P2 P3 P4 P5 P6 P7 P8 (ValueIdx.ix2 r j)).trans ?_
  have hd := pay10 P0 P1 P2 P3 P4 P5 P6 r
  have e0 : Cert.OutKernelIdeal.Value.ix9_0 (ValueIdx.ix2 r j) = ValueIdx.ix2 r j := funext fun a => match a with | ⟨0, _⟩ => rfl | ⟨1, _⟩ => rfl
  have e1 : Cert.OutKernelIdeal.Value.ix9_1 (ValueIdx.ix2 r j) = ValueIdx.ix1 r := funext fun a => match a with | ⟨0, _⟩ => rfl
  have e2 : Cert.OutKernelIdeal.Value.ix9_2 (ValueIdx.ix2 r j) = ValueIdx.ix2 (0 : Fin 1) j := funext fun a => match a with | ⟨0, _⟩ => rfl | ⟨1, _⟩ => rfl
  have hs := rowsum (mulf (k0_pay10 P0 P1 P2 P3 P4 P5 P6) (k0_pay10 P0 P1 P2 P3 P4 P5 P6)) (ValueIdx.ix1 r)
  have hs' : multiReduction .add [1] S512 (mulf (k0_pay10 P0 P1 P2 P3 P4 P5 P6) (k0_pay10 P0 P1 P2 P3 P4 P5 P6)) 0x00000000#32 reduces_S512x1024_S512 (.inl rfl) rfl (ValueIdx.ix1 r)
      = ∑ k : Fin 1024, dev (brow P0 P1 P2 P3 P4 P5 P6 r) k * dev (brow P0 P1 P2 P3 P4 P5 P6 r) k :=
    hs.trans (Finset.sum_congr rfl fun k _ => congrArg₂ (· * ·) (hd k) (hd k))
  refine congrArg₂ (· + ·) (congrArg₂ (· * ·) (congrArg₂ (· * ·) ((congrArg (k0_pay10 P0 P1 P2 P3 P4 P5 P6) e0).trans (hd j)) ?_) (congrArg P7 e2)) (congrArg P8 e2)
  exact congrArg (fun s => Ideal.rsqrt (Ideal.div s width + eps)) ((congrArg _ e1).trans hs')

end Block

variable (m : (ℓ : Loc nD τ sig) → Buf (Elt Ideal) ℓ)

/-- The region finds the weights as launched: the host's cast is the identity on extended reals. -/
theorem weights (c : Dev nD) (i : S1024x1024.Idx) :
    V m c main_v0 i = m ((c : Thread nD τ).loc main_arg4) i := by
  have h : V m c main_v0 = (truncf (F := Ideal) (s := S1024x1024) (φ := .f32) FTy.bf16 (m ((c : Thread nD τ).loc main_arg4)) bitsLt_bf16_f32 : FVec Ideal S1024x1024 .bf16) := by
    unfold V; after_results
  rw [h]; rfl

/-- The scale and the shift, each a vector seen as one row. -/
theorem scale (c : Dev nD) (j : Fin 1024) :
    V m c main_v1 (ValueIdx.ix2 (0 : Fin 1) j) = m ((c : Thread nD τ).loc main_arg5) (ValueIdx.ix1 j) := by
  have h : V m c main_v1 = (shapeCast S1x1024 (m ((c : Thread nD τ).loc main_arg5) : FVec Ideal S1024 .f32) shapeCasts_S1024_S1x1024 : FVec Ideal S1x1024 .f32) := by
    unfold V; after_results; rfl
  rw [h]
  exact shapeCast_apply _ _ (ValueIdx.ix2 (0 : Fin 1) j) (ValueIdx.ix1 j) (by rw [Shape.rowMajor_val_one, Shape.rowMajor_val_two]; show j.val = 0 * 1024 + j.val; omega)

theorem shift (c : Dev nD) (j : Fin 1024) :
    V m c main_v2 (ValueIdx.ix2 (0 : Fin 1) j) = m ((c : Thread nD τ).loc main_arg6) (ValueIdx.ix1 j) := by
  have h : V m c main_v2 = (shapeCast S1x1024 (m ((c : Thread nD τ).loc main_arg6) : FVec Ideal S1024 .f32) shapeCasts_S1024_S1x1024 : FVec Ideal S1x1024 .f32) := by
    unfold V; after_results; rfl
  rw [h]
  exact shapeCast_apply _ _ (ValueIdx.ix2 (0 : Fin 1) j) (ValueIdx.ix1 j) (by rw [Shape.rowMajor_val_one, Shape.rowMajor_val_two]; show j.val = 0 * 1024 + j.val; omega)

/-- The row blocks move with the output's; the weights', the scale's and the shift's are whole arrays. -/
theorem idxA : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem idxB : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_9.index t (0 : Fin 2) = t.val ∧ win0_9.index t (1 : Fin 2) = 0 :=
  (by decide +kernel : ∀ t : Fin grid0.N, _)

/-- Row `r` of block `t`. -/
def at_ (t : Fin cfg0.N) (r : Fin 512) : Fin 16384 := ⟨t.val * 512 + r.val, by have : t.val < 32 := t.isLt; omega⟩

theorem in0 (c : Dev nD) (t : Fin cfg0.N) (r : Fin 512) (j : Fin 1024) :
    View.ld (iblk m c 0 t) r0_5 (ValueIdx.ix2 r j) = m ((c : Thread nD τ).loc main_arg0) (ValueIdx.ix2 (at_ t r) j) := by
  obtain ⟨a0, a1, b0, b1, c0, c1, d0, d1⟩ := idxA t
  rw [View.ld_apply, iblk, View.read_apply]
  show V m c main_arg0 _ = _
  rw [V_main_arg0]
  refine congrArg (m ((c : Thread nD τ).loc main_arg0)) (funext fun a => Fin.ext ?_)
  match a with
  | ⟨0, _⟩ => blk_simp [a0]; show t.val * 512 + (0 + 1 * r.val) = t.val * 512 + r.val; omega
  | ⟨1, _⟩ => blk_simp [a1]; show 0 + 1 * j.val = j.val; omega

theorem in1 (c : Dev nD) (t : Fin cfg0.N) (r : Fin 512) (j : Fin 256) :
    View.ld (iblk m c 1 t) r0_0 (ValueIdx.ix2 r j) = m ((c : Thread nD τ).loc main_arg1) (ValueIdx.ix2 (at_ t r) j) := by
  obtain ⟨a0, a1, b0, b1, c0, c1, d0, d1⟩ := idxA t
  rw [View.ld_apply, iblk, View.read_apply]
  show V m c main_arg1 _ = _
  rw [V_main_arg1]
  refine congrArg (m ((c : Thread nD τ).loc main_arg1)) (funext fun a => Fin.ext ?_)
  match a with
  | ⟨0, _⟩ => blk_simp [b0]; show t.val * 512 + (0 + 1 * r.val) = t.val * 512 + r.val; omega
  | ⟨1, _⟩ => blk_simp [b1]; show 0 + 1 * j.val = j.val; omega

theorem in2 (c : Dev nD) (t : Fin cfg0.N) (r : Fin 512) (j : Fin 384) :
    View.ld (iblk m c 2 t) r0_2 (ValueIdx.ix2 r j) = m ((c : Thread nD τ).loc main_arg2) (ValueIdx.ix2 (at_ t r) j) := by
  obtain ⟨a0, a1, b0, b1, c0, c1, d0, d1⟩ := idxA t
  rw [View.ld_apply, iblk, View.read_apply]
  show V m c main_arg2 _ = _
  rw [V_main_arg2]
  refine congrArg (m ((c : Thread nD τ).loc main_arg2)) (funext fun a => Fin.ext ?_)
  match a with
  | ⟨0, _⟩ => blk_simp [c0]; show t.val * 512 + (0 + 1 * r.val) = t.val * 512 + r.val; omega
  | ⟨1, _⟩ => blk_simp [c1]; show 0 + 1 * j.val = j.val; omega

theorem in3 (c : Dev nD) (t : Fin cfg0.N) (r : Fin 512) (j : Fin 384) :
    View.ld (iblk m c 3 t) r0_2 (ValueIdx.ix2 r j) = m ((c : Thread nD τ).loc main_arg3) (ValueIdx.ix2 (at_ t r) j) := by
  obtain ⟨a0, a1, b0, b1, c0, c1, d0, d1⟩ := idxA t
  rw [View.ld_apply, iblk, View.read_apply]
  show V m c main_arg3 _ = _
  rw [V_main_arg3]
  refine congrArg (m ((c : Thread nD τ).loc main_arg3)) (funext fun a => Fin.ext ?_)
  match a with
  | ⟨0, _⟩ => blk_simp [d0]; show t.val * 512 + (0 + 1 * r.val) = t.val * 512 + r.val; omega
  | ⟨1, _⟩ => blk_simp [d1]; show 0 + 1 * j.val = j.val; omega

theorem w0 (c : Dev nD) (t : Fin cfg0.N) (k : Fin 256) (j : Fin 1024) :
    View.ld (iblk m c 4 t) r0_1 (ValueIdx.ix2 k j) = m ((c : Thread nD τ).loc main_arg4) (ValueIdx.ix2 (⟨k.val, by omega⟩ : Fin 1024) j) := by
  obtain ⟨f0, f1, -⟩ := idxB t
  rw [View.ld_apply, iblk, View.read_apply]
  refine (weights m c _).trans (congrArg (m ((c : Thread nD τ).loc main_arg4)) (funext fun a => Fin.ext ?_))
  match a with
  | ⟨0, _⟩ => blk_simp [f0]; show 0 + 1 * k.val = k.val; omega
  | ⟨1, _⟩ => blk_simp [f1]; show 0 + 1 * j.val = j.val; omega

theorem w1 (c : Dev nD) (t : Fin cfg0.N) (k : Fin 384) (j : Fin 1024) :
    View.ld (iblk m c 4 t) r0_3 (ValueIdx.ix2 k j) = m ((c : Thread nD τ).loc main_arg4) (ValueIdx.ix2 (⟨256 + k.val, by omega⟩ : Fin 1024) j) := by
  obtain ⟨f0, f1, -⟩ := idxB t
  rw [View.ld_apply, iblk, View.read_apply]
  refine (weights m c _).trans (congrArg (m ((c : Thread nD τ).loc main_arg4)) (funext fun a => Fin.ext ?_))
  match a with
  | ⟨0, _⟩ => blk_simp [f0]; show 256 + 1 * k.val = 256 + k.val; omega
  | ⟨1, _⟩ => blk_simp [f1]; show 0 + 1 * j.val = j.val; omega

theorem w2 (c : Dev nD) (t : Fin cfg0.N) (k : Fin 384) (j : Fin 1024) :
    View.ld (iblk m c 4 t) r0_4 (ValueIdx.ix2 k j) = m ((c : Thread nD τ).loc main_arg4) (ValueIdx.ix2 (⟨640 + k.val, by omega⟩ : Fin 1024) j) := by
  obtain ⟨f0, f1, -⟩ := idxB t
  rw [View.ld_apply, iblk, View.read_apply]
  refine (weights m c _).trans (congrArg (m ((c : Thread nD τ).loc main_arg4)) (funext fun a => Fin.ext ?_))
  match a with
  | ⟨0, _⟩ => blk_simp [f0]; show 640 + 1 * k.val = 640 + k.val; omega
  | ⟨1, _⟩ => blk_simp [f1]; show 0 + 1 * j.val = j.val; omega

theorem in5 (c : Dev nD) (t : Fin cfg0.N) (j : Fin 1024) :
    View.ld (iblk m c 5 t) r0_6 (ValueIdx.ix2 (0 : Fin 1) j) = m ((c : Thread nD τ).loc main_arg5) (ValueIdx.ix1 j) := by
  obtain ⟨f0, f1, g0, g1, h0, h1, -⟩ := idxB t
  rw [View.ld_apply, iblk, View.read_apply]
  refine Eq.trans (congrArg (V m c main_v1) (funext fun a => Fin.ext ?_)) (scale m c j)
  match a with
  | ⟨0, _⟩ => blk_simp [g0]
  | ⟨1, _⟩ => blk_simp [g1]; show 0 + 1 * j.val = j.val; omega

theorem in6 (c : Dev nD) (t : Fin cfg0.N) (j : Fin 1024) :
    View.ld (iblk m c 6 t) r0_6 (ValueIdx.ix2 (0 : Fin 1) j) = m ((c : Thread nD τ).loc main_arg6) (ValueIdx.ix1 j) := by
  obtain ⟨f0, f1, g0, g1, h0, h1, -⟩ := idxB t
  rw [View.ld_apply, iblk, View.read_apply]
  refine Eq.trans (congrArg (V m c main_v2) (funext fun a => Fin.ext ?_)) (shift m c j)
  match a with
  | ⟨0, _⟩ => blk_simp [h0]
  | ⟨1, _⟩ => blk_simp [h1]; show 0 + 1 * j.val = j.val; omega

/-- The call's first result is the reference's. -/
theorem out9 (c : Dev nD) : (dats m 0 c).arrAt 9 cfg0.N
    = Cert.OutReferenceIdeal.Read.val_main_v28 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 9 _ (by decide +kernel) fun t hf y => ?_
  blk_simp
  rw [after0_9]
  unfold_out out0_9
  obtain ⟨f0, f1, g0, g1, h0, h1, i0, i1⟩ := idxB t
  obtain ⟨r, j, rfl⟩ : ∃ (r : Fin 512) (j : Fin 1024), y = ValueIdx.ix2 r j := ⟨y 0, y 1, ValueIdx.eq_ix2 y⟩
  refine (stored _ _ _ _ _ _ _ _ _ r j).trans ?_
  have q : ((cfg0.win 9).blk t).view.emb (ValueIdx.ix2 r j) = ValueIdx.ix2 (at_ t r) j := by
    refine funext fun a => Fin.ext ?_
    match a with
    | ⟨0, _⟩ => blk_simp [i0]; rfl
    | ⟨1, _⟩ => blk_simp [i1]
  rw [q, Cert.OutRef.v28_eq, in5, in6]
  refine congrArg (fun z => norm z _ _ j) (funext fun l => ?_)
  unfold brow Cert.OutRef.row mix
  refine congrArg₂ (· + ·) (congrArg (alpha * ·) (in0 m c t r l)) (congrArg₂ (· + ·) (congrArg₂ (· + ·) ?_ ?_) ?_)
  · exact Finset.sum_congr rfl fun k _ => congrArg₂ (· * ·) (in1 m c t r k) (w0 m c t k l)
  · exact Finset.sum_congr rfl fun k _ => congrArg₂ (· * ·) (in2 m c t r k) (w1 m c t k l)
  · exact Finset.sum_congr rfl fun k _ => congrArg₂ (· * ·) (in3 m c t r k) (w2 m c t k l)

end Cert.OutValue

end
-- ==== Proof.MoeMath.lean ====
/- The feed-forward one row goes through, on extended reals: the gated unit between two products, each with its bias. -/
module

public import Idealize.ShloMosaic.PureOps.Ideal.Laws

@[expose] public section

noncomputable section

namespace Cert.MoeMath

open Idealize.ShloMosaic

abbrev one : EReal := Ideal.ofBits .f32 0x3F800000#32
abbrev seven : EReal := Ideal.ofBits .f32 0x40E00000#32
abbrev negSeven : EReal := Ideal.ofBits .f32 0xC0E00000#32
abbrev alpha : EReal := Ideal.ofBits .f32 0x3FD9DB23#32

/-- The gate times its logistic, times the linear half plus one. -/
def act (g l : EReal) : EReal := g * Ideal.div one (one + Ideal.exp (-(alpha * g))) * (l + one)

/-- Entry `j` of the first product, its bias added. -/
def hid (row : Fin 1024 → EReal) (W : Fin 1024 → Fin 2048 → EReal) (b : Fin 2048 → EReal) (j : Fin 2048) : EReal :=
  (∑ k : Fin 1024, row k * W k j) + b j

/-- The gate's half. -/
def gate (row : Fin 1024 → EReal) (W : Fin 1024 → Fin 2048 → EReal) (b : Fin 2048 → EReal) (f : Fin 1024) : EReal :=
  min (hid row W b ⟨f.val, by have := f.isLt; omega⟩) seven
/-- The linear half. -/
def lin (row : Fin 1024 → EReal) (W : Fin 1024 → Fin 2048 → EReal) (b : Fin 2048 → EReal) (f : Fin 1024) : EReal :=
  min seven (max negSeven (hid row W b ⟨1024 + f.val, by have := f.isLt; omega⟩))

/-- Entry `j` of what the row becomes. -/
def ffn (row : Fin 1024 → EReal) (W : Fin 1024 → Fin 2048 → EReal) (b : Fin 2048 → EReal) (D : Fin 1024 → Fin 1024 → EReal) (d : Fin 1024 → EReal)
    (j : Fin 1024) : EReal :=
  (∑ f : Fin 1024, act (gate row W b f) (lin row W b f) * D f j) + d j

end Cert.MoeMath

end
-- ==== Proof.MoeRef.lean ====
/- The plain program's result at an entry: block `n`'s row `r` is the token row its word names, taken through the weights
   of the expert block `n` names, or zero at a block past the working ones. -/
module

public import proofs.«01_k».proof.Proof.Gen.MoeReferenceIdeal.Read
public import proofs.«01_k».proof.Proof.MoeMath
public import Idealize.ShloMosaic.Lib.Routing.Ops

@[expose] public section

set_option maxRecDepth 16384

noncomputable section

namespace Cert.MoeRef

open Cert.MoeReferenceIdeal Cert.MoeReferenceIdeal.Gen Cert.MoeReferenceIdeal.Read Idealize.ShloMosaic Idealize.ShloMosaic.TcCoe Cert.MoeMath

/-! ## Taking whole slabs of a stack -/

/-- The dimension numbers of `stack[idx]`, `stack` of `N` slabs of `P × Q`, `idx` of `M` numbers. -/
abbrev slabDims (N M P Q : Nat) (wf : GatherDims.WF ⟨3, ![N, P, Q]⟩ ⟨2, ![M, 1]⟩ ⟨3, ![M, P, Q]⟩ [1, 2] [0] [] [0] [] 1 ![1, P, Q]) :
    GatherDims ⟨3, ![N, P, Q]⟩ ⟨2, ![M, 1]⟩ ⟨3, ![M, P, Q]⟩ where
  offsetDims := [1, 2]
  collapsedSliceDims := [0]
  operandBatchingDims := []
  startIndicesBatchingDims := []
  startIndexMap := [0]
  indexVectorDim := 1
  sliceSizes := ![1, P, Q]
  wf := wf

/-- Slab `n` of the result is the slab that entry `n` of the numbers names. -/
theorem slab_apply {α : Type} {N M P Q : Nat} (wf : GatherDims.WF ⟨3, ![N, P, Q]⟩ ⟨2, ![M, 1]⟩ ⟨3, ![M, P, Q]⟩ [1, 2] [0] [] [0] [] 1 ![1, P, Q])
    (x : (⟨3, ![N, P, Q]⟩ : Shape).Idx → α) (idx : IVec ⟨2, ![M, 1]⟩ 32) (n : Fin M) (p : Fin P) (q : Fin Q) (e : Fin N)
    (he : idx (ValueIdx.ix2 n (0 : Fin 1)) = BitVec.ofNat 32 e.val) (hN : N < 2 ^ 31) :
    Host.gather (slabDims N M P Q wf) x idx (ValueIdx.ix3 n p q) = x (ValueIdx.ix3 e p q) := by
  unfold Host.gather
  refine congrArg x (funext fun a => Fin.ext ?_)
  have hb : (slabDims N M P Q wf).batchCoord (ValueIdx.ix3 n p q) a = 0 := GatherDims.batchCoord_eq_zero _ _ _ List.not_mem_nil
  show (slabDims N M P Q wf).start (ValueIdx.ix3 n p q) idx a + (slabDims N M P Q wf).batchCoord (ValueIdx.ix3 n p q) a
    + (slabDims N M P Q wf).offCoord (ValueIdx.ix3 n p q) a = _
  rw [hb, Nat.add_zero]
  unfold GatherDims.start GatherDims.offCoord
  match a with
  | ⟨0, _⟩ =>
    rw [dif_pos (show (⟨0, by decide⟩ : Fin 3) ∈ (slabDims N M P Q wf).startIndexMap from List.mem_singleton.mpr rfl),
      dif_neg (fun h => ((GatherDims.mem_sKept _ _).mp h).1 (List.mem_singleton.mpr rfl)), Nat.add_zero]
    have hsi : (slabDims N M P Q wf).siIdx (ValueIdx.ix3 n p q) ⟨List.idxOf (⟨0, by decide⟩ : Fin 3) (slabDims N M P Q wf).startIndexMap,
        List.idxOf_lt_length_iff.2 (List.mem_singleton.mpr rfl)⟩ = ValueIdx.ix2 n (0 : Fin 1) := by
      funext b; refine Fin.ext ?_
      match b with
      | ⟨0, _⟩ => rfl
      | ⟨1, _⟩ => rfl
    rw [hsi, he, StableHlo.Predicate.toInt_ofNat_small _ (by have := e.isLt; omega)]
    show min ((e.val : Int)).toNat (N - 1) = e.val
    have := e.isLt
    omega
  | ⟨1, _⟩ =>
    rw [dif_neg (show (⟨1, by decide⟩ : Fin 3) ∉ (slabDims N M P Q wf).startIndexMap from fun h => absurd (congrArg Fin.val (List.mem_singleton.mp h)) (by decide : ¬ 1 = 0)),
      dif_pos ((GatherDims.mem_sKept _ _).mpr ⟨fun h => absurd (congrArg Fin.val (List.mem_singleton.mp h)) (by decide : ¬ 1 = 0), List.not_mem_nil⟩), Nat.zero_add]
    rfl
  | ⟨2, _⟩ =>
    rw [dif_neg (show (⟨2, by decide⟩ : Fin 3) ∉ (slabDims N M P Q wf).startIndexMap from fun h => absurd (congrArg Fin.val (List.mem_singleton.mp h)) (by decide : ¬ 2 = 0)),
      dif_pos ((GatherDims.mem_sKept _ _).mpr ⟨fun h => absurd (congrArg Fin.val (List.mem_singleton.mp h)) (by decide : ¬ 2 = 0), List.not_mem_nil⟩), Nat.zero_add]
    rfl

/-! ## The numbers the takes read -/

theorem not_neg {w : BitVec 32} (h : w.toNat < 2 ^ 31) : ¬ IntOp.cmpi .slt w 0#32 = 1#1 := by
  unfold IntOp.cmpi
  rw [StableHlo.Predicate.ofBool_eq_one_iff, BitVec.slt, decide_eq_true_eq, StableHlo.Predicate.toInt_eq_toNat_of_lt h]
  have z : (0#32 : BitVec 32).toInt = 0 := by decide
  rw [z]; omega

theorem wrap {w z : BitVec 32} (h : w.toNat < 2 ^ 31) : Scalar.select (IntOp.cmpi .slt w 0#32) z w = w := by
  unfold Scalar.select; exact if_neg (not_neg h)

theorem as_ofNat {w : BitVec 32} {N : ℕ} (h : w.toNat < N) : w = BitVec.ofNat 32 (w.toNat % N) := by
  rw [Nat.mod_eq_of_lt h]; simp

/-- The token row a word names, and the expert. -/
abbrev tokOf (w : BitVec 32) : Fin 16384 := ⟨w.toNat % 16384, Nat.mod_lt _ (by decide)⟩
abbrev expOf (w : BitVec 32) : Fin 32 := ⟨w.toNat % 32, Nat.mod_lt _ (by decide)⟩

variable (x0 : (⟨S16384x1024, .f32⟩ : BufTy).Contents (Elt Ideal)) (x1 : (⟨S73728, .i32⟩ : BufTy).Contents (Elt Ideal))
  (x2 : (⟨S288, .i32⟩ : BufTy).Contents (Elt Ideal)) (x3 : (⟨S1, .i32⟩ : BufTy).Contents (Elt Ideal))
  (x4 : (⟨S2x32x1024x2048, .f32⟩ : BufTy).Contents (Elt Ideal)) (x5 : (⟨S2x32x2048, .f32⟩ : BufTy).Contents (Elt Ideal))
  (x6 : (⟨S2x32x1024x1024, .f32⟩ : BufTy).Contents (Elt Ideal)) (x7 : (⟨S2x32x1024, .f32⟩ : BufTy).Contents (Elt Ideal))

/-- Block `n`'s row `r`, counted from the first. -/
abbrev flat (n : Fin 288) (r : Fin 256) : Fin 73728 := ⟨n.val * 256 + r.val, by have := n.isLt; have := r.isLt; omega⟩

theorem v4_at (i : S73728.Idx) (h : BitVec.toNat (w := 32) (x1 i) < 16384) : val_main_v4 (F := Ideal) x1 i = x1 i := by
  rw [val_main_v4_apply, val_main_v1_apply, val_main_v0_apply]
  exact wrap (w := x1 i) (by omega)
theorem v14_at (i : S288.Idx) (h : BitVec.toNat (w := 32) (x2 i) < 32) : val_main_v14 (F := Ideal) x2 i = x2 i := by
  rw [val_main_v14_apply, val_main_v11_apply, val_main_v10_apply]
  exact wrap (w := x2 i) (by omega)

/-- The gathered token rows. -/
theorem v7_at (n : Fin 288) (r : Fin 256) (k : Fin 1024) (h : BitVec.toNat (w := 32) (x1 (ValueIdx.ix1 (flat n r))) < 16384) :
    val_main_v7 (F := Ideal) x0 x1 (ValueIdx.ix3 n r k) = x0 (ValueIdx.ix2 (tokOf (x1 (ValueIdx.ix1 (flat n r)))) k) := by
  rw [val_main_v7_apply]
  have e : idx_main_v7 (ValueIdx.ix3 n r k) = ValueIdx.ix2 (flat n r) k := funext fun a => Fin.ext (by
    have := r.isLt; have := k.isLt
    match a with
    | ⟨0, _⟩ => show ((n.val * 256 + r.val) * 1024 + k.val) / 1024 = n.val * 256 + r.val; omega
    | ⟨1, _⟩ => show ((n.val * 256 + r.val) * 1024 + k.val) % 1024 = k.val; omega)
  rw [e]
  unfold val_main_v6
  refine Routing.gather_row _ rfl rfl rfl rfl rfl x0 _ (flat n r) k (tokOf (x1 (ValueIdx.ix1 (flat n r)))) ?_ (by decide)
  rw [val_main_v5_apply]
  have e5 : idx_main_v5 (ValueIdx.ix2 (flat n r) (0 : Fin 1)) = ValueIdx.ix1 (flat n r) := funext fun a => Fin.ext (by
    match a with
    | ⟨0, _⟩ => rfl)
  rw [e5, v4_at x1 _ h]
  exact as_ofNat h

theorem v15_at (n : Fin 288) (h : BitVec.toNat (w := 32) (x2 (ValueIdx.ix1 n)) < 32) :
    val_main_v15 (F := Ideal) x2 (ValueIdx.ix2 n (0 : Fin 1)) = BitVec.ofNat 32 (expOf (x2 (ValueIdx.ix1 n))).val := by
  rw [val_main_v15_apply]
  have e : idx_main_v15 (ValueIdx.ix2 n (0 : Fin 1)) = ValueIdx.ix1 n := funext fun a => Fin.ext (by
    match a with
    | ⟨0, _⟩ => rfl)
  rw [e, v14_at x2 _ h]
  exact as_ofNat h

/-- The gathered first weights. -/
theorem v16_at (n : Fin 288) (k : Fin 1024) (j : Fin 2048) (h : BitVec.toNat (w := 32) (x2 (ValueIdx.ix1 n)) < 32) :
    val_main_v16 (F := Ideal) x2 x4 (ValueIdx.ix3 n k j) = x4 (ValueIdx.ix4 (0 : Fin 2) (expOf (x2 (ValueIdx.ix1 n))) k j) := by
  unfold val_main_v16
  refine (slab_apply _ _ _ n k j (expOf (x2 (ValueIdx.ix1 n))) (v15_at x2 n h) (by decide)).trans ?_
  rw [val_main_v9_apply, val_main_v8_apply]
  refine congrArg x4 (funext fun a => Fin.ext ?_)
  have := (expOf (x2 (ValueIdx.ix1 n))).isLt; have := k.isLt; have := j.isLt
  generalize (expOf (x2 (ValueIdx.ix1 n))) = e at *
  match a with
  | ⟨0, _⟩ => rfl
  | ⟨1, _⟩ => show ((e.val * 1024 + k.val) * 2048 + j.val) / 2097152 % 32 = e.val; omega
  | ⟨2, _⟩ => show ((e.val * 1024 + k.val) * 2048 + j.val) / 2048 % 1024 = k.val; omega
  | ⟨3, _⟩ => show ((e.val * 1024 + k.val) * 2048 + j.val) % 2048 = j.val; omega

/-- The gathered second weights. -/
theorem v55_at (n : Fin 288) (k : Fin 1024) (j : Fin 1024) (h : BitVec.toNat (w := 32) (x2 (ValueIdx.ix1 n)) < 32) :
    val_main_v55 (F := Ideal) x2 x6 (ValueIdx.ix3 n k j) = x6 (ValueIdx.ix4 (0 : Fin 2) (expOf (x2 (ValueIdx.ix1 n))) k j) := by
  unfold val_main_v55
  refine (slab_apply _ _ _ n k j (expOf (x2 (ValueIdx.ix1 n))) (v15_at x2 n h) (by decide)).trans ?_
  rw [val_main_v48_apply, val_main_v47_apply]
  refine congrArg x6 (funext fun a => Fin.ext ?_)
  have := (expOf (x2 (ValueIdx.ix1 n))).isLt; have := k.isLt; have := j.isLt
  generalize (expOf (x2 (ValueIdx.ix1 n))) = e at *
  match a with
  | ⟨0, _⟩ => rfl
  | ⟨1, _⟩ => show ((e.val * 1024 + k.val) * 1024 + j.val) / 1048576 % 32 = e.val; omega
  | ⟨2, _⟩ => show ((e.val * 1024 + k.val) * 1024 + j.val) / 1024 % 1024 = k.val; omega
  | ⟨3, _⟩ => show ((e.val * 1024 + k.val) * 1024 + j.val) % 1024 = j.val; omega

/-- The gathered first biases, along the rows. -/
theorem v28_at (n : Fin 288) (r : Fin 256) (j : Fin 2048) (h : BitVec.toNat (w := 32) (x2 (ValueIdx.ix1 n)) < 32) :
    val_main_v28 (F := Ideal) x2 x5 (ValueIdx.ix3 n r j) = x5 (ValueIdx.ix3 (0 : Fin 2) (expOf (x2 (ValueIdx.ix1 n))) j) := by
  rw [val_main_v28_apply, val_main_v27_apply]
  have e : idx_main_v27 (idx_main_v28 (ValueIdx.ix3 n r j)) = ValueIdx.ix2 n j := funext fun a => Fin.ext (by
    match a with
    | ⟨0, _⟩ => rfl
    | ⟨1, _⟩ => rfl)
  rw [e]
  unfold val_main_v26
  refine (Routing.gather_row _ rfl rfl rfl rfl rfl _ _ n j (expOf (x2 (ValueIdx.ix1 n))) (v15_at x2 n h) (by decide)).trans ?_
  rw [val_main_v19_apply, val_main_v18_apply]
  refine congrArg x5 (funext fun a => Fin.ext ?_)
  have := (expOf (x2 (ValueIdx.ix1 n))).isLt; have := j.isLt
  generalize (expOf (x2 (ValueIdx.ix1 n))) = e at *
  match a with
  | ⟨0, _⟩ => rfl
  | ⟨1, _⟩ => show (e.val * 2048 + j.val) / 2048 % 32 = e.val; omega
  | ⟨2, _⟩ => show (e.val * 2048 + j.val) % 2048 = j.val; omega

/-- The gathered second biases, along the rows. -/
theorem v67_at (n : Fin 288) (r : Fin 256) (j : Fin 1024) (h : BitVec.toNat (w := 32) (x2 (ValueIdx.ix1 n)) < 32) :
    val_main_v67 (F := Ideal) x2 x7 (ValueIdx.ix3 n r j) = x7 (ValueIdx.ix3 (0 : Fin 2) (expOf (x2 (ValueIdx.ix1 n))) j) := by
  rw [val_main_v67_apply, val_main_v66_apply]
  have e : idx_main_v66 (idx_main_v67 (ValueIdx.ix3 n r j)) = ValueIdx.ix2 n j := funext fun a => Fin.ext (by
    match a with
    | ⟨0, _⟩ => rfl
    | ⟨1, _⟩ => rfl)
  rw [e]
  unfold val_main_v65
  refine (Routing.gather_row _ rfl rfl rfl rfl rfl _ _ n j (expOf (x2 (ValueIdx.ix1 n))) (v15_at x2 n h) (by decide)).trans ?_
  rw [val_main_v58_apply, val_main_v57_apply]
  refine congrArg x7 (funext fun a => Fin.ext ?_)
  have := (expOf (x2 (ValueIdx.ix1 n))).isLt; have := j.isLt
  generalize (expOf (x2 (ValueIdx.ix1 n))) = e at *
  match a with
  | ⟨0, _⟩ => rfl
  | ⟨1, _⟩ => show (e.val * 1024 + j.val) / 1024 % 32 = e.val; omega
  | ⟨2, _⟩ => show (e.val * 1024 + j.val) % 1024 = j.val; omega

/-! ## The feed-forward -/

/-- What block `n`'s row `r` goes through. -/
abbrev rowAt (n : Fin 288) (r : Fin 256) : Fin 1024 → EReal := fun k => x0 (ValueIdx.ix2 (tokOf (x1 (ValueIdx.ix1 (flat n r)))) k)
abbrev upAt (n : Fin 288) : Fin 1024 → Fin 2048 → EReal := fun k j => x4 (ValueIdx.ix4 (0 : Fin 2) (expOf (x2 (ValueIdx.ix1 n))) k j)
abbrev bupAt (n : Fin 288) : Fin 2048 → EReal := fun j => x5 (ValueIdx.ix3 (0 : Fin 2) (expOf (x2 (ValueIdx.ix1 n))) j)
abbrev dnAt (n : Fin 288) : Fin 1024 → Fin 1024 → EReal := fun f j => x6 (ValueIdx.ix4 (0 : Fin 2) (expOf (x2 (ValueIdx.ix1 n))) f j)
abbrev bdnAt (n : Fin 288) : Fin 1024 → EReal := fun j => x7 (ValueIdx.ix3 (0 : Fin 2) (expOf (x2 (ValueIdx.ix1 n))) j)

variable (n : Fin 288) (r : Fin 256) (h1 : BitVec.toNat (w := 32) (x1 (ValueIdx.ix1 (flat n r))) < 16384) (h2 : BitVec.toNat (w := 32) (x2 (ValueIdx.ix1 n)) < 32)

include h1 h2

theorem v29_at (j : Fin 2048) :
    val_main_v29 (F := Ideal) x0 x1 x2 x4 x5 (ValueIdx.ix3 n r j) = hid (rowAt x0 x1 n r) (upAt x2 x4 n) (bupAt x2 x5 n) j := by
  rw [val_main_v29_apply, val_main_v17_apply, v28_at x2 x5 n r j h2]
  refine congrArg (· + _) (Finset.sum_congr rfl fun k _ => ?_)
  have el : lidx_main_v17 (ValueIdx.ix3 n r j) k = ValueIdx.ix3 n r k := funext fun a => Fin.ext (by
    match a with
    | ⟨0, _⟩ => rfl
    | ⟨1, _⟩ => rfl
    | ⟨2, _⟩ => rfl)
  have er : ridx_main_v17 (ValueIdx.ix3 n r j) k = ValueIdx.ix3 n k j := funext fun a => Fin.ext (by
    match a with
    | ⟨0, _⟩ => rfl
    | ⟨1, _⟩ => rfl
    | ⟨2, _⟩ => rfl)
  rw [el, er, v7_at x0 x1 n r k h1, v16_at x2 x4 n k j h2]

theorem v32_at (f : Fin 1024) :
    val_main_v32 (F := Ideal) x0 x1 x2 x4 x5 (ValueIdx.ix3 n r f) = gate (rowAt x0 x1 n r) (upAt x2 x4 n) (bupAt x2 x5 n) f := by
  rw [val_main_v32_apply, val_main_v30_apply]
  have e : idx_main_v30 (ValueIdx.ix3 n r f) = ValueIdx.ix3 n r ⟨f.val, by have := f.isLt; omega⟩ := funext fun a => Fin.ext (by
    match a with
    | ⟨0, _⟩ => rfl
    | ⟨1, _⟩ => rfl
    | ⟨2, _⟩ => rfl)
  rw [e, v29_at x0 x1 x2 x4 x5 n r h1 h2, val_main_v31_apply]
  rfl

theorem v34_at (f : Fin 1024) :
    val_main_v34 (F := Ideal) x0 x1 x2 x4 x5 (ValueIdx.ix3 n r f) = lin (rowAt x0 x1 n r) (upAt x2 x4 n) (bupAt x2 x5 n) f := by
  rw [val_main_v34_apply, val_main_call0_v2_apply, val_main_v33_apply]
  have e : idx_main_v33 (ValueIdx.ix3 n r f) = ValueIdx.ix3 n r ⟨1024 + f.val, by have := f.isLt; omega⟩ := funext fun a => Fin.ext (by
    match a with
    | ⟨0, _⟩ => rfl
    | ⟨1, _⟩ => rfl
    | ⟨2, _⟩ => rfl)
  rw [e, v29_at x0 x1 x2 x4 x5 n r h1 h2, val_main_call0_v1_apply, val_main_call0_v4_apply]
  rfl

theorem v46_at (f : Fin 1024) :
    val_main_v46 (F := Ideal) x0 x1 x2 x4 x5 (ValueIdx.ix3 n r f)
      = act (gate (rowAt x0 x1 n r) (upAt x2 x4 n) (bupAt x2 x5 n) f) (lin (rowAt x0 x1 n r) (upAt x2 x4 n) (bupAt x2 x5 n) f) := by
  rw [val_main_v46_apply, val_main_v45_apply, val_main_v44_apply, val_main_v43_apply, val_main_v42_apply, val_main_v41_apply, val_main_v40_apply,
    val_main_v39_apply, val_main_v38_apply, val_main_v37_apply, val_main_v36_apply, val_main_v35_apply,
    v32_at x0 x1 x2 x4 x5 n r h1 h2, v34_at x0 x1 x2 x4 x5 n r h1 h2]
  rfl

theorem v68_at (j : Fin 1024) :
    val_main_v68 (F := Ideal) x0 x1 x2 x4 x5 x6 x7 (ValueIdx.ix3 n r j)
      = ffn (rowAt x0 x1 n r) (upAt x2 x4 n) (bupAt x2 x5 n) (dnAt x2 x6 n) (bdnAt x2 x7 n) j := by
  rw [val_main_v68_apply, val_main_v56_apply, v67_at x2 x7 n r j h2]
  refine congrArg (· + _) (Finset.sum_congr rfl fun k _ => ?_)
  have el : lidx_main_v56 (ValueIdx.ix3 n r j) k = ValueIdx.ix3 n r k := funext fun a => Fin.ext (by
    match a with
    | ⟨0, _⟩ => rfl
    | ⟨1, _⟩ => rfl
    | ⟨2, _⟩ => rfl)
  have er : ridx_main_v56 (ValueIdx.ix3 n r j) k = ValueIdx.ix3 n k j := funext fun a => Fin.ext (by
    match a with
    | ⟨0, _⟩ => rfl
    | ⟨1, _⟩ => rfl
    | ⟨2, _⟩ => rfl)
  rw [el, er, v46_at x0 x1 x2 x4 x5 n r h1 h2, v55_at x2 x6 n k j h2]

/-- The whole program's entry. -/
theorem v75_at (j : Fin 1024) :
    val_main_v75 (F := Ideal) x0 x1 x2 x3 x4 x5 x6 x7 (ValueIdx.ix2 (flat n r) j)
      = if (n.val : ℤ) < BitVec.toInt (n := 32) (x3 (ValueIdx.ix1 (0 : Fin 1)))
        then ffn (rowAt x0 x1 n r) (upAt x2 x4 n) (bupAt x2 x5 n) (dnAt x2 x6 n) (bdnAt x2 x7 n) j else 0 := by
  rw [val_main_v75_apply]
  have e : idx_main_v75 (ValueIdx.ix2 (flat n r) j) = ValueIdx.ix3 n r j := funext fun a => Fin.ext (by
    have := r.isLt; have := j.isLt; have := n.isLt
    match a with
    | ⟨0, _⟩ => show ((n.val * 256 + r.val) * 1024 + j.val) / 262144 = n.val; omega
    | ⟨1, _⟩ => show ((n.val * 256 + r.val) * 1024 + j.val) / 1024 % 256 = r.val; omega
    | ⟨2, _⟩ => show ((n.val * 256 + r.val) * 1024 + j.val) % 1024 = j.val; omega)
  rw [e, val_main_v74_apply, v68_at x0 x1 x2 x4 x5 x6 x7 n r h1 h2, val_main_call1_v1_apply, val_main_v73_apply, val_main_v72_apply, val_main_v71_apply,
    val_main_v69_apply, val_main_call1_v2_apply]
  have hz : val_main_call1_v0 (F := Ideal) (idx_main_call1_v2 (ValueIdx.ix3 n r j)) = (0 : EReal) := Ideal.ofBits_zero_f32
  have hw : val_main_v70 (F := Ideal) x3 (idx_main_v71 (idx_main_v73 (idx_main_call1_v1 (ValueIdx.ix3 n r j)))) = x3 (ValueIdx.ix1 (0 : Fin 1)) := by
    unfold val_main_v70 shapeCast
    refine congrArg x3 (funext fun a => Fin.ext ?_)
    match a with
    | ⟨0, _⟩ => exact Nat.lt_one_iff.mp (Fin.isLt _)
  rw [hz, hw]
  have hc : (IntOp.cmpi .slt (BitVec.ofNat 32 n.val) (x3 (ValueIdx.ix1 (0 : Fin 1))) = 1#1) ↔ (n.val : ℤ) < BitVec.toInt (n := 32) (x3 (ValueIdx.ix1 (0 : Fin 1))) := by
    unfold IntOp.cmpi
    rw [StableHlo.Predicate.ofBool_eq_one_iff, BitVec.slt, decide_eq_true_eq, StableHlo.Predicate.toInt_ofNat_small _ (by have := n.isLt; omega)]
  exact if_congr hc rfl rfl

end Cert.MoeRef

end
-- ==== Proof.MixRef.lean ====
/- The plain program's result at an entry: the layer norm of the row's residual and its four experts' feed-forwards, each
   times its gate. -/
module

public import proofs.«01_k».proof.Proof.Gen.MixReferenceIdeal.Read
public import proofs.«01_k».proof.Proof.MoeRef
public import proofs.«01_k».proof.Proof.OutMath

@[expose] public section

set_option maxRecDepth 16384

noncomputable section

namespace Cert.MixRef

open Cert.MixReferenceIdeal Cert.MixReferenceIdeal.Gen Cert.MixReferenceIdeal.Read Idealize.ShloMosaic Idealize.ShloMosaic.TcCoe Cert.MoeMath
open Cert.MoeRef (slab_apply wrap as_ofNat expOf)

variable (x0 : (⟨S32x1024, .f32⟩ : BufTy).Contents (Elt Ideal)) (x1 : (⟨S32x4, .i32⟩ : BufTy).Contents (Elt Ideal))
  (x2 : (⟨S32x4, .f32⟩ : BufTy).Contents (Elt Ideal))
  (x3 : (⟨S2x32x1024x2048, .f32⟩ : BufTy).Contents (Elt Ideal)) (x4 : (⟨S2x32x2048, .f32⟩ : BufTy).Contents (Elt Ideal))
  (x5 : (⟨S2x32x1024x1024, .f32⟩ : BufTy).Contents (Elt Ideal)) (x6 : (⟨S2x32x1024, .f32⟩ : BufTy).Contents (Elt Ideal))
  (x7 x8 : (⟨S2x1024, .f32⟩ : BufTy).Contents (Elt Ideal))

/-- Row `n`'s choice `k`, counted over all rows. -/
abbrev flat (n : Fin 32) (k : Fin 4) : Fin 128 := ⟨n.val * 4 + k.val, by have := n.isLt; have := k.isLt; omega⟩

/-- The expert row `n`'s choice `k` names. -/
abbrev pick (n : Fin 32) (k : Fin 4) : Fin 32 := expOf (x1 (ValueIdx.ix2 n k))

theorem v0_at (n : Fin 32) (k : Fin 4) : val_main_v0 (F := Ideal) x1 (ValueIdx.ix1 (flat n k)) = x1 (ValueIdx.ix2 n k) := by
  rw [val_main_v0_apply]
  refine congrArg x1 (funext fun a => Fin.ext ?_)
  have := k.isLt
  match a with
  | ⟨0, _⟩ => show (n.val * 4 + k.val) / 4 = n.val; omega
  | ⟨1, _⟩ => show (n.val * 4 + k.val) % 4 = k.val; omega

/-- The rows, each four times. -/
theorem v3_at (n : Fin 32) (k : Fin 4) (q : Fin 1024) : val_main_v3 (F := Ideal) x0 (ValueIdx.ix2 (flat n k) q) = x0 (ValueIdx.ix2 n q) := by
  rw [val_main_v3_apply, val_main_v2_apply, val_main_v1_apply]
  refine congrArg x0 (funext fun a => Fin.ext ?_)
  have := k.isLt; have := q.isLt
  match a with
  | ⟨0, _⟩ => show ((n.val * 4 + k.val) * 1024 + q.val) / 4096 = n.val; omega
  | ⟨1, _⟩ => show ((n.val * 4 + k.val) * 1024 + q.val) % 1024 = q.val; omega

/-- The numbers that take the first weights. -/
theorem v11_at (n : Fin 32) (k : Fin 4) (h : BitVec.toNat (w := 32) (x1 (ValueIdx.ix2 n k)) < 32) :
    val_main_v11 (F := Ideal) x1 (ValueIdx.ix2 (flat n k) (0 : Fin 1)) = BitVec.ofNat 32 (pick x1 n k).val := by
  rw [val_main_v11_apply]
  have e : idx_main_v11 (ValueIdx.ix2 (flat n k) (0 : Fin 1)) = ValueIdx.ix1 (flat n k) := funext fun a => Fin.ext (by
    match a with
    | ⟨0, _⟩ => rfl)
  rw [e, val_main_v10_apply, val_main_v7_apply, val_main_v6_apply, v0_at x1]
  exact (wrap (w := x1 (ValueIdx.ix2 n k)) (by omega)).trans (as_ofNat h)

/-- The numbers that take the first biases. -/
theorem v21_at (n : Fin 32) (k : Fin 4) (h : BitVec.toNat (w := 32) (x1 (ValueIdx.ix2 n k)) < 32) :
    val_main_v21 (F := Ideal) x1 (ValueIdx.ix2 (flat n k) (0 : Fin 1)) = BitVec.ofNat 32 (pick x1 n k).val := by
  rw [val_main_v21_apply]
  have e : idx_main_v21 (ValueIdx.ix2 (flat n k) (0 : Fin 1)) = ValueIdx.ix1 (flat n k) := funext fun a => Fin.ext (by
    match a with
    | ⟨0, _⟩ => rfl)
  rw [e, val_main_v20_apply, val_main_v17_apply, val_main_v16_apply, v0_at x1]
  exact (wrap (w := x1 (ValueIdx.ix2 n k)) (by omega)).trans (as_ofNat h)

/-- The numbers that take the second weights. -/
theorem v48_at (n : Fin 32) (k : Fin 4) (h : BitVec.toNat (w := 32) (x1 (ValueIdx.ix2 n k)) < 32) :
    val_main_v48 (F := Ideal) x1 (ValueIdx.ix2 (flat n k) (0 : Fin 1)) = BitVec.ofNat 32 (pick x1 n k).val := by
  rw [val_main_v48_apply]
  have e : idx_main_v48 (ValueIdx.ix2 (flat n k) (0 : Fin 1)) = ValueIdx.ix1 (flat n k) := funext fun a => Fin.ext (by
    match a with
    | ⟨0, _⟩ => rfl)
  rw [e, val_main_v47_apply, val_main_v44_apply, val_main_v43_apply, v0_at x1]
  exact (wrap (w := x1 (ValueIdx.ix2 n k)) (by omega)).trans (as_ofNat h)

/-- The numbers that take the second biases. -/
theorem v58_at (n : Fin 32) (k : Fin 4) (h : BitVec.toNat (w := 32) (x1 (ValueIdx.ix2 n k)) < 32) :
    val_main_v58 (F := Ideal) x1 (ValueIdx.ix2 (flat n k) (0 : Fin 1)) = BitVec.ofNat 32 (pick x1 n k).val := by
  rw [val_main_v58_apply]
  have e : idx_main_v58 (ValueIdx.ix2 (flat n k) (0 : Fin 1)) = ValueIdx.ix1 (flat n k) := funext fun a => Fin.ext (by
    match a with
    | ⟨0, _⟩ => rfl)
  rw [e, val_main_v57_apply, val_main_v54_apply, val_main_v53_apply, v0_at x1]
  exact (wrap (w := x1 (ValueIdx.ix2 n k)) (by omega)).trans (as_ofNat h)

/-- The gathered first weights. -/
theorem v12_at (n : Fin 32) (k : Fin 4) (p : Fin 1024) (q : Fin 2048) (h : BitVec.toNat (w := 32) (x1 (ValueIdx.ix2 n k)) < 32) :
    val_main_v12 (F := Ideal) x1 x3 (ValueIdx.ix3 (flat n k) p q) = x3 (ValueIdx.ix4 (0 : Fin 2) (pick x1 n k) p q) := by
  unfold val_main_v12
  refine (slab_apply _ _ _ (flat n k) p q (pick x1 n k) (v11_at x1 n k h) (by decide)).trans ?_
  rw [val_main_v5_apply, val_main_v4_apply]
  refine congrArg x3 (funext fun a => Fin.ext ?_)
  have := (pick x1 n k).isLt; have := p.isLt; have := q.isLt
  generalize (pick x1 n k) = e at *
  match a with
  | ⟨0, _⟩ => rfl
  | ⟨1, _⟩ => show ((e.val * 1024 + p.val) * 2048 + q.val) / 2097152 % 32 = e.val; omega
  | ⟨2, _⟩ => show ((e.val * 1024 + p.val) * 2048 + q.val) / 2048 % 1024 = p.val; omega
  | ⟨3, _⟩ => show ((e.val * 1024 + p.val) * 2048 + q.val) % 2048 = q.val; omega

/-- The gathered second weights. -/
theorem v49_at (n : Fin 32) (k : Fin 4) (p : Fin 1024) (q : Fin 1024) (h : BitVec.toNat (w := 32) (x1 (ValueIdx.ix2 n k)) < 32) :
    val_main_v49 (F := Ideal) x1 x5 (ValueIdx.ix3 (flat n k) p q) = x5 (ValueIdx.ix4 (0 : Fin 2) (pick x1 n k) p q) := by
  unfold val_main_v49
  refine (slab_apply _ _ _ (flat n k) p q (pick x1 n k) (v48_at x1 n k h) (by decide)).trans ?_
  rw [val_main_v42_apply, val_main_v41_apply]
  refine congrArg x5 (funext fun a => Fin.ext ?_)
  have := (pick x1 n k).isLt; have := p.isLt; have := q.isLt
  generalize (pick x1 n k) = e at *
  match a with
  | ⟨0, _⟩ => rfl
  | ⟨1, _⟩ => show ((e.val * 1024 + p.val) * 1024 + q.val) / 1048576 % 32 = e.val; omega
  | ⟨2, _⟩ => show ((e.val * 1024 + p.val) * 1024 + q.val) / 1024 % 1024 = p.val; omega
  | ⟨3, _⟩ => show ((e.val * 1024 + p.val) * 1024 + q.val) % 1024 = q.val; omega

/-- The gathered first biases. -/
theorem v22_at (n : Fin 32) (k : Fin 4) (q : Fin 2048) (h : BitVec.toNat (w := 32) (x1 (ValueIdx.ix2 n k)) < 32) :
    val_main_v22 (F := Ideal) x1 x4 (ValueIdx.ix2 (flat n k) q) = x4 (ValueIdx.ix3 (0 : Fin 2) (pick x1 n k) q) := by
  unfold val_main_v22
  refine (Routing.gather_row _ rfl rfl rfl rfl rfl _ _ (flat n k) q (pick x1 n k) (v21_at x1 n k h) (by decide)).trans ?_
  rw [val_main_v15_apply, val_main_v14_apply]
  refine congrArg x4 (funext fun a => Fin.ext ?_)
  have := (pick x1 n k).isLt; have := q.isLt
  generalize (pick x1 n k) = e at *
  match a with
  | ⟨0, _⟩ => rfl
  | ⟨1, _⟩ => show (e.val * 2048 + q.val) / 2048 % 32 = e.val; omega
  | ⟨2, _⟩ => show (e.val * 2048 + q.val) % 2048 = q.val; omega

/-- The gathered second biases. -/
theorem v59_at (n : Fin 32) (k : Fin 4) (q : Fin 1024) (h : BitVec.toNat (w := 32) (x1 (ValueIdx.ix2 n k)) < 32) :
    val_main_v59 (F := Ideal) x1 x6 (ValueIdx.ix2 (flat n k) q) = x6 (ValueIdx.ix3 (0 : Fin 2) (pick x1 n k) q) := by
  unfold val_main_v59
  refine (Routing.gather_row _ rfl rfl rfl rfl rfl _ _ (flat n k) q (pick x1 n k) (v58_at x1 n k h) (by decide)).trans ?_
  rw [val_main_v52_apply, val_main_v51_apply]
  refine congrArg x6 (funext fun a => Fin.ext ?_)
  have := (pick x1 n k).isLt; have := q.isLt
  generalize (pick x1 n k) = e at *
  match a with
  | ⟨0, _⟩ => rfl
  | ⟨1, _⟩ => show (e.val * 1024 + q.val) / 1024 % 32 = e.val; omega
  | ⟨2, _⟩ => show (e.val * 1024 + q.val) % 1024 = q.val; omega

/-! ## The feed-forward -/

/-- What row `n` becomes at expert `e`, entry `j`. -/
def expert (n : Fin 32) (e : Fin 32) (j : Fin 1024) : EReal :=
  ffn (fun q => x0 (ValueIdx.ix2 n q)) (fun p q => x3 (ValueIdx.ix4 (0 : Fin 2) e p q)) (fun q => x4 (ValueIdx.ix3 (0 : Fin 2) e q))
    (fun p q => x5 (ValueIdx.ix4 (0 : Fin 2) e p q)) (fun q => x6 (ValueIdx.ix3 (0 : Fin 2) e q)) j

abbrev rowAt (n : Fin 32) : Fin 1024 → EReal := fun q => x0 (ValueIdx.ix2 n q)
abbrev upAt (n : Fin 32) (k : Fin 4) : Fin 1024 → Fin 2048 → EReal := fun p q => x3 (ValueIdx.ix4 (0 : Fin 2) (pick x1 n k) p q)
abbrev bupAt (n : Fin 32) (k : Fin 4) : Fin 2048 → EReal := fun q => x4 (ValueIdx.ix3 (0 : Fin 2) (pick x1 n k) q)

section

variable (n : Fin 32) (k : Fin 4) (h : BitVec.toNat (w := 32) (x1 (ValueIdx.ix2 n k)) < 32)

include h

theorem v23_at (j : Fin 2048) :
    val_main_v23 (F := Ideal) x0 x1 x3 x4 (ValueIdx.ix2 (flat n k) j) = hid (rowAt x0 n) (upAt x1 x3 n k) (bupAt x1 x4 n k) j := by
  rw [val_main_v23_apply, val_main_v13_apply, v22_at x1 x4 n k j h]
  refine congrArg (· + _) (Finset.sum_congr rfl fun q _ => ?_)
  have el : lidx_main_v13 (ValueIdx.ix2 (flat n k) j) q = ValueIdx.ix2 (flat n k) q := funext fun a => Fin.ext (by
    match a with
    | ⟨0, _⟩ => rfl
    | ⟨1, _⟩ => rfl)
  have er : ridx_main_v13 (ValueIdx.ix2 (flat n k) j) q = ValueIdx.ix3 (flat n k) q j := funext fun a => Fin.ext (by
    match a with
    | ⟨0, _⟩ => rfl
    | ⟨1, _⟩ => rfl
    | ⟨2, _⟩ => rfl)
  rw [el, er, v3_at x0 n k q, v12_at x1 x3 n k q j h]

theorem v26_at (f : Fin 1024) :
    val_main_v26 (F := Ideal) x0 x1 x3 x4 (ValueIdx.ix2 (flat n k) f) = gate (rowAt x0 n) (upAt x1 x3 n k) (bupAt x1 x4 n k) f := by
  rw [val_main_v26_apply, val_main_v24_apply]
  have e : idx_main_v24 (ValueIdx.ix2 (flat n k) f) = ValueIdx.ix2 (flat n k) ⟨f.val, by have := f.isLt; omega⟩ := funext fun a => Fin.ext (by
    match a with
    | ⟨0, _⟩ => rfl
    | ⟨1, _⟩ => rfl)
  rw [e, v23_at x0 x1 x3 x4 n k h, val_main_v25_apply]
  rfl

theorem v28_at (f : Fin 1024) :
    val_main_v28 (F := Ideal) x0 x1 x3 x4 (ValueIdx.ix2 (flat n k) f) = lin (rowAt x0 n) (upAt x1 x3 n k) (bupAt x1 x4 n k) f := by
  rw [val_main_v28_apply, val_main_call0_v2_apply, val_main_v27_apply]
  have e : idx_main_v27 (ValueIdx.ix2 (flat n k) f) = ValueIdx.ix2 (flat n k) ⟨1024 + f.val, by have := f.isLt; omega⟩ := funext fun a => Fin.ext (by
    match a with
    | ⟨0, _⟩ => rfl
    | ⟨1, _⟩ => rfl)
  rw [e, v23_at x0 x1 x3 x4 n k h, val_main_call0_v1_apply, val_main_call0_v4_apply]
  rfl

theorem v40_at (f : Fin 1024) :
    val_main_v40 (F := Ideal) x0 x1 x3 x4 (ValueIdx.ix2 (flat n k) f)
      = act (gate (rowAt x0 n) (upAt x1 x3 n k) (bupAt x1 x4 n k) f) (lin (rowAt x0 n) (upAt x1 x3 n k) (bupAt x1 x4 n k) f) := by
  rw [val_main_v40_apply, val_main_v39_apply, val_main_v38_apply, val_main_v37_apply, val_main_v36_apply, val_main_v35_apply, val_main_v34_apply,
    val_main_v33_apply, val_main_v32_apply, val_main_v31_apply, val_main_v30_apply, val_main_v29_apply,
    v26_at x0 x1 x3 x4 n k h, v28_at x0 x1 x3 x4 n k h]
  rfl

theorem v60_at (j : Fin 1024) :
    val_main_v60 (F := Ideal) x0 x1 x3 x4 x5 x6 (ValueIdx.ix2 (flat n k) j) = expert x0 x3 x4 x5 x6 n (pick x1 n k) j := by
  rw [val_main_v60_apply, val_main_v50_apply, v59_at x1 x6 n k j h]
  refine congrArg (· + _) (Finset.sum_congr rfl fun q _ => ?_)
  have el : lidx_main_v50 (ValueIdx.ix2 (flat n k) j) q = ValueIdx.ix2 (flat n k) q := funext fun a => Fin.ext (by
    match a with
    | ⟨0, _⟩ => rfl
    | ⟨1, _⟩ => rfl)
  have er : ridx_main_v50 (ValueIdx.ix2 (flat n k) j) q = ValueIdx.ix3 (flat n k) q j := funext fun a => Fin.ext (by
    match a with
    | ⟨0, _⟩ => rfl
    | ⟨1, _⟩ => rfl
    | ⟨2, _⟩ => rfl)
  rw [el, er, v40_at x0 x1 x3 x4 n k h, v49_at x1 x5 n k q j h]

end

/-! ## The residual and its norm -/

/-- The residual and the four experts, row `n`. -/
def row (n : Fin 32) (j : Fin 1024) : EReal :=
  OutMath.alpha * x0 (ValueIdx.ix2 n j) + ∑ k : Fin 4, expert x0 x3 x4 x5 x6 n (pick x1 n k) j * x2 (ValueIdx.ix2 n k)

variable (h : ∀ (n : Fin 32) (k : Fin 4), BitVec.toNat (w := 32) (x1 (ValueIdx.ix2 n k)) < 32)

include h

theorem v65_at (n : Fin 32) (j : Fin 1024) :
    val_main_v65 (F := Ideal) x0 x1 x2 x3 x4 x5 x6 (ValueIdx.ix2 n j)
      = ∑ k : Fin 4, expert x0 x3 x4 x5 x6 n (pick x1 n k) j * x2 (ValueIdx.ix2 n k) := by
  rw [val_main_v65_apply, show val_main_cst_13 (F := Ideal) (Shape.Idx.first h_S_) = 0 from Ideal.ofBits_zero_f32, zero_add]
  refine Finset.sum_congr rfl fun k _ => ?_
  have e : idx_main_v65 (ValueIdx.ix2 n j) k = ValueIdx.ix3 n k j := funext fun a => Fin.ext (by
    match a with
    | ⟨0, _⟩ => rfl
    | ⟨1, _⟩ => rfl
    | ⟨2, _⟩ => rfl)
  have e1 : idx_main_v61 (ValueIdx.ix3 n k j) = ValueIdx.ix2 (flat n k) j := funext fun a => Fin.ext (by
    have := j.isLt
    match a with
    | ⟨0, _⟩ => show ((n.val * 4 + k.val) * 1024 + j.val) / 1024 = n.val * 4 + k.val; omega
    | ⟨1, _⟩ => show ((n.val * 4 + k.val) * 1024 + j.val) % 1024 = j.val; omega)
  have e2 : idx_main_v62 (idx_main_v63 (ValueIdx.ix3 n k j)) = ValueIdx.ix2 n k := funext fun a => Fin.ext (by
    match a with
    | ⟨0, _⟩ => rfl
    | ⟨1, _⟩ => rfl)
  rw [e, val_main_v64_apply, val_main_v61_apply, e1, v60_at x0 x1 x3 x4 x5 x6 n k (h n k), val_main_v63_apply, val_main_v62_apply, e2]
  rfl

theorem v68_eq (i : S32x1024.Idx) : val_main_v68 (F := Ideal) x0 x1 x2 x3 x4 x5 x6 i = row x0 x1 x2 x3 x4 x5 x6 (i 0) (i 1) := by
  rw [val_main_v68_apply, val_main_v67_apply, val_main_v66_apply, (congrArg _ (ValueIdx.eq_ix2 i)).trans (v65_at x0 x1 x2 x3 x4 x5 x6 h (i 0) (i 1))]
  unfold row
  rw [show x0 i = x0 (ValueIdx.ix2 (i 0) (i 1)) from congrArg x0 (ValueIdx.eq_ix2 i)]
  rfl

theorem v69_eq (i : S32.Idx) : val_main_v69 (F := Ideal) x0 x1 x2 x3 x4 x5 x6 i = ∑ k : Fin 1024, row x0 x1 x2 x3 x4 x5 x6 (i 0) k := by
  rw [val_main_v69_apply, show val_main_cst_15 (F := Ideal) (Shape.Idx.first h_S_) = 0 from Ideal.ofBits_zero_f32, zero_add]
  exact Finset.sum_congr rfl fun k _ => v68_eq x0 x1 x2 x3 x4 x5 x6 h _

theorem v72_eq (i : S32x1.Idx) : val_main_v72 (F := Ideal) x0 x1 x2 x3 x4 x5 x6 i
    = Ideal.div (∑ k : Fin 1024, row x0 x1 x2 x3 x4 x5 x6 (i 0) k) OutMath.width := by
  rw [val_main_v72_apply, val_main_v70_apply, v69_eq x0 x1 x2 x3 x4 x5 x6 h, val_main_v71_apply]; rfl

theorem v74_eq (i : S32x1024.Idx) : val_main_v74 (F := Ideal) x0 x1 x2 x3 x4 x5 x6 i = OutMath.dev (row x0 x1 x2 x3 x4 x5 x6 (i 0)) (i 1) := by
  rw [val_main_v74_apply, val_main_v73_apply, v68_eq x0 x1 x2 x3 x4 x5 x6 h, v72_eq x0 x1 x2 x3 x4 x5 x6 h]; rfl

theorem v81_eq (i : S32x1024.Idx) : val_main_v81 (F := Ideal) x0 x1 x2 x3 x4 x5 x6 i = OutMath.dev (row x0 x1 x2 x3 x4 x5 x6 (i 0)) (i 1) := by
  rw [val_main_v81_apply, val_main_v80_apply, v68_eq x0 x1 x2 x3 x4 x5 x6 h, v72_eq x0 x1 x2 x3 x4 x5 x6 h]; rfl

theorem v76_eq (i : S32.Idx) : val_main_v76 (F := Ideal) x0 x1 x2 x3 x4 x5 x6 i
    = ∑ k : Fin 1024, OutMath.dev (row x0 x1 x2 x3 x4 x5 x6 (i 0)) k * OutMath.dev (row x0 x1 x2 x3 x4 x5 x6 (i 0)) k := by
  rw [val_main_v76_apply, show val_main_cst_17 (F := Ideal) (Shape.Idx.first h_S_) = 0 from Ideal.ofBits_zero_f32, zero_add]
  refine Finset.sum_congr rfl fun k _ => ?_
  rw [val_main_v75_apply, v74_eq x0 x1 x2 x3 x4 x5 x6 h]; rfl

theorem v84_eq (i : S32x1.Idx) : val_main_v84 (F := Ideal) x0 x1 x2 x3 x4 x5 x6 i
    = Ideal.rsqrt (OutMath.var (row x0 x1 x2 x3 x4 x5 x6 (i 0)) + OutMath.eps) := by
  rw [val_main_v84_apply, val_main_v83_apply, val_main_v79_apply, val_main_v77_apply, v76_eq x0 x1 x2 x3 x4 x5 x6 h, val_main_v78_apply,
    val_main_v82_apply]; rfl

omit h in
theorem scale_at (R : Fin 32) (j : Fin 1024) : val_main_v90 (F := Ideal) x7 (ValueIdx.ix2 R j) = x7 (ValueIdx.ix2 (0 : Fin 2) j) := by
  rw [val_main_v90_apply, val_main_v89_apply, val_main_v88_apply, val_main_v87_apply]
  refine congrArg x7 (funext fun a => Fin.ext ?_)
  match a with
  | ⟨0, _⟩ => rfl
  | ⟨1, _⟩ => exact Nat.mod_eq_of_lt j.isLt

omit h in
theorem shift_at (R : Fin 32) (j : Fin 1024) : val_main_v95 (F := Ideal) x8 (ValueIdx.ix2 R j) = x8 (ValueIdx.ix2 (0 : Fin 2) j) := by
  rw [val_main_v95_apply, val_main_v94_apply, val_main_v93_apply, val_main_v92_apply]
  refine congrArg x8 (funext fun a => Fin.ext ?_)
  match a with
  | ⟨0, _⟩ => rfl
  | ⟨1, _⟩ => exact Nat.mod_eq_of_lt j.isLt

/-- The whole program's entry. -/
theorem v96_at (R : Fin 32) (j : Fin 1024) :
    val_main_v96 (F := Ideal) x0 x1 x2 x3 x4 x5 x6 x7 x8 (ValueIdx.ix2 R j)
      = OutMath.norm (row x0 x1 x2 x3 x4 x5 x6 R) (x7 (ValueIdx.ix2 (0 : Fin 2) j)) (x8 (ValueIdx.ix2 (0 : Fin 2) j)) j := by
  rw [val_main_v96_apply, val_main_v91_apply, val_main_v86_apply, v81_eq x0 x1 x2 x3 x4 x5 x6 h, val_main_v85_apply, v84_eq x0 x1 x2 x3 x4 x5 x6 h,
    scale_at x7, shift_at x8]
  rfl

end Cert.MixRef

end
-- ==== Proof.MixMath.lean ====
/- A row's four experts, weighted by its gates, as a sum over all the experts. -/
module

public import Mathlib.Data.EReal.Operations
public import Mathlib.Algebra.BigOperators.Fin

@[expose] public section

namespace Cert.MixMath

/-- The gate an expert has for a row: that of the row's choice which is this expert, zero when none is. -/
noncomputable def gateOf (pick : Fin 4 → Fin 32) (g : Fin 4 → EReal) (e : Fin 32) : EReal :=
  ∑ k : Fin 4, if pick k = e then g k else 0

/-- With no expert chosen twice, the sum over all experts is the sum over the four choices. -/
theorem all_eq_chosen (pick : Fin 4 → Fin 32) (hp : Function.Injective pick) (g : Fin 4 → EReal) (y : Fin 32 → EReal) :
    ∑ e : Fin 32, gateOf pick g e * y e = ∑ k : Fin 4, y (pick k) * g k := by
  have h : ∀ e : Fin 32, gateOf pick g e * y e = ∑ k : Fin 4, if pick k = e then y (pick k) * g k else 0 := by
    intro e
    by_cases hk : ∃ k, pick k = e
    · obtain ⟨k, rfl⟩ := hk
      have l : gateOf pick g (pick k) = g k := by
        unfold gateOf
        rw [Finset.sum_eq_single k (fun b _ hb => if_neg fun hc => hb (hp hc)) (fun hc => absurd (Finset.mem_univ k) hc), if_pos rfl]
      rw [l, Finset.sum_eq_single k (fun b _ hb => if_neg fun hc => hb (hp hc)) (fun hc => absurd (Finset.mem_univ k) hc), if_pos rfl,
        EReal.mul_comm]
    · have l : gateOf pick g e = 0 := Finset.sum_eq_zero fun k _ => if_neg fun hc => hk ⟨k, hc⟩
      rw [l, zero_mul, Finset.sum_eq_zero fun k _ => if_neg fun hc => hk ⟨k, hc⟩]
  rw [Finset.sum_congr rfl fun e _ => h e, Finset.sum_comm]
  refine Finset.sum_congr rfl fun k _ => ?_
  rw [Finset.sum_ite_eq, if_pos (Finset.mem_univ _)]

end Cert.MixMath
-- ==== Proof.MixCases.lean ====
/- What each kind of point leaves: the first adds the expert's part to zero, the others to what the point before left, and
   the last also writes the layer norm. -/
module

public import proofs.«01_k».proof.Proof.Gen.MixKernelIdeal.Value
public import Idealize.ShloMosaic.Lib.Pipeline.ValueKit

@[expose] public section

set_option maxRecDepth 16384

noncomputable section

namespace Cert.MixValue

open Cert.MixKernelIdeal Cert.MixKernelIdeal.Gen Idealize.ShloMosaic
open Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable {F : FTy → Type} [FloatOps F]

/-- What a point stores into the scratch that holds `acc`. -/
abbrev added (x0 : Vec F S32x1024 .f32) (x1 : Vec F S1x32x1 .f32) (x2 : Vec F S1x1x1024x2048 .f32) (x3 : Vec F S1x1x1x2048 .f32)
    (x4 : Vec F S1x1x1024x1024 .f32) (x5 : Vec F S1x1x1x1024 .f32) (acc : Vec F S32x1024 .f32) : Vec F S32x1024 .f32 :=
  k0_pay1 (k0_pay4 x0 x2 x3) x4 x5 acc x1

variable (c : Dev nD) (i : grid0.Coords)
    (a1 : Memref sig .tc .vmem S32x1024 .f32) (h1 : a1.IsWhole)
    (a2 : Memref sig .tc .vmem S1x32x1 .f32) (h2 : a2.IsWhole)
    (a3 : Memref sig .tc .vmem S1x1x1024x2048 .f32) (h3 : a3.IsWhole)
    (a4 : Memref sig .tc .vmem S1x1x1x2048 .f32) (h4 : a4.IsWhole)
    (a5 : Memref sig .tc .vmem S1x1x1024x1024 .f32) (h5 : a5.IsWhole)
    (a6 : Memref sig .tc .vmem S1x1x1x1024 .f32) (h6 : a6.IsWhole)
    (a7 : Memref sig .tc .vmem S1x1024 .f32) (h7 : a7.IsWhole)
    (a8 : Memref sig .tc .vmem S1x1024 .f32) (h8 : a8.IsWhole)
    (a9 : Memref sig .tc .vmem S32x1024 .f32) (h9 : a9.IsWhole)
    (a10 : Memref sig .tc .vmem S32x1024 .f32) (h10 : a10.IsWhole)
    (x0 : Vec F S32x1024 .f32) (x1 : Vec F S1x32x1 .f32) (x2 : Vec F S1x1x1024x2048 .f32) (x3 : Vec F S1x1x1x2048 .f32) (x4 : Vec F S1x1x1024x1024 .f32) (x5 : Vec F S1x1x1x1024 .f32) (x6 : Vec F S1x1024 .f32) (x7 : Vec F S1x1024 .f32)

theorem first (hc0 : cond0_0 i) (hc1 : ¬cond0_1 i) :
    sout0_A_0 c i a1 h1 a2 h2 a3 h3 a4 h4 a5 h5 a6 h6 a7 h7 a8 h8 a9 h9 a10 h10 hc0 hc1 x0 x1 x2 x3 x4 x5 x6 x7 = added x0 x1 x2 x3 x4 x5 k0_pay3 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5 x6 x7)]
  unfold kernelRun0_A
  dsimp only
  sl_unfold_words
  rw [View.canon_cons_unit_zero (S := S32x1024) hz2, View.readCov_unit_zero (S := S32x1024) _ hz2]
  simp only [View.readAt_eq_ld, h1.read_unread, h2.read_unread, h3.read_unread, h4.read_unread, h5.read_unread, h6.read_unread, h7.read_unread,
    h8.read_unread, h10.read_unread, View.ld_unit_zero (S := S32x1024) hz2, View.ld_unit_zero (S := S1x32x1) hz3,
    View.ld_unit_zero (S := S1x1x1024x2048) hz4, View.ld_unit_zero (S := S1x1x1x2048) hz4, View.ld_unit_zero (S := S1x1x1024x1024) hz4,
    View.ld_unit_zero (S := S1x1x1x1024) hz4, View.ld_unit_zero (S := S1x1024) hz2]

theorem middle (hc0 : ¬cond0_0 i) (hc1 : ¬cond0_1 i) (acc : Vec F S32x1024 .f32) :
    sout0_B_0 c i a1 h1 a2 h2 a3 h3 a4 h4 a5 h5 a6 h6 a7 h7 a8 h8 a9 h9 a10 h10 hc0 hc1 x0 x1 x2 x3 x4 x5 x6 x7 acc = added x0 x1 x2 x3 x4 x5 acc := by
  unfold sout0_B_0
  rw [View.read_writes_eq_canon _ _ _ (scover0_B_0 c i a1 h1 a2 h2 a3 h3 a4 h4 a5 h5 a6 h6 a7 h7 a8 h8 a9 h9 a10 h10 hc0 hc1 x0 x1 x2 x3 x4 x5 x6 x7 acc)]
  unfold kernelRun0_B
  dsimp only
  sl_unfold_words
  rw [View.canon_unit_zero hz2]
  simp only [View.readAt_eq_ld, h1.read_unread, h2.read_unread, h3.read_unread, h4.read_unread, h5.read_unread, h6.read_unread, h7.read_unread,
    h8.read_unread, h10.read_unread, View.ld_unit_zero (S := S32x1024) hz2, View.ld_unit_zero (S := S1x32x1) hz3,
    View.ld_unit_zero (S := S1x1x1024x2048) hz4, View.ld_unit_zero (S := S1x1x1x2048) hz4, View.ld_unit_zero (S := S1x1x1024x1024) hz4,
    View.ld_unit_zero (S := S1x1x1x1024) hz4, View.ld_unit_zero (S := S1x1024) hz2]

theorem lastHeld (hc0 : ¬cond0_0 i) (hc1 : cond0_1 i) (acc : Vec F S32x1024 .f32) :
    sout0_C_0 c i a1 h1 a2 h2 a3 h3 a4 h4 a5 h5 a6 h6 a7 h7 a8 h8 a9 h9 a10 h10 hc0 hc1 x0 x1 x2 x3 x4 x5 x6 x7 acc = added x0 x1 x2 x3 x4 x5 acc := by
  unfold sout0_C_0
  rw [View.read_writes_eq_canon _ _ _ (scover0_C_0 c i a1 h1 a2 h2 a3 h3 a4 h4 a5 h5 a6 h6 a7 h7 a8 h8 a9 h9 a10 h10 hc0 hc1 x0 x1 x2 x3 x4 x5 x6 x7 acc)]
  unfold kernelRun0_C
  dsimp only
  sl_unfold_words
  rw [View.canon_unit_zero hz2]
  simp only [View.readAt_eq_ld, h1.read_unread, h2.read_unread, h3.read_unread, h4.read_unread, h5.read_unread, h6.read_unread, h7.read_unread,
    h8.read_unread, h10.read_unread, View.ld_unit_zero (S := S32x1024) hz2, View.ld_unit_zero (S := S1x32x1) hz3,
    View.ld_unit_zero (S := S1x1x1024x2048) hz4, View.ld_unit_zero (S := S1x1x1x2048) hz4, View.ld_unit_zero (S := S1x1x1024x1024) hz4,
    View.ld_unit_zero (S := S1x1x1x1024) hz4, View.ld_unit_zero (S := S1x1024) hz2]

theorem last (hc0 : ¬cond0_0 i) (hc1 : cond0_1 i) (acc : Vec F S32x1024 .f32) :
    out0_C_8 c i a1 h1 a2 h2 a3 h3 a4 h4 a5 h5 a6 h6 a7 h7 a8 h8 a9 h9 a10 h10 hc0 hc1 x0 x1 x2 x3 x4 x5 x6 x7 acc = k0_pay2 x0 (added x0 x1 x2 x3 x4 x5 acc) x6 x7 := by
  unfold out0_C_8
  rw [View.read_writes_eq_canon _ _ _ (cover0_C_8 c i a1 h1 a2 h2 a3 h3 a4 h4 a5 h5 a6 h6 a7 h7 a8 h8 a9 h9 a10 h10 hc0 hc1 x0 x1 x2 x3 x4 x5 x6 x7 acc)]
  unfold kernelRun0_C
  dsimp only
  sl_unfold_words
  rw [View.canon_unit_zero hz2, View.readCov_unit_zero (S := S32x1024) _ hz2]
  simp only [View.readAt_eq_ld, h1.read_unread, h2.read_unread, h3.read_unread, h4.read_unread, h5.read_unread, h6.read_unread, h7.read_unread,
    h8.read_unread, h10.read_unread, View.ld_unit_zero (S := S32x1024) hz2, View.ld_unit_zero (S := S1x32x1) hz3,
    View.ld_unit_zero (S := S1x1x1024x2048) hz4, View.ld_unit_zero (S := S1x1x1x2048) hz4, View.ld_unit_zero (S := S1x1x1024x1024) hz4,
    View.ld_unit_zero (S := S1x1x1x1024) hz4, View.ld_unit_zero (S := S1x1024) hz2]

end Cert.MixValue

end
-- ==== Proof.MixRows.lean ====
/- What a point adds to the scratch, and the layer norm the last point writes, entry by entry on extended reals. -/
module

public import proofs.«01_k».proof.Proof.MixCases
public import proofs.«01_k».proof.Proof.MoeMath
public import proofs.«01_k».proof.Proof.OutMath
public import Idealize.ShloMosaic.Lib.MatmulPlain

@[expose] public section

set_option maxRecDepth 16384

noncomputable section

namespace Cert.MixValue

open Cert.MixKernelIdeal Cert.MixKernelIdeal.Gen Idealize.ShloMosaic
open Idealize.ShloMosaic.TcCoe Idealize.SL.Sem Cert.MoeMath

/-! ## The feed-forward of the rows -/

section Ffn

variable (X : Vec Ideal S32x1024 .f32) (U : Vec Ideal S1x1x1024x2048 .f32) (B : Vec Ideal S1x1x1x2048 .f32)
  (D : Vec Ideal S1x1x1024x1024 .f32) (E : Vec Ideal S1x1x1x1024 .f32)

/-- Row `r` of the samples, and an expert's weights as matrices. -/
abbrev xrow (r : Fin 32) : Fin 1024 → EReal := fun k => X (ValueIdx.ix2 r k)
abbrev up : Fin 1024 → Fin 2048 → EReal := fun k j => U (ValueIdx.ix4 (0 : Fin 1) (0 : Fin 1) k j)
abbrev bup : Fin 2048 → EReal := fun j => B (ValueIdx.ix4 (0 : Fin 1) (0 : Fin 1) (0 : Fin 1) j)
abbrev dn : Fin 1024 → Fin 1024 → EReal := fun k j => D (ValueIdx.ix4 (0 : Fin 1) (0 : Fin 1) k j)
abbrev bdn : Fin 1024 → EReal := fun j => E (ValueIdx.ix4 (0 : Fin 1) (0 : Fin 1) (0 : Fin 1) j)

theorem up_at (k : Fin 1024) (j : Fin 2048) :
    shapeCast S1024x2048 U shapeCasts_S1x1x1024x2048_S1024x2048 (ValueIdx.ix2 k j) = up U k j :=
  shapeCast_apply U _ (ValueIdx.ix2 k j) (ValueIdx.ix4 (0 : Fin 1) (0 : Fin 1) k j) (by
    rewrite [Shape.rowMajor_val_four, Shape.rowMajor_val_two]
    show ((0 * 1 + 0) * 1024 + k.val) * 2048 + j.val = k.val * 2048 + j.val
    omega)

theorem dn_at (k j : Fin 1024) :
    shapeCast S1024x1024 D shapeCasts_S1x1x1024x1024_S1024x1024 (ValueIdx.ix2 k j) = dn D k j :=
  shapeCast_apply D _ (ValueIdx.ix2 k j) (ValueIdx.ix4 (0 : Fin 1) (0 : Fin 1) k j) (by
    rewrite [Shape.rowMajor_val_four, Shape.rowMajor_val_two]
    show ((0 * 1 + 0) * 1024 + k.val) * 1024 + j.val = k.val * 1024 + j.val
    omega)

/-- One row seen along all 32. -/
theorem along (v : Vec Ideal S1x1024 .f32) (r : Fin 32) (j : Fin 1024) :
    broadcastTo S32x1024 v broadcasts_S1x1024_S32x1024 (ValueIdx.ix2 r j) = v (ValueIdx.ix2 (0 : Fin 1) j) :=
  broadcastTo_apply _ _ (ValueIdx.ix2 r j) (ValueIdx.ix2 (0 : Fin 1) j) (fun a => match a with
    | ⟨0, _⟩ => by show 0 = if (1 : Nat) = 1 then 0 else _; rw [if_pos rfl]
    | ⟨1, _⟩ => by show j.val = if (1024 : Nat) = 1 then 0 else j.val; rw [if_neg (by decide)])

/-- One column seen along all 1024. -/
theorem across (v : Vec Ideal S32x1 .f32) (r : Fin 32) (j : Fin 1024) :
    broadcastTo S32x1024 v broadcasts_S32x1_S32x1024 (ValueIdx.ix2 r j) = v (ValueIdx.ix2 r (0 : Fin 1)) :=
  broadcastTo_apply _ _ (ValueIdx.ix2 r j) (ValueIdx.ix2 r (0 : Fin 1)) (fun a => match a with
    | ⟨0, _⟩ => by show r.val = (if (32 : Nat) = 1 then 0 else r.val); rw [if_neg (by decide)]
    | ⟨1, _⟩ => by show 0 = (if (1 : Nat) = 1 then 0 else j.val); rw [if_pos rfl])

/-- The hidden rows as the body computes them. -/
abbrev hidden : FVec Ideal S32x2048 .f32 :=
  addf (matmul (φ₂ := .bf16) dot_S32x1024_S1024x2048_S32x2048_1_0_0_1_n_n none (truncf .bf16 X bitsLt_bf16_f32)
      (truncf .bf16 (shapeCast S1024x2048 U shapeCasts_S1x1x1024x2048_S1024x2048) bitsLt_bf16_f32) (constant S32x2048 .f32 0x00000000#32))
    (broadcastTo S32x2048 (shapeCast S1x2048 B shapeCasts_S1x1x1x2048_S1x2048) broadcasts_S1x2048_S32x2048)

theorem hidden_at (r : Fin 32) (j : Fin 2048) : hidden X U B (ValueIdx.ix2 r j) = hid (xrow X r) (up U) (bup B) j := by
  have hb : broadcastTo S32x2048 (shapeCast S1x2048 B shapeCasts_S1x1x1x2048_S1x2048) broadcasts_S1x2048_S32x2048 (ValueIdx.ix2 r j) = bup B j := by
    rw [broadcastTo_apply _ broadcasts_S1x2048_S32x2048 (ValueIdx.ix2 r j) (ValueIdx.ix2 (0 : Fin 1) j) (fun a => match a with
      | ⟨0, _⟩ => by show 0 = if (1 : Nat) = 1 then 0 else _; rw [if_pos rfl]
      | ⟨1, _⟩ => by show j.val = if (2048 : Nat) = 1 then 0 else j.val; rw [if_neg (by decide)])]
    exact shapeCast_apply B _ (ValueIdx.ix2 (0 : Fin 1) j) (ValueIdx.ix4 (0 : Fin 1) (0 : Fin 1) (0 : Fin 1) j) (by
      rewrite [Shape.rowMajor_val_four, Shape.rowMajor_val_two]
      show ((0 * 1 + 0) * 1 + 0) * 2048 + j.val = 0 * 2048 + j.val
      omega)
  refine congrArg₂ (· + ·) ((Ideal.matmul_plain_apply none _ _ _ r j).trans ?_) hb
  rw [show (constant S32x2048 .f32 0x00000000#32 : FVec Ideal S32x2048 .f32) (ValueIdx.ix2 r j) = 0 from Ideal.ofBits_zero_f32, zero_add]
  exact Finset.sum_congr rfl fun k _ => congrArg (X (ValueIdx.ix2 r k) * ·) (up_at U k j)

/-- The rows between the two products. -/
theorem inner_at (r : Fin 32) (f : Fin 1024) :
    k0_pay4 (F := Ideal) X U B (ValueIdx.ix2 r f) = act (gate (xrow X r) (up U) (bup B) f) (lin (xrow X r) (up U) (bup B) f) := by
  have hg : min (extractStridedSlice S32x1024 ![0, 0] (hidden X U B) slices_S32x2048_o0_0_S32x1024 (ValueIdx.ix2 r f)) seven
      = gate (xrow X r) (up U) (bup B) f := by
    rw [extractStridedSlice_apply ![0, 0] _ _ (ValueIdx.ix2 r f) (ValueIdx.ix2 r (⟨f.val, by have := f.isLt; omega⟩ : Fin 2048)) (fun a => match a with
      | ⟨0, _⟩ => by show r.val = 0 + r.val; omega
      | ⟨1, _⟩ => by show f.val = 0 + f.val; omega), hidden_at]
    rfl
  have hl : min seven (max negSeven (extractStridedSlice S32x1024 ![0, 1024] (hidden X U B) slices_S32x2048_o0_1024_S32x1024 (ValueIdx.ix2 r f)))
      = lin (xrow X r) (up U) (bup B) f := by
    rw [extractStridedSlice_apply ![0, 1024] _ _ (ValueIdx.ix2 r f) (ValueIdx.ix2 r (⟨1024 + f.val, by have := f.isLt; omega⟩ : Fin 2048)) (fun a => match a with
      | ⟨0, _⟩ => by show r.val = 0 + r.val; omega
      | ⟨1, _⟩ => by show 1024 + f.val = 1024 + f.val; omega), hidden_at]
    rfl
  rw [← hg, ← hl]
  unfold act k0_pay4
  rw [← zero_sub, ← Ideal.ofBits_zero_f32]
  rfl

/-- What a point adds: the gate's entry times the expert's row. -/
theorem added_at (W : Vec Ideal S1x32x1 .f32) (acc : Vec Ideal S32x1024 .f32) (r : Fin 32) (j : Fin 1024) :
    added (F := Ideal) X W U B D E acc (ValueIdx.ix2 r j)
      = acc (ValueIdx.ix2 r j) + W (ValueIdx.ix3 (0 : Fin 1) r (0 : Fin 1)) * ffn (xrow X r) (up U) (bup B) (dn D) (bdn E) j := by
  unfold added k0_pay1
  simp only [shapeCast_self]
  refine congrArg (acc (ValueIdx.ix2 r j) + ·) (congrArg₂ (· * ·) ?_ (congrArg₂ (· + ·) ?_ ?_))
  · rw [across]
    exact shapeCast_apply W _ (ValueIdx.ix2 r (0 : Fin 1)) (ValueIdx.ix3 (0 : Fin 1) r (0 : Fin 1)) (by
      rewrite [Shape.rowMajor_val_three, Shape.rowMajor_val_two]
      show (0 * 32 + r.val) * 1 + 0 = r.val * 1 + 0
      omega)
  · refine (Ideal.matmul_plain_apply none _ _ _ r j).trans ?_
    rw [show (constant S32x1024 .f32 0x00000000#32 : FVec Ideal S32x1024 .f32) (ValueIdx.ix2 r j) = 0 from Ideal.ofBits_zero_f32, zero_add]
    exact Finset.sum_congr rfl fun f _ => congrArg₂ (· * ·) (inner_at X U B r f) (dn_at D f j)
  · rw [along]
    exact shapeCast_apply E _ (ValueIdx.ix2 (0 : Fin 1) j) (ValueIdx.ix4 (0 : Fin 1) (0 : Fin 1) (0 : Fin 1) j) (by
      rewrite [Shape.rowMajor_val_four, Shape.rowMajor_val_two]
      show ((0 * 1 + 0) * 1 + 0) * 1024 + j.val = 0 * 1024 + j.val
      omega)

end Ffn

theorem zero_at (r : Fin 32) (j : Fin 1024) : k0_pay3 (F := Ideal) (ValueIdx.ix2 r j) = (0 : EReal) := by
  unfold k0_pay3
  rw [shapeCast_self]
  exact Ideal.ofBits_zero_f32

/-! ## The layer norm -/

theorem rowsum (v : FVec Ideal S32x1024 .f32) (r : S32.Idx) :
    multiReduction .add [1] S32 v 0x00000000#32 reduces_S32x1024_S32 (.inl rfl) rfl r = ∑ k : Fin 1024, v (ValueIdx.ix2 (r 0) k) := by
  refine (Ideal.multiReduction_add_single v _ reduces_S32x1024_S32 _ _ r).trans (Finset.sum_congr rfl fun k _ => congrArg v (funext fun a => ?_))
  match a with
  | ⟨0, _⟩ => rfl
  | ⟨1, _⟩ => rfl

/-- A row's sum over its width. -/
abbrev meanCol (v : FVec Ideal S32x1024 .f32) : FVec Ideal S32x1 .f32 :=
  divf (shapeCast S32x1 (multiReduction .add [1] S32 v 0x00000000#32 reduces_S32x1024_S32 (.inl rfl) rfl) shapeCasts_S32_S32x1)
    (broadcast S32x1 (Scalar.ofBits .f32 0x44800000#32))

theorem meanCol_at (v : FVec Ideal S32x1024 .f32) (r : Fin 32) :
    meanCol v (ValueIdx.ix2 r (0 : Fin 1)) = Ideal.div (∑ k : Fin 1024, v (ValueIdx.ix2 r k)) OutMath.width := by
  refine congrArg (fun s => Ideal.div s OutMath.width) ?_
  refine (shapeCast_apply _ _ (ValueIdx.ix2 r (0 : Fin 1)) (ValueIdx.ix1 r) (by rw [Shape.rowMajor_val_one, Shape.rowMajor_val_two]; show r.val = r.val * 1 + 0; omega)).trans ?_
  exact rowsum v (ValueIdx.ix1 r)

abbrev devs (v : FVec Ideal S32x1024 .f32) : FVec Ideal S32x1024 .f32 :=
  subf v (broadcastTo S32x1024 (meanCol v) broadcasts_S32x1_S32x1024)

theorem devs_at (v : FVec Ideal S32x1024 .f32) (r : Fin 32) (j : Fin 1024) :
    devs v (ValueIdx.ix2 r j) = OutMath.dev (fun k => v (ValueIdx.ix2 r k)) j :=
  congrArg (v (ValueIdx.ix2 r j) - ·) ((across _ r j).trans (meanCol_at v r))

/-- What the last point writes. -/
theorem normed_at (X acc : Vec Ideal S32x1024 .f32) (g b : Vec Ideal S1x1024 .f32) (r : Fin 32) (j : Fin 1024) :
    k0_pay2 (F := Ideal) X acc g b (ValueIdx.ix2 r j)
      = OutMath.norm (fun l => OutMath.alpha * X (ValueIdx.ix2 r l) + acc (ValueIdx.ix2 r l)) (g (ValueIdx.ix2 (0 : Fin 1) j)) (b (ValueIdx.ix2 (0 : Fin 1) j)) j := by
  have e : k0_pay2 (F := Ideal) X acc g b = (fun z : FVec Ideal S32x1024 .f32 =>
      addf (mulf (mulf (devs z) (broadcastTo S32x1024 (rsqrt (addf (meanCol (mulf (devs z) (devs z))) (broadcast S32x1 (Scalar.ofBits .f32 0x3727C5AC#32)))) broadcasts_S32x1_S32x1024))
        (broadcastTo S32x1024 g broadcasts_S1x1024_S32x1024)) (broadcastTo S32x1024 b broadcasts_S1x1024_S32x1024))
      (addf (mulf (broadcast S32x1024 (Scalar.ofBits .f32 0x3FB504F3#32)) X) acc) := by
    unfold k0_pay2
    simp only [shapeCast_self]
  rw [e]
  have hz : ∀ l : Fin 1024, (addf (mulf (broadcast S32x1024 (Scalar.ofBits .f32 0x3FB504F3#32)) X) acc : FVec Ideal S32x1024 .f32) (ValueIdx.ix2 r l)
      = OutMath.alpha * X (ValueIdx.ix2 r l) + acc (ValueIdx.ix2 r l) := fun l => rfl
  generalize (addf (mulf (broadcast S32x1024 (Scalar.ofBits .f32 0x3FB504F3#32)) X) acc : FVec Ideal S32x1024 .f32) = z at hz ⊢
  have hf : (fun l => OutMath.alpha * X (ValueIdx.ix2 r l) + acc (ValueIdx.ix2 r l)) = fun k => z (ValueIdx.ix2 r k) := funext fun l => (hz l).symm
  rw [hf]
  refine congrArg₂ (· + ·) (congrArg₂ (· * ·) (congrArg₂ (· * ·) (devs_at z r j) ?_) (along g r j)) (along b r j)
  refine (across _ r j).trans ?_
  refine congrArg (fun s => Ideal.rsqrt (s + OutMath.eps)) ((meanCol_at _ r).trans ?_)
  exact congrArg (fun s => Ideal.div s OutMath.width) (Finset.sum_congr rfl fun k _ => congrArg₂ (· * ·) (devs_at z r k) (devs_at z r k))

end Cert.MixValue

end
-- ==== Proof.MixHost.lean ====
/- What the call finds at a point: the samples, the gates' column of the point's expert and that expert's weights. -/
module

public import proofs.«01_k».proof.Proof.MixRef
public import proofs.«01_k».proof.Proof.MixMath
public import proofs.«01_k».proof.Proof.MixRows

@[expose] public section

set_option maxRecDepth 16384

noncomputable section

namespace Cert.MixValue

open Cert.MixKernelIdeal Cert.MixKernelIdeal.Gen Idealize.ShloMosaic
open Idealize.ShloMosaic.TcCoe Idealize.SL.Sem Cert.MoeRef

/-! ## The gates spread over the experts -/

/-- The host's gate of row `r`, choice `k` and expert `e`: the choice's own where it names the expert, zero elsewhere. -/
abbrev picked (a1 : IVec S32x4 32) (a2 : FVec Ideal S32x4 .f32) : FVec Ideal S32x4x32 .f32 :=
  select (cmpi .eq (broadcastInDim S32x4x32 ![0, 1, 2] bcast_S32x4x1_S32x4x32_0_1_2 (broadcastInDim S32x4x1 ![0, 1] bcast_S32x4_S32x4x1_0_1 a1))
      (broadcastInDim S32x4x32 ![0, 1, 2] bcast_S1x1x32_S32x4x32_0_1_2 (broadcastInDim S1x1x32 ![2] bcast_S32_S1x1x32_2 (iotaInDim S32 32 0))))
    (broadcastInDim S32x4x32 ![0, 1, 2] bcast_S32x4x1_S32x4x32_0_1_2 (broadcastInDim S32x4x1 ![0, 1] bcast_S32x4_S32x4x1_0_1 a2))
    (broadcastInDim S32x4x32 ![] bcast_S_S32x4x32 (constant S_ .f32 0x00000000#32 : FVec Ideal S_ .f32))

theorem spread {α : Type} (v : S32x4.Idx → α) (r : Fin 32) (k : Fin 4) (e : Fin 32) :
    broadcastInDim S32x4x32 ![0, 1, 2] bcast_S32x4x1_S32x4x32_0_1_2 (broadcastInDim S32x4x1 ![0, 1] bcast_S32x4_S32x4x1_0_1 v) (ValueIdx.ix3 r k e)
      = v (ValueIdx.ix2 r k) :=
  (broadcastInDim_apply _ _ _ _ (ValueIdx.ix3 r k (0 : Fin 1)) (fun a => match a with
    | ⟨0, _⟩ => by show r.val = if (32 : Nat) = 1 then 0 else r.val; rw [if_neg (by decide)]
    | ⟨1, _⟩ => by show k.val = if (4 : Nat) = 1 then 0 else k.val; rw [if_neg (by decide)]
    | ⟨2, _⟩ => by show 0 = if (1 : Nat) = 1 then 0 else e.val; rw [if_pos rfl])).trans
  (broadcastInDim_apply _ _ v _ _ (fun a => match a with
    | ⟨0, _⟩ => by show r.val = if (32 : Nat) = 1 then 0 else r.val; rw [if_neg (by decide)]
    | ⟨1, _⟩ => by show k.val = if (4 : Nat) = 1 then 0 else k.val; rw [if_neg (by decide)]))

theorem number (r : Fin 32) (k : Fin 4) (e : Fin 32) :
    broadcastInDim S32x4x32 ![0, 1, 2] bcast_S1x1x32_S32x4x32_0_1_2 (broadcastInDim S1x1x32 ![2] bcast_S32_S1x1x32_2 (iotaInDim S32 32 0)) (ValueIdx.ix3 r k e)
      = BitVec.ofNat 32 e.val :=
  (broadcastInDim_apply _ _ _ _ (ValueIdx.ix3 (0 : Fin 1) (0 : Fin 1) e) (fun a => match a with
    | ⟨0, _⟩ => by show 0 = if (1 : Nat) = 1 then 0 else r.val; rw [if_pos rfl]
    | ⟨1, _⟩ => by show 0 = if (1 : Nat) = 1 then 0 else k.val; rw [if_pos rfl]
    | ⟨2, _⟩ => by show e.val = if (32 : Nat) = 1 then 0 else e.val; rw [if_neg (by decide)])).trans
  (broadcastInDim_apply _ _ _ _ (ValueIdx.ix1 e) (fun a => match a with
    | ⟨0, _⟩ => by show e.val = if (32 : Nat) = 1 then 0 else e.val; rw [if_neg (by decide)]))

theorem picked_at (a1 : IVec S32x4 32) (a2 : FVec Ideal S32x4 .f32) (h : ∀ n k, BitVec.toNat (w := 32) (a1 (ValueIdx.ix2 n k)) < 32)
    (r : Fin 32) (k : Fin 4) (e : Fin 32) :
    picked a1 a2 (ValueIdx.ix3 r k e) = if MixRef.pick a1 r k = e then a2 (ValueIdx.ix2 r k) else 0 := by
  refine Eq.trans (b := Scalar.select (cmpi .eq _ _ (ValueIdx.ix3 r k e)) _ _) rfl ?_
  have hw : (MixRef.pick a1 r k = e) ↔ a1 (ValueIdx.ix2 r k) = BitVec.ofNat 32 e.val := by
    have hr := h r k
    have he := e.isLt
    constructor
    · intro q
      apply BitVec.eq_of_toNat_eq
      have := congrArg Fin.val q
      simp only [expOf, BitVec.toNat_ofNat] at this ⊢
      omega
    · intro q
      apply Fin.ext
      have := congrArg BitVec.toNat q
      simp only [expOf, BitVec.toNat_ofNat] at this ⊢
      omega
  have hc : cmpi .eq (broadcastInDim S32x4x32 ![0, 1, 2] bcast_S32x4x1_S32x4x32_0_1_2 (broadcastInDim S32x4x1 ![0, 1] bcast_S32x4_S32x4x1_0_1 a1))
      (broadcastInDim S32x4x32 ![0, 1, 2] bcast_S1x1x32_S32x4x32_0_1_2 (broadcastInDim S1x1x32 ![2] bcast_S32_S1x1x32_2 (iotaInDim S32 32 0))) (ValueIdx.ix3 r k e)
      = BitVec.ofBool (decide (MixRef.pick a1 r k = e)) := by
    refine (congrArg₂ (IntOp.cmpi .eq) (spread a1 r k e) (number r k e)).trans ?_
    show BitVec.ofBool (a1 (ValueIdx.ix2 r k) == BitVec.ofNat 32 e.val) = _
    rw [beq_eq_decide]
    exact congrArg BitVec.ofBool (decide_eq_decide.mpr hw.symm)
  rw [hc, spread a2 r k e]
  by_cases q : MixRef.pick a1 r k = e
  · rw [if_pos q, decide_eq_true q]; rfl
  · rw [if_neg q, decide_eq_false q]
    exact Ideal.ofBits_zero_f32

/-- The host's sum over the choices. -/
theorem gates_at (a1 : IVec S32x4 32) (a2 : FVec Ideal S32x4 .f32) (h : ∀ n k, BitVec.toNat (w := 32) (a1 (ValueIdx.ix2 n k)) < 32)
    (e r : Fin 32) :
    shapeCast S32x32x1 (transpose S32x32 [1, 0] (Host.reduceAdd (picked a1 a2) (constant S_ .f32 0x00000000#32 : FVec Ideal S_ .f32) reducesTo_S32x4x32_S32x32_d1 h_S_)
        transposes_S32x32_S32x32_1_0) shapeCasts_S32x32_S32x32x1 (ValueIdx.ix3 e r (0 : Fin 1))
      = MixMath.gateOf (MixRef.pick a1 r) (fun k => a2 (ValueIdx.ix2 r k)) e := by
  refine (shapeCast_apply _ _ (ValueIdx.ix3 e r (0 : Fin 1)) (ValueIdx.ix2 e r) (by
    rw [Shape.rowMajor_val_two, Shape.rowMajor_val_three]
    show e.val * 32 + r.val = (e.val * 32 + r.val) * 1 + 0
    omega)).trans ?_
  refine (transpose_apply [1, 0] _ _ _ (ValueIdx.ix2 r e) (fun b => match b with | ⟨0, _⟩ => rfl | ⟨1, _⟩ => rfl)).trans ?_
  simp only [Host.reduceAdd, Ideal.hostReduceAdd_def]
  rw [Ideal.hostReduceAdd_single reducesTo_S32x4x32_S32x32_d1 (by decide)]
  rw [show (constant S_ .f32 0x00000000#32 : FVec Ideal S_ .f32) _ = 0 from Ideal.ofBits_zero_f32, zero_add]
  unfold MixMath.gateOf
  refine Finset.sum_congr rfl fun k _ => (congrArg (picked a1 a2) (funext fun a => ?_)).trans (picked_at a1 a2 h r k e)
  match a with
  | ⟨0, _⟩ => rfl
  | ⟨1, _⟩ => rfl
  | ⟨2, _⟩ => rfl

/-! ## The arrays before the call -/

variable (m : (ℓ : Loc nD τ sig) → Buf (Elt Ideal) ℓ)

theorem V_gates (c : Dev nD) (h : ∀ n k, BitVec.toNat (w := 32) (m ((c : Thread nD τ).loc main_arg1) (ValueIdx.ix2 n k)) < 32) (e r : Fin 32) :
    V m c main_v10 (ValueIdx.ix3 e r (0 : Fin 1))
      = MixMath.gateOf (MixRef.pick (m ((c : Thread nD τ).loc main_arg1)) r) (fun k => m ((c : Thread nD τ).loc main_arg2) (ValueIdx.ix2 r k)) e := by
  have q : V m c main_v10 = shapeCast S32x32x1 (transpose S32x32 [1, 0] (Host.reduceAdd (picked (m ((c : Thread nD τ).loc main_arg1)) (m ((c : Thread nD τ).loc main_arg2)))
        (constant S_ .f32 0x00000000#32 : FVec Ideal S_ .f32) reducesTo_S32x4x32_S32x32_d1 h_S_) transposes_S32x32_S32x32_1_0) shapeCasts_S32x32_S32x32x1 := by
    unfold V
    simp only [hostOps0, hostOps0_1, hostOps0_2, List.flatten_cons, List.flatten_nil, List.append_nil, List.cons_append, List.nil_append]
    after_results
    rfl
  rw [q]
  exact gates_at _ _ h e r

theorem V_bup (c : Dev nD) (e : Fin 32) (j : Fin 2048) :
    V m c main_v11 (ValueIdx.ix4 (0 : Fin 2) e (0 : Fin 1) j) = m ((c : Thread nD τ).loc main_arg4) (ValueIdx.ix3 (0 : Fin 2) e j) := by
  have q : V m c main_v11 = shapeCast S2x32x1x2048 (m ((c : Thread nD τ).loc main_arg4)) shapeCasts_S2x32x2048_S2x32x1x2048 := by
    unfold V
    simp only [hostOps0, hostOps0_1, hostOps0_2, List.flatten_cons, List.flatten_nil, List.append_nil, List.cons_append, List.nil_append]
    after_results
    rfl
  rw [q]
  exact shapeCast_apply (s := S2x32x2048) _ _ _ _ (by
    rewrite [Shape.rowMajor_val_three, Shape.rowMajor_val_four]
    show (0 * 32 + e.val) * 2048 + j.val = ((0 * 32 + e.val) * 1 + 0) * 2048 + j.val
    omega)

theorem V_bdn (c : Dev nD) (e : Fin 32) (j : Fin 1024) :
    V m c main_v12 (ValueIdx.ix4 (0 : Fin 2) e (0 : Fin 1) j) = m ((c : Thread nD τ).loc main_arg6) (ValueIdx.ix3 (0 : Fin 2) e j) := by
  have q : V m c main_v12 = shapeCast S2x32x1x1024 (m ((c : Thread nD τ).loc main_arg6)) shapeCasts_S2x32x1024_S2x32x1x1024 := by
    unfold V
    simp only [hostOps0, hostOps0_1, hostOps0_2, List.flatten_cons, List.flatten_nil, List.append_nil, List.cons_append, List.nil_append]
    after_results
    rfl
  rw [q]
  exact shapeCast_apply (s := S2x32x1024) _ _ _ _ (by
    rewrite [Shape.rowMajor_val_three, Shape.rowMajor_val_four]
    show (0 * 32 + e.val) * 1024 + j.val = ((0 * 32 + e.val) * 1 + 0) * 1024 + j.val
    omega)

/-- The first of two rows, kept as one row. -/
theorem firstRow (v : FVec Ideal S2x1024 .f32) (j : Fin 1024) :
    shapeCast S1x1024 (shapeCast S1024 (extractStridedSlice S1x1024 ![0, 0] v slices_S2x1024_S1x1024_0_0) shapeCasts_S1x1024_S1024) shapeCasts_S1024_S1x1024 (ValueIdx.ix2 (0 : Fin 1) j)
      = v (ValueIdx.ix2 (0 : Fin 2) j) := by
  refine (shapeCast_apply _ _ (ValueIdx.ix2 (0 : Fin 1) j) (ValueIdx.ix1 j) (by rw [Shape.rowMajor_val_one, Shape.rowMajor_val_two]; show j.val = 0 * 1024 + j.val; omega)).trans ?_
  refine (shapeCast_apply _ _ (ValueIdx.ix1 j) (ValueIdx.ix2 (0 : Fin 1) j) (by rw [Shape.rowMajor_val_one, Shape.rowMajor_val_two]; show 0 * 1024 + j.val = j.val; omega)).trans ?_
  exact extractStridedSlice_apply ![0, 0] _ _ (ValueIdx.ix2 (0 : Fin 1) j) (ValueIdx.ix2 (0 : Fin 2) j) (fun a => match a with
    | ⟨0, _⟩ => rfl
    | ⟨1, _⟩ => by show j.val = 0 + j.val; omega)

theorem V_scale (c : Dev nD) (j : Fin 1024) :
    V m c main_v15 (ValueIdx.ix2 (0 : Fin 1) j) = m ((c : Thread nD τ).loc main_arg7) (ValueIdx.ix2 (0 : Fin 2) j) := by
  have q : V m c main_v15 = shapeCast S1x1024 (shapeCast S1024 (extractStridedSlice S1x1024 ![0, 0] (m ((c : Thread nD τ).loc main_arg7)) slices_S2x1024_S1x1024_0_0) shapeCasts_S1x1024_S1024) shapeCasts_S1024_S1x1024 := by
    unfold V
    simp only [hostOps0, hostOps0_1, hostOps0_2, List.flatten_cons, List.flatten_nil, List.append_nil, List.cons_append, List.nil_append]
    after_results
    rfl
  rw [q]
  exact firstRow _ j

theorem V_shift (c : Dev nD) (j : Fin 1024) :
    V m c main_v18 (ValueIdx.ix2 (0 : Fin 1) j) = m ((c : Thread nD τ).loc main_arg8) (ValueIdx.ix2 (0 : Fin 2) j) := by
  have q : V m c main_v18 = shapeCast S1x1024 (shapeCast S1024 (extractStridedSlice S1x1024 ![0, 0] (m ((c : Thread nD τ).loc main_arg8)) slices_S2x1024_S1x1024_0_0) shapeCasts_S1x1024_S1024) shapeCasts_S1024_S1x1024 := by
    unfold V
    simp only [hostOps0, hostOps0_1, hostOps0_2, List.flatten_cons, List.flatten_nil, List.append_nil, List.cons_append, List.nil_append]
    after_results
    rfl
  rw [q]
  exact firstRow _ j

/-! ## The blocks of a point -/

theorem idxA : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem idxB : ∀ t : Fin cfg0.N, (win0_2.index t (0 : Fin 4) = 0 ∧ win0_2.index t (1 : Fin 4) = t.val ∧ win0_2.index t (2 : Fin 4) = 0 ∧ win0_2.index t (3 : Fin 4) = 0)
    ∧ (win0_3.index t (0 : Fin 4) = 0 ∧ win0_3.index t (1 : Fin 4) = t.val ∧ win0_3.index t (2 : Fin 4) = 0 ∧ win0_3.index t (3 : Fin 4) = 0)
    ∧ (win0_4.index t (0 : Fin 4) = 0 ∧ win0_4.index t (1 : Fin 4) = t.val ∧ win0_4.index t (2 : Fin 4) = 0 ∧ win0_4.index t (3 : Fin 4) = 0)
    ∧ (win0_5.index t (0 : Fin 4) = 0 ∧ win0_5.index t (1 : Fin 4) = t.val ∧ win0_5.index t (2 : Fin 4) = 0 ∧ win0_5.index t (3 : Fin 4) = 0) :=
  (by decide +kernel : ∀ t : Fin grid0.N, _)

/-- A point's expert. -/
def exp_ (t : Fin cfg0.N) : Fin 32 := ⟨t.val, lt_of_lt_of_eq t.isLt N_0⟩

variable (c : Dev nD) (t : Fin cfg0.N)

theorem in0 (r : Fin 32) (j : Fin 1024) : iblk m c 0 t (ValueIdx.ix2 r j) = m ((c : Thread nD τ).loc main_arg0) (ValueIdx.ix2 r j) := by
  obtain ⟨a0, a1, -⟩ := idxA t
  rw [iblk, View.read_apply]
  show V m c main_arg0 _ = _
  rw [V_main_arg0]
  refine congrArg (m ((c : Thread nD τ).loc main_arg0)) (funext fun a => Fin.ext ?_)
  match a with
  | ⟨0, _⟩ => blk_simp [a0] <;> rfl
  | ⟨1, _⟩ => blk_simp [a1] <;> rfl

theorem in1 (r : Fin 32) : iblk m c 1 t (ValueIdx.ix3 (0 : Fin 1) r (0 : Fin 1)) = V m c main_v10 (ValueIdx.ix3 (exp_ t) r (0 : Fin 1)) := by
  obtain ⟨-, -, a0, a1, a2, -⟩ := idxA t
  rw [iblk, View.read_apply]
  show V m c main_v10 _ = _
  refine congrArg (V m c main_v10) (funext fun a => Fin.ext ?_)
  match a with
  | ⟨0, _⟩ => blk_simp [a0] <;> rfl
  | ⟨1, _⟩ => blk_simp [a1] <;> rfl
  | ⟨2, _⟩ => blk_simp [a2] <;> rfl

theorem in2 (k : Fin 1024) (j : Fin 2048) : iblk m c 2 t (ValueIdx.ix4 (0 : Fin 1) (0 : Fin 1) k j)
    = m ((c : Thread nD τ).loc main_arg3) (ValueIdx.ix4 (0 : Fin 2) (exp_ t) k j) := by
  obtain ⟨⟨a0, a1, a2, a3⟩, -⟩ := idxB t
  rw [iblk, View.read_apply]
  show V m c main_arg3 _ = _
  rw [V_main_arg3]
  refine congrArg (m ((c : Thread nD τ).loc main_arg3)) (funext fun a => Fin.ext ?_)
  match a with
  | ⟨0, _⟩ => blk_simp [a0] <;> rfl
  | ⟨1, _⟩ => blk_simp [a1] <;> rfl
  | ⟨2, _⟩ => blk_simp [a2] <;> rfl
  | ⟨3, _⟩ => blk_simp [a3] <;> rfl

theorem in3 (j : Fin 2048) : iblk m c 3 t (ValueIdx.ix4 (0 : Fin 1) (0 : Fin 1) (0 : Fin 1) j)
    = m ((c : Thread nD τ).loc main_arg4) (ValueIdx.ix3 (0 : Fin 2) (exp_ t) j) := by
  obtain ⟨-, ⟨a0, a1, a2, a3⟩, -⟩ := idxB t
  refine Eq.trans ?_ (V_bup m c (exp_ t) j)
  rw [iblk, View.read_apply]
  show V m c main_v11 _ = _
  refine congrArg (V m c main_v11) (funext fun a => Fin.ext ?_)
  match a with
  | ⟨0, _⟩ => blk_simp [a0] <;> rfl
  | ⟨1, _⟩ => blk_simp [a1] <;> rfl
  | ⟨2, _⟩ => blk_simp [a2] <;> rfl
  | ⟨3, _⟩ => blk_simp [a3] <;> rfl

theorem in4 (k j : Fin 1024) : iblk m c 4 t (ValueIdx.ix4 (0 : Fin 1) (0 : Fin 1) k j)
    = m ((c : Thread nD τ).loc main_arg5) (ValueIdx.ix4 (0 : Fin 2) (exp_ t) k j) := by
  obtain ⟨-, -, ⟨a0, a1, a2, a3⟩, -⟩ := idxB t
  rw [iblk, View.read_apply]
  show V m c main_arg5 _ = _
  rw [V_main_arg5]
  refine congrArg (m ((c : Thread nD τ).loc main_arg5)) (funext fun a => Fin.ext ?_)
  match a with
  | ⟨0, _⟩ => blk_simp [a0] <;> rfl
  | ⟨1, _⟩ => blk_simp [a1] <;> rfl
  | ⟨2, _⟩ => blk_simp [a2] <;> rfl
  | ⟨3, _⟩ => blk_simp [a3] <;> rfl

theorem in5 (j : Fin 1024) : iblk m c 5 t (ValueIdx.ix4 (0 : Fin 1) (0 : Fin 1) (0 : Fin 1) j)
    = m ((c : Thread nD τ).loc main_arg6) (ValueIdx.ix3 (0 : Fin 2) (exp_ t) j) := by
  obtain ⟨-, -, -, a0, a1, a2, a3⟩ := idxB t
  refine Eq.trans ?_ (V_bdn m c (exp_ t) j)
  rw [iblk, View.read_apply]
  show V m c main_v12 _ = _
  refine congrArg (V m c main_v12) (funext fun a => Fin.ext ?_)
  match a with
  | ⟨0, _⟩ => blk_simp [a0] <;> rfl
  | ⟨1, _⟩ => blk_simp [a1] <;> rfl
  | ⟨2, _⟩ => blk_simp [a2] <;> rfl
  | ⟨3, _⟩ => blk_simp [a3] <;> rfl

theorem in6 (j : Fin 1024) : iblk m c 6 t (ValueIdx.ix2 (0 : Fin 1) j) = m ((c : Thread nD τ).loc main_arg7) (ValueIdx.ix2 (0 : Fin 2) j) := by
  obtain ⟨-, -, -, -, -, a0, a1, -⟩ := idxA t
  refine Eq.trans ?_ (V_scale m c j)
  rw [iblk, View.read_apply]
  show V m c main_v15 _ = _
  refine congrArg (V m c main_v15) (funext fun a => Fin.ext ?_)
  match a with
  | ⟨0, _⟩ => blk_simp [a0] <;> rfl
  | ⟨1, _⟩ => blk_simp [a1] <;> rfl

theorem in7 (j : Fin 1024) : iblk m c 7 t (ValueIdx.ix2 (0 : Fin 1) j) = m ((c : Thread nD τ).loc main_arg8) (ValueIdx.ix2 (0 : Fin 2) j) := by
  obtain ⟨-, -, -, -, -, -, -, a0, a1⟩ := idxA t
  refine Eq.trans ?_ (V_shift m c j)
  rw [iblk, View.read_apply]
  show V m c main_v18 _ = _
  refine congrArg (V m c main_v18) (funext fun a => Fin.ext ?_)
  match a with
  | ⟨0, _⟩ => blk_simp [a0] <;> rfl
  | ⟨1, _⟩ => blk_simp [a1] <;> rfl

end Cert.MixValue

end
-- ==== Proof.MoePre.lean ====
/- What the precondition says of the tables: every entry of the row table names a row of the token array, and every entry
   of the expert table an expert. -/
module

public import proofs.«01_k».proof.Proof.Gen.Pre_tables_in_range
public import Idealize.ShloMosaic.Lib.StableHlo.Predicate
public import Idealize.ShloMosaic.Lib.Pipeline.Value
public import Idealize.ShloMosaic.Lib.ValueIdx

@[expose] public section

set_option maxRecDepth 16384

noncomputable section

namespace Cert.MoePre

open Idealize.ShloMosaic Cert.Pre_tables_in_range

variable {F : FTy → Type} [FloatOps F]

theorem and_one {a b : BitVec 1} (h : IntOp.andi a b = 1#1) : a = 1#1 ∧ b = 1#1 := by
  revert a b; decide

/-- A word that is signed between zero and `n` is so unsigned. -/
theorem lt_of_signed {w : BitVec 32} {n : ℕ} (hn : n < 2 ^ 31) (h0 : IntOp.cmpi .sge w 0#32 = 1#1)
    (h1 : IntOp.cmpi .slt w (BitVec.ofNat 32 n) = 1#1) : w.toNat < n := by
  unfold IntOp.cmpi at h0 h1
  have g0 := (StableHlo.Predicate.ofBool_eq_one_iff _).mp h0
  have g1 := (StableHlo.Predicate.ofBool_eq_one_iff _).mp h1
  simp only [BitVec.sle, BitVec.slt, decide_eq_true_eq, StableHlo.Predicate.toInt_ofNat_small n hn] at g0 g1
  have z : (0#32 : BitVec 32).toInt = 0 := by decide
  rw [z] at g0
  rw [BitVec.toInt_eq_toNat_cond] at g0 g1
  have := w.isLt
  split at g0 <;> split at g1 <;> omega

variable (a0 : FVec F S16384x1024 .f32) (a1 : IVec S73728 32) (a2 : IVec S288 32) (a3 : IVec S1 32) (a4 : FVec F S2x32x1024x2048 .f32)
  (a5 : FVec F S2x32x2048 .f32) (a6 : FVec F S2x32x1024x1024 .f32) (a7 : FVec F S2x32x1024 .f32)

/-- The comparisons behind entry `(n, r)`. -/
theorem parts (h : fn (F := F) a0 a1 a2 a3 a4 a5 a6 a7 = fun _ => 1#1) (n : Fin 288) (r : Fin 256) :
    (a1 (ValueIdx.ix1 ⟨n.val * 256 + r.val, by have := n.isLt; have := r.isLt; omega⟩)).toNat < 16384 ∧ (a2 (ValueIdx.ix1 n)).toNat < 32 := by
  have g := congrFun h (ValueIdx.ix2 n r)
  unfold fn at g
  dsimp only at g
  obtain ⟨g, g4⟩ := and_one g
  obtain ⟨g, g3⟩ := and_one g
  obtain ⟨g1, g2⟩ := and_one g
  have e1 : shapeCast S288x256 a1 Facts.shapeCasts_S73728_S288x256 (ValueIdx.ix2 n r) = a1 (ValueIdx.ix1 ⟨n.val * 256 + r.val, by have := n.isLt; have := r.isLt; omega⟩) :=
    shapeCast_apply a1 _ _ _ (by rewrite [Shape.rowMajor_val_one, Shape.rowMajor_val_two]; rfl)
  have e2 : shapeCast S288x1 a2 Facts.shapeCasts_S288_S288x1 (ValueIdx.ix2 n (0 : Fin 1)) = a2 (ValueIdx.ix1 n) :=
    shapeCast_apply a2 _ _ _ (by rewrite [Shape.rowMajor_val_one, Shape.rowMajor_val_two]; show n.val = n.val * 1 + 0; omega)
  have along : ∀ v : IVec S288x1 1, broadcastInDim S288x256 ![0, 1] Facts.bcast_S288x1_S288x256_0_1 v (ValueIdx.ix2 n r) = v (ValueIdx.ix2 n (0 : Fin 1)) := fun v =>
    broadcastInDim_apply _ _ v _ _ (fun a => match a with
      | ⟨0, _⟩ => by show n.val = if (288 : Nat) = 1 then 0 else n.val; rw [if_neg (by decide)]
      | ⟨1, _⟩ => by show 0 = if (1 : Nat) = 1 then 0 else r.val; rw [if_pos rfl])
  rw [along] at g3 g4
  constructor
  · rw [← e1]; exact lt_of_signed (n := 16384) (by decide) g1 g2
  · rw [← e2]; exact lt_of_signed (n := 32) (by decide) g3 g4

/-- Every word of the row table. -/
theorem tok_lt (h : fn (F := F) a0 a1 a2 a3 a4 a5 a6 a7 = fun _ => 1#1) (y : S73728.Idx) : (a1 y).toNat < 16384 := by
  have hy : (y 0).val < 73728 := (y 0).isLt
  have g := (parts a0 a1 a2 a3 a4 a5 a6 a7 h ⟨(y 0).val / 256, by omega⟩ ⟨(y 0).val % 256, by omega⟩).1
  refine lt_of_eq_of_lt (congrArg (fun z => (a1 z).toNat) (funext fun a => Fin.ext ?_)) g
  match a with
  | ⟨0, _⟩ => show (y 0).val = (y 0).val / 256 * 256 + (y 0).val % 256; omega

/-- Every word of the expert table. -/
theorem exp_lt (h : fn (F := F) a0 a1 a2 a3 a4 a5 a6 a7 = fun _ => 1#1) (n : Fin 288) : (a2 (ValueIdx.ix1 n)).toNat < 32 :=
  (parts a0 a1 a2 a3 a4 a5 a6 a7 h n ⟨0, by decide⟩).2

end Cert.MoePre

end
-- ==== Proof.MixPre.lean ====
/- What the precondition says of a row's four experts: each is an expert, and no two are the same. -/
module

public import proofs.«01_k».proof.Proof.Gen.Pre_experts_distinct
public import proofs.«01_k».proof.Proof.MoePre

@[expose] public section

set_option maxRecDepth 16384

noncomputable section

namespace Cert.MixPre

open Idealize.ShloMosaic Cert.Pre_experts_distinct
open Cert.MoePre (and_one lt_of_signed)

variable {F : FTy → Type} [FloatOps F]

theorem or_one {a b : BitVec 1} (h : IntOp.ori a b = 1#1) : a = 1#1 ∨ b = 1#1 := by
  revert a b; decide

/-- Two of the four places with equal numbers are the same place. -/
theorem same_of_eq : ∀ k l : Fin 4, IntOp.cmpi .eq (BitVec.ofNat 32 k.val) (BitVec.ofNat 32 l.val) = 1#1 → k = l := by
  decide

variable (a0 : FVec F S32x1024 .f32) (a1 : IVec S32x4 32) (a2 : FVec F S32x4 .f32) (a3 : FVec F S2x32x1024x2048 .f32)
  (a4 : FVec F S2x32x2048 .f32) (a5 : FVec F S2x32x1024x1024 .f32) (a6 : FVec F S2x32x1024 .f32) (a7 a8 : FVec F S2x1024 .f32)

/-- What the entry at row `n` and choices `k` and `l` says. -/
theorem parts (h : fn (F := F) a0 a1 a2 a3 a4 a5 a6 a7 a8 = fun _ => 1#1) (n : Fin 32) (k l : Fin 4) :
    (a1 (ValueIdx.ix2 n k)).toNat < 32 ∧ (a1 (ValueIdx.ix2 n k) ≠ a1 (ValueIdx.ix2 n l) ∨ k = l) := by
  have g := congrFun h (ValueIdx.ix3 n k l)
  unfold fn at g
  dsimp only at g
  obtain ⟨g, g2⟩ := and_one g
  have col : ∀ {w : ℕ} (v : IVec S32x4x1 w), broadcastInDim S32x4x4 ![0, 1, 2] Facts.bcast_S32x4x1_S32x4x4_0_1_2 v (ValueIdx.ix3 n k l) = v (ValueIdx.ix3 n k (0 : Fin 1)) := fun v =>
    broadcastInDim_apply _ _ v _ _ (fun a => match a with
      | ⟨0, _⟩ => by show n.val = if (32 : Nat) = 1 then 0 else n.val; rw [if_neg (by decide)]
      | ⟨1, _⟩ => by show k.val = if (4 : Nat) = 1 then 0 else k.val; rw [if_neg (by decide)]
      | ⟨2, _⟩ => by show 0 = if (1 : Nat) = 1 then 0 else l.val; rw [if_pos rfl])
  have row : ∀ v : IVec S32x1x4 32, broadcastInDim S32x4x4 ![0, 1, 2] Facts.bcast_S32x1x4_S32x4x4_0_1_2 v (ValueIdx.ix3 n k l) = v (ValueIdx.ix3 n (0 : Fin 1) l) := fun v =>
    broadcastInDim_apply _ _ v _ _ (fun a => match a with
      | ⟨0, _⟩ => by show n.val = if (32 : Nat) = 1 then 0 else n.val; rw [if_neg (by decide)]
      | ⟨1, _⟩ => by show 0 = if (1 : Nat) = 1 then 0 else k.val; rw [if_pos rfl]
      | ⟨2, _⟩ => by show l.val = if (4 : Nat) = 1 then 0 else l.val; rw [if_neg (by decide)])
  have one : broadcastInDim S32x4x1 ![0, 1] Facts.bcast_S32x4_S32x4x1_0_1 a1 (ValueIdx.ix3 n k (0 : Fin 1)) = a1 (ValueIdx.ix2 n k) :=
    broadcastInDim_apply _ _ a1 _ _ (fun a => match a with
      | ⟨0, _⟩ => by show n.val = if (32 : Nat) = 1 then 0 else n.val; rw [if_neg (by decide)]
      | ⟨1, _⟩ => by show k.val = if (4 : Nat) = 1 then 0 else k.val; rw [if_neg (by decide)])
  have other : broadcastInDim S32x1x4 ![0, 2] Facts.bcast_S32x4_S32x1x4_0_2 a1 (ValueIdx.ix3 n (0 : Fin 1) l) = a1 (ValueIdx.ix2 n l) :=
    broadcastInDim_apply _ _ a1 _ _ (fun a => match a with
      | ⟨0, _⟩ => by show n.val = if (32 : Nat) = 1 then 0 else n.val; rw [if_neg (by decide)]
      | ⟨1, _⟩ => by show l.val = if (4 : Nat) = 1 then 0 else l.val; rw [if_neg (by decide)])
  constructor
  · rw [col] at g
    obtain ⟨g0, g1⟩ := and_one g
    rw [← one]
    exact lt_of_signed (n := 32) (by decide) g0 g1
  · rcases or_one g2 with g2 | g2
    · refine Or.inl fun he => ?_
      have e : IntOp.cmpi .ne
          (broadcastInDim S32x4x4 ![0, 1, 2] Facts.bcast_S32x4x1_S32x4x4_0_1_2 (broadcastInDim S32x4x1 ![0, 1] Facts.bcast_S32x4_S32x4x1_0_1 a1) (ValueIdx.ix3 n k l))
          (broadcastInDim S32x4x4 ![0, 1, 2] Facts.bcast_S32x1x4_S32x4x4_0_1_2 (broadcastInDim S32x1x4 ![0, 2] Facts.bcast_S32x4_S32x1x4_0_2 a1) (ValueIdx.ix3 n k l)) = 1#1 := g2
      rw [col, row, one, other] at e
      rw [he] at e
      unfold IntOp.cmpi at e
      have := (StableHlo.Predicate.ofBool_eq_one_iff _).mp e
      simp at this
    · exact Or.inr (same_of_eq k l g2)

end Cert.MixPre

end
-- ==== Proof.MixPoints.lean ====
/- What a point leaves, from the blocks it finds and what the point before left. -/
module

public import proofs.«01_k».proof.Proof.MixCases

@[expose] public section

set_option maxRecDepth 16384

noncomputable section

namespace Cert.MixValue

open Cert.MixKernelIdeal Cert.MixKernelIdeal.Gen Idealize.ShloMosaic
open Idealize.ShloMosaic.TcCoe Idealize.SL.Sem

variable {F : FTy → Type} [FloatOps F] (m : (ℓ : Loc nD τ sig) → Buf (Elt F) ℓ) (c : Dev nD)

theorem at_first (t : Fin cfg0.N) (h0 : t.val % 32 = 0) (h1 : ¬t.val % 32 = 31) :
    (outsAt0 m c t.val t.isLt).2 = added (iblk m c 0 t) (iblk m c 1 t) (iblk m c 2 t) (iblk m c 3 t) (iblk m c 4 t) (iblk m c 5 t) (k0_pay3) := by
  have e := congrArg Prod.snd (outsAt0_A m c t h0 h1)
  have h := first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))
  dsimp only at e
  rw [h] at e
  exact e

theorem at_middle (t : Fin cfg0.N) (h0 : ¬t.val % 32 = 0) (h1 : ¬t.val % 32 = 31) :
    (outsAt0 m c t.val t.isLt).2 = added (iblk m c 0 t) (iblk m c 1 t) (iblk m c 2 t) (iblk m c 3 t) (iblk m c 4 t) (iblk m c 5 t) (outsAt0 m c (t.val - 1) (Nat.lt_of_le_of_lt (Nat.sub_le _ _) t.isLt)).2 := by
  have e := congrArg Prod.snd (outsAt0_B m c t h0 h1)
  have h := middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (fun h => h1 ((hcond0_1 t).mp h)) (outsAt0 m c (t.val - 1) (Nat.lt_of_le_of_lt (Nat.sub_le _ _) t.isLt)).2
  dsimp only at e
  rw [h] at e
  exact e

theorem at_last (t : Fin cfg0.N) (h0 : ¬t.val % 32 = 0) (h1 : t.val % 32 = 31) :
    (outsAt0 m c t.val t.isLt).2 = added (iblk m c 0 t) (iblk m c 1 t) (iblk m c 2 t) (iblk m c 3 t) (iblk m c 4 t) (iblk m c 5 t) (outsAt0 m c (t.val - 1) (Nat.lt_of_le_of_lt (Nat.sub_le _ _) t.isLt)).2 := by
  have e := congrArg Prod.snd (outsAt0_C m c t h0 h1)
  have h := lastHeld c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) ((hcond0_1 t).mpr h1) (outsAt0 m c (t.val - 1) (Nat.lt_of_le_of_lt (Nat.sub_le _ _) t.isLt)).2
  dsimp only at e
  rw [h] at e
  exact e

theorem written (t : Fin cfg0.N) (h0 : ¬t.val % 32 = 0) (h1 : t.val % 32 = 31) :
    (outsAt0 m c t.val t.isLt).1 = k0_pay2 (iblk m c 0 t) (added (iblk m c 0 t) (iblk m c 1 t) (iblk m c 2 t) (iblk m c 3 t) (iblk m c 4 t) (iblk m c 5 t) (outsAt0 m c (t.val - 1) (Nat.lt_of_le_of_lt (Nat.sub_le _ _) t.isLt)).2) (iblk m c 6 t) (iblk m c 7 t) := by
  have e := congrArg Prod.fst (outsAt0_C m c t h0 h1)
  have h := last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) ((hcond0_1 t).mpr h1) (outsAt0 m c (t.val - 1) (Nat.lt_of_le_of_lt (Nat.sub_le _ _) t.isLt)).2
  dsimp only at e
  rw [h] at e
  exact e

end Cert.MixValue

end
-- ==== Proof.Mix.lean ====
/- The samples' experts: after a point the scratch holds the sum of the experts up to its own, each times its gate, and the
   last point writes the layer norm of the residual plus the whole sum, which is that over each row's four choices. -/
module

public import proofs.«01_k».proof.Proof.MixHost
public import proofs.«01_k».proof.Proof.MixPre
public import proofs.«01_k».proof.Proof.MixPoints

@[expose] public section

set_option maxRecDepth 16384

noncomputable section

namespace Cert.MixValue

open Cert.MixKernelIdeal Cert.MixKernelIdeal.Gen Idealize.ShloMosaic
open Idealize.ShloMosaic.TcCoe Idealize.SL.Sem Cert.MoeMath

variable (m : (ℓ : Loc nD τ sig) → Buf (Elt Ideal) ℓ) (c : Dev nD)

/-- Expert `e`'s part of entry `(r, j)`. -/
def part (r : Fin 32) (j : Fin 1024) (e : Fin 32) : EReal :=
  MixMath.gateOf (MixRef.pick (m ((c : Thread nD τ).loc main_arg1)) r) (fun k => m ((c : Thread nD τ).loc main_arg2) (ValueIdx.ix2 r k)) e
    * MixRef.expert (m ((c : Thread nD τ).loc main_arg0)) (m ((c : Thread nD τ).loc main_arg3)) (m ((c : Thread nD τ).loc main_arg4))
        (m ((c : Thread nD τ).loc main_arg5)) (m ((c : Thread nD τ).loc main_arg6)) r e j

/-- The same counted by the point's number. -/
def partN (r : Fin 32) (j : Fin 1024) (n : Nat) : EReal := if h : n < 32 then part m c r j ⟨n, h⟩ else 0

variable (hlt : ∀ (n : Fin 32) (k : Fin 4), BitVec.toNat (w := 32) (m ((c : Thread nD τ).loc main_arg1) (ValueIdx.ix2 n k)) < 32)

include hlt

/-- A point adds its expert's part. -/
theorem step (t : Fin cfg0.N) (acc : Vec Ideal S32x1024 .f32) (r : Fin 32) (j : Fin 1024)
    (h : acc (ValueIdx.ix2 r j) = ∑ n ∈ Finset.range t.val, partN m c r j n) :
    added (F := Ideal) (iblk m c 0 t) (iblk m c 1 t) (iblk m c 2 t) (iblk m c 3 t) (iblk m c 4 t) (iblk m c 5 t) acc (ValueIdx.ix2 r j)
      = ∑ n ∈ Finset.range (t.val + 1), partN m c r j n := by
  have ht : t.val < 32 := lt_of_lt_of_eq t.isLt N_0
  rw [Finset.sum_range_succ, ← h]
  refine (added_at _ _ _ _ _ _ acc r j).trans (congrArg (acc (ValueIdx.ix2 r j) + ·) ?_)
  unfold partN
  rw [dif_pos ht]
  unfold part MixRef.expert
  have e0 : xrow (iblk m c 0 t) r = fun q => m ((c : Thread nD τ).loc main_arg0) (ValueIdx.ix2 r q) := funext fun q => in0 m c t r q
  have e2 : up (iblk m c 2 t) = fun p q => m ((c : Thread nD τ).loc main_arg3) (ValueIdx.ix4 (0 : Fin 2) (exp_ t) p q) := funext fun p => funext fun q => in2 m c t p q
  have e3 : bup (iblk m c 3 t) = fun q => m ((c : Thread nD τ).loc main_arg4) (ValueIdx.ix3 (0 : Fin 2) (exp_ t) q) := funext fun q => in3 m c t q
  have e4 : dn (iblk m c 4 t) = fun p q => m ((c : Thread nD τ).loc main_arg5) (ValueIdx.ix4 (0 : Fin 2) (exp_ t) p q) := funext fun p => funext fun q => in4 m c t p q
  have e5 : bdn (iblk m c 5 t) = fun q => m ((c : Thread nD τ).loc main_arg6) (ValueIdx.ix3 (0 : Fin 2) (exp_ t) q) := funext fun q => in5 m c t q
  refine congrArg₂ (· * ·) ((in1 m c t r).trans (V_gates m c hlt (exp_ t) r)) ?_
  rw [e0, e2, e3, e4, e5]
  rfl

/-- What the scratch holds after a point. -/
theorem held : ∀ (n : Nat) (hn : n < cfg0.N) (r : Fin 32) (j : Fin 1024), (outsAt0 m c n hn).2 (ValueIdx.ix2 r j) = ∑ i ∈ Finset.range (n + 1), partN m c r j i
  | 0, hn, r, j => by
    rw [at_first m c ⟨0, hn⟩ rfl (by decide : ¬0 % 32 = 31)]
    exact step m c hlt ⟨0, hn⟩ _ r j ((zero_at r j).trans (Finset.sum_range_zero _).symm)
  | n + 1, hn, r, j => by
    have hN : n + 1 < 32 := lt_of_lt_of_eq hn N_0
    have ih := held n (by omega) r j
    have h0 : ¬(⟨n + 1, hn⟩ : Fin cfg0.N).val % 32 = 0 := by show ¬(n + 1) % 32 = 0; omega
    by_cases h1 : (⟨n + 1, hn⟩ : Fin cfg0.N).val % 32 = 31
    · rw [at_last m c ⟨n + 1, hn⟩ h0 h1]
      exact step m c hlt ⟨n + 1, hn⟩ _ r j ih
    · rw [at_middle m c ⟨n + 1, hn⟩ h0 h1]
      exact step m c hlt ⟨n + 1, hn⟩ _ r j ih

variable (hne : ∀ (n : Fin 32) (k l : Fin 4), m ((c : Thread nD τ).loc main_arg1) (ValueIdx.ix2 n k) ≠ m ((c : Thread nD τ).loc main_arg1) (ValueIdx.ix2 n l) ∨ k = l)

include hne

/-- All the parts are those of the row's four choices. -/
theorem whole (r : Fin 32) (j : Fin 1024) :
    OutMath.alpha * m ((c : Thread nD τ).loc main_arg0) (ValueIdx.ix2 r j) + ∑ i ∈ Finset.range 32, partN m c r j i
      = MixRef.row (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) r j := by
  unfold MixRef.row
  refine congrArg (OutMath.alpha * m ((c : Thread nD τ).loc main_arg0) (ValueIdx.ix2 r j) + ·) ?_
  rw [Finset.sum_range]
  have hp : ∀ e : Fin 32, partN m c r j e.val = part m c r j e := fun e => dif_pos e.isLt
  rw [Finset.sum_congr rfl fun e _ => hp e]
  refine MixMath.all_eq_chosen _ (fun k l q => ?_) _ _
  rcases hne r k l with d | d
  · refine absurd (BitVec.eq_of_toNat_eq ?_) d
    have a := hlt r k
    have b := hlt r l
    have q' := congrArg Fin.val q
    simp only [MoeRef.expOf] at q'
    omega
  · exact d

/-- The result: the plain program's. -/
theorem result : Cert.MixKernelIdeal.Value.G8 m c
    = MixReferenceIdeal.Read.val_main_v96 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  have h31 : 31 < cfg0.N := lt_of_lt_of_eq (by decide) N_0.symm
  refine (Cert.MixKernelIdeal.Value.G8_last m c).trans ((congrArg Prod.fst (Cert.MixKernelIdeal.Value.outsAt0_sweep m c 31 h31)).symm.trans ?_)
  have h0 : ¬(⟨31, h31⟩ : Fin cfg0.N).val % 32 = 0 := by show ¬31 % 32 = 0; omega
  have h1 : (⟨31, h31⟩ : Fin cfg0.N).val % 32 = 31 := rfl
  refine (written m c ⟨31, h31⟩ h0 h1).trans ?_
  funext i
  obtain ⟨r, j, rfl⟩ : ∃ (r : Fin 32) (j : Fin 1024), i = ValueIdx.ix2 r j := ⟨i 0, i 1, funext fun a => match a with | ⟨0, _⟩ => rfl | ⟨1, _⟩ => rfl⟩
  refine (normed_at _ _ _ _ r j).trans ((MixRef.v96_at _ _ _ _ _ _ _ _ _ hlt r j).trans ?_).symm
  have hz : ∀ l : Fin 1024, OutMath.alpha * iblk m c 0 ⟨31, h31⟩ (ValueIdx.ix2 r l)
      + added (F := Ideal) (iblk m c 0 ⟨31, h31⟩) (iblk m c 1 ⟨31, h31⟩) (iblk m c 2 ⟨31, h31⟩) (iblk m c 3 ⟨31, h31⟩) (iblk m c 4 ⟨31, h31⟩) (iblk m c 5 ⟨31, h31⟩)
          (outsAt0 m c 30 (Nat.lt_of_succ_lt h31)).2 (ValueIdx.ix2 r l)
      = MixRef.row (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) r l := fun l =>
    (congrArg₂ (fun a b => OutMath.alpha * a + b) (in0 m c ⟨31, h31⟩ r l)
      (step m c hlt ⟨31, h31⟩ _ r l (held m c hlt 30 (Nat.lt_of_succ_lt h31) r l))).trans (whole m c hlt hne r l)
  rw [← in6 m c ⟨31, h31⟩ j, ← in7 m c ⟨31, h31⟩ j]
  exact congrArg (fun z => OutMath.norm z _ _ j) (funext hz).symm

end Cert.MixValue

end
-- ==== Proof.MoeLoops.lean ====
/- The two counted loops of the expert kernel: the first starts one transfer per row of a block, each copying the row
   of the token table that the block's row word names into the gather buffer; the second waits for all of them.

   All transfers complete on one semaphore, so they are one batch. A transfer's source is a row of the token array,
   and several may name the same row, so each transfer lends that row out of a read token of its own of the whole
   array; what is left of the token stays with the loop until the batch is drained. -/
module

public import proofs.«01_k».proof.Proof.Gen.MoeKernelIdeal.Loops
public import proofs.«01_k».proof.Proof.Gen.MoeKernelIdeal.Launch
public import Idealize.ShloMosaic.Lib.Batch
public import Idealize.ShloMosaic.Lib.Ring
public import Idealize.ShloMosaic.Lib.Tactic
public import Idealize.ShloMosaic.Lib.Pipeline.FrameBody
public import Idealize.ShloMosaic.Lib.WordCmp

@[expose] public section

set_option maxRecDepth 16384

noncomputable section

namespace Cert.MoeKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeKernelIdeal.Gen

variable {F : FTy → Type} [FloatOps F]

local notation "𝕄" => MT nD τ sig Unit (Elt F) ℕ (Pipeline.UD sig nD τ) ℕ

/-- The number of rows of a block, and of transfers of a batch. -/
abbrev T : ℕ := k0_t1_loop.trips
theorem T_eq : T = 256 := by decide
theorem T2_eq : k0_t2_loop.trips = T := by decide

/-- The token array in HBM and the gather buffer, and the batch's cell. -/
abbrev xM : Memref sig .tc .hbm S16384x1024 .f32 := Memref.whole main_arg0
abbrev gM : Memref sig .tc .vmem S256x1024 .f32 := Memref.whole cc0_scratch0
abbrev cell : SemLoc sig := .dma (cc0_scratch3).sem

/-- Row `k` of the gather buffer, and the row of the token array that word `w` names. -/
def rowM (k : Fin T) : Memref sig .tc .vmem S1x1024 .f32 :=
  gM.slice (Rect.unit (s := S256x1024) (k0_off3 k) S1x1024.size (k0_off3_inb k)) (fun _ => rfl)
def srcM (w : BitVec 32) (h : ∀ a, (k0_off4 w) a + S1x1024.size a ≤ S16384x1024.size a) : Memref sig .tc .hbm S1x1024 .f32 :=
  xM.slice (Rect.unit (s := S16384x1024) (k0_off4 w) S1x1024.size h) (fun _ => rfl)

variable (c : Dev nD)

section Issue

variable (i : grid0.Coords) (arg1 : Memref sig .tc .smem S288 .i32) (harg1 : arg1.IsWhole) (arg2 : Memref sig .tc .smem S1 .i32) (harg2 : arg2.IsWhole)
  (arg3 : Memref sig .tc .smem S1x1x256 .i32) (harg3 : arg3.IsWhole)
  (arg5 : Memref sig .tc .vmem S1x1x1024x2048 .f32) (harg5 : arg5.IsWhole) (arg6 : Memref sig .tc .vmem S1x1x1x2048 .f32) (harg6 : arg6.IsWhole)
  (arg7 : Memref sig .tc .vmem S1x1x1024x1024 .f32) (harg7 : arg7.IsWhole) (arg8 : Memref sig .tc .vmem S1x1x1x1024 .f32) (harg8 : arg8.IsWhole)
  (arg9 : Memref sig .tc .vmem S256x1024 .f32) (harg9 : arg9.IsWhole)
  (arg11 : Memref sig .tc .vmem S1024x2048 .bf16) (harg11 : arg11.IsWhole) (arg12 : Memref sig .tc .vmem S1024x1024 .bf16) (harg12 : arg12.IsWhole)
  (arg0 : BitVec 32) (v0 : Elt F .i32) (k0_h1 : k0_cond1 i v0 = 1#1)

/-- The word the loop reads at trip `k`, the word block held at contents `f3`. -/
abbrev wordAt (f3 : Buf (Elt F) (arg3.view.loc (c : Thread nD τ))) (k : Fin T) : BitVec 32 :=
  (arg3.access (Rect.unit (s := S1x1x256) (k0_off2 k) S1x1x1.size (k0_off2_inb k))).read (Elt F) f3 (Shape.Idx.first (numel1_S1x1x1.symm ▸ Nat.one_pos))

/-- Every word of the block names a row of the token array. -/
def InRange (f3 : Buf (Elt F) (arg3.view.loc (c : Thread nD τ))) : Prop :=
  ∀ k : Fin T, ∀ a, (k0_off4 (wordAt (F := F) c arg3 f3 k)) a + S1x1024.size a ≤ S16384x1024.size a

variable {arg3} in
/-- What transfer `k` delivers: its row of the gather buffer, written with the row its word names, and that row of the
    token array under read token `k`. -/
abbrev deliv {f3 : Buf (Elt F) (arg3.view.loc (c : Thread nD τ))} (hr : InRange (F := F) c arg3 f3)
    (fx : Buf (Elt F) (xM.view.loc (c : Thread nD τ))) (g : Buf (Elt F) (gM.view.loc (c : Thread nD τ))) (k : Fin T) : sProp 𝕄 :=
  iprop(((rowM k).view.loc (c : Thread nD τ) ↦[(rowM k).view.set]{fullShare}
        (rowM k).view.writes (Elt F) g [⟨Rect.whole _, (srcM (wordAt (F := F) c arg3 f3 k) (hr k)).view.read (Elt F) fx⟩])
    ∗ ((srcM (wordAt (F := F) c arg3 f3 k) (hr k)).view.loc (c : Thread nD τ) ↦[(srcM (wordAt (F := F) c arg3 f3 k) (hr k)).view.set]{Transfers.shareTokN fullShare k.val} fx))

/-- The batch (a row credits 128 units), `j` transfers started and `u` units consumed. -/
abbrev batch {f3 : Buf (Elt F) (arg3.view.loc (c : Thread nD τ))} (hr : InRange (F := F) c arg3 f3)
    (fx : Buf (Elt F) (xM.view.loc (c : Thread nD τ))) (g : Buf (Elt F) (gM.view.loc (c : Thread nD τ))) (j u : ℕ) : sProp 𝕄 :=
  Transfers.Batch (countersEmb (U := Pipeline.UD sig nD τ)) (c : Thread nD τ) cell () 128 (deliv c hr fx g) j u

/-- Row `k` of the gather buffer at contents `g`. -/
abbrev rowAt (g : Buf (Elt F) (gM.view.loc (c : Thread nD τ))) (k : Fin T) : sProp 𝕄 :=
  (rowM k).view.loc (c : Thread nD τ) ↦[(rowM k).view.set]{fullShare} g
/-- Read token `k` of the token array, -/
abbrev tokAt (fx : Buf (Elt F) (xM.view.loc (c : Thread nD τ))) (k : Fin T) : sProp 𝕄 :=
  xM.view.loc (c : Thread nD τ) ↦{Transfers.shareTokN fullShare k.val} fx
/-- and what is left of it while transfer `k` holds its row. -/
abbrev leftAt {f3 : Buf (Elt F) (arg3.view.loc (c : Thread nD τ))} (hr : InRange (F := F) c arg3 f3)
    (fx : Buf (Elt F) (xM.view.loc (c : Thread nD τ))) (k : Fin T) : sProp 𝕄 :=
  xM.view.loc (c : Thread nD τ) ↦[Finset.univ \ (srcM (wordAt (F := F) c arg3 f3 k) (hr k)).view.set]{Transfers.shareTokN fullShare k.val} fx

/-- Before trip `k` of the first loop: `k` transfers started; the rows and the tokens from `k` on in hand; of the
    tokens before `k` what their transfers left; the word block. -/
def issueAt {f3 : Buf (Elt F) (arg3.view.loc (c : Thread nD τ))} (hr : InRange (F := F) c arg3 f3)
    (fx : Buf (Elt F) (xM.view.loc (c : Thread nD τ))) (g : Buf (Elt F) (gM.view.loc (c : Thread nD τ))) (k : ℕ) (_ : Unit) : sProp 𝕄 :=
  iprop(batch c arg3 hr fx g k 0 ∗ bigSep (Ring.rangeSet T k T) (rowAt (F := F) c g) ∗ bigSep (Ring.rangeSet T k T) (tokAt (F := F) c fx)
    ∗ bigSep (Ring.rangeSet T 0 k) (leftAt c arg3 hr fx) ∗ (arg3.view.loc (c : Thread nD τ) ↦[arg3.view.set]{fullShare} f3))

set_option maxHeartbeats 2000000 in
theorem issue_step [∀ e, Nonempty (Elt F e)] {f3 : Buf (Elt F) (arg3.view.loc (c : Thread nD τ))} (hr : InRange (F := F) c arg3 f3)
    (fx : Buf (Elt F) (xM.view.loc (c : Thread nD τ))) (g : Buf (Elt F) (gM.view.loc (c : Thread nD τ))) (k : Fin T) (acc : Unit) :
    issueAt c arg3 hr fx g k acc ⊢ wp frame (wpE (defs₀ (F := F)) Variants.none (c : Thread nD τ) none) Set.univ
      (k0_t1_body (F := F) i arg1 harg1 arg2 harg2 arg3 harg3 xM (Memref.isWhole_whole _) arg5 harg5 arg6 harg6 arg7 harg7 arg8 harg8 arg9 harg9 gM (Memref.isWhole_whole _) arg11 harg11 arg12 harg12 cc0_scratch3 arg0 v0 k0_h1 k acc)
      (issueAt c arg3 hr fx g (k.val + 1)) := by
  have hk := k.isLt
  have hchk : k0_chk1 i v0 (wordAt (F := F) c arg3 f3 k) := fun _ => hr k
  unfold issueAt
  rw [Ring.bigSep_rangeSet_head (Φ := rowAt (F := F) c g) (by omega) (by omega), Ring.bigSep_rangeSet_head (Φ := tokAt (F := F) c fx) (by omega) (by omega),
    Ring.bigSep_rangeSet_last (lo := 0) (hi := k.val + 1) (Φ := leftAt c arg3 hr fx) (by omega) (by omega)]
  iintro ⟨HB, ⟨HR, HRs⟩, ⟨HX, HXs⟩, HLs, HW⟩
  unfold k0_t1_body
  sl_exec (disch := exact hchk)
  sl_step
  isplitl [HB]; · iexact HB
  isplitl [HRs]; · iexact HRs
  isplitl [HXs]; · iexact HXs
  isplitl [HX HLs]
  · isplitl [HX]; · iexact HX
    iexact HLs
  iexact HW

set_option warn.classDefReducibility false in
/-- The first loop's invariant, for the run to find. -/
@[sl_loop] def issueInv [∀ e, Nonempty (Elt F e)] {f3 : Buf (Elt F) (arg3.view.loc (c : Thread nD τ))} (hr : InRange (F := F) c arg3 f3)
    (fx : Buf (Elt F) (xM.view.loc (c : Thread nD τ))) (g : Buf (Elt F) (gM.view.loc (c : Thread nD τ))) :
    Gen.LoopInvTy_k0_t1 (F := F) Unit ℕ (Pipeline.UD sig nD τ) ℕ Variants.none c none Set.univ i arg1 harg1 arg2 harg2 arg3 harg3 xM (Memref.isWhole_whole _) arg5 harg5 arg6 harg6 arg7 harg7 arg8 harg8 arg9 harg9 gM (Memref.isWhole_whole _) arg11 harg11 arg12 harg12 cc0_scratch3 arg0 v0 k0_h1 where
  inv := issueAt c arg3 hr fx g
  step := issue_step c i arg1 harg1 arg2 harg2 arg3 harg3 arg5 harg5 arg6 harg6 arg7 harg7 arg8 harg8 arg9 harg9 arg11 harg11 arg12 harg12 arg0 v0 k0_h1 hr fx g

/-! ## The second loop -/

/-- Before trip `k` of the second loop: the waits so far recorded; and before the last trip has run the batch with `k`
    rows' units consumed, after it the cell at zero and every delivery. -/
def drainAt {f3 : Buf (Elt F) (arg3.view.loc (c : Thread nD τ))} (hr : InRange (F := F) c arg3 f3)
    (fx : Buf (Elt F) (xM.view.loc (c : Thread nD τ))) (g : Buf (Elt F) (gM.view.loc (c : Thread nD τ))) (k : ℕ) (_ : Unit) : sProp 𝕄 :=
  iprop((∃ W, owes (c : Thread nD τ) 0 W)
    ∗ (if k < T then batch c arg3 hr fx g T (k * 128)
       else iprop(semVal ((c : Thread nD τ), cell) 0 ∗ bigSep Finset.univ (deliv c hr fx g))))

set_option maxHeartbeats 2000000 in
theorem drain_step [∀ e, Nonempty (Elt F e)] {f3 : Buf (Elt F) (arg3.view.loc (c : Thread nD τ))} (hr : InRange (F := F) c arg3 f3)
    (fx : Buf (Elt F) (xM.view.loc (c : Thread nD τ))) (g : Buf (Elt F) (gM.view.loc (c : Thread nD τ))) (k : Fin k0_t2_loop.trips) (acc : Unit) :
    drainAt c arg3 hr fx g k acc ⊢ wp frame (wpE (defs₀ (F := F)) Variants.none (c : Thread nD τ) none) Set.univ
      (k0_t2_body (F := F) i arg1 harg1 arg2 harg2 arg3 harg3 xM (Memref.isWhole_whole _) arg5 harg5 arg6 harg6 arg7 harg7 arg8 harg8 arg9 harg9 gM (Memref.isWhole_whole _) arg11 harg11 arg12 harg12 cc0_scratch3 arg0 v0 k0_h1 k acc)
      (drainAt c arg3 hr fx g (k.val + 1)) := by
  have hk : k.val < T := k.isLt
  unfold drainAt
  simp only [if_pos hk]
  rcases Nat.lt_or_ge (k.val + 1) T with h1 | h1
  · simp only [if_pos h1]
    iintro ⟨⟨%W, HO⟩, HB⟩
    unfold k0_t2_body
    sl_exec
    sl_step
    isplitl [HO]; · iexists _; iexact HO
    rw [show (k.val + 1) * 128 = k.val * 128 + 128 from Nat.succ_mul _ _]
    iexact HB
  · simp only [if_neg (Nat.not_lt.mpr h1)]
    iintro ⟨⟨%W, HO⟩, HB⟩
    unfold k0_t2_body
    sl_exec
    sl_step
    isplitl [HO]; · iexists _; iexact HO
    isplitl [HB]; · iexact HB
    iexact HB_all

end Issue

end Cert.MoeKernelIdeal.Rows

end
-- ==== Proof.MoeGather.lean ====
/- What the gather leaves: the block of rows the transfers assemble, and the two arrays put together again from what
   the transfers return. -/
module

public import proofs.«01_k».proof.Proof.MoeLoops
public import Idealize.ShloMosaic.Lib.ValueIdx
public import Idealize.ShloMosaic.Lib.Pipeline.ValueKit.Geometry

@[expose] public section

set_option maxRecDepth 16384

noncomputable section

namespace Cert.MoeKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeKernelIdeal.Gen

variable {F : FTy → Type} [FloatOps F]

local notation "𝕄" => MT nD τ sig Unit (Elt F) ℕ (Pipeline.UD sig nD τ) ℕ

variable (c : Dev nD)

/-- Transfer `k` fills row `k`. -/
theorem off3_eq : ∀ k : Fin T, k0_off3 k = ![k.val, 0] := by decide +kernel
/-- The row of the buffer an element lies in, as a transfer's number. -/
def tOf (y : S256x1024.Idx) : Fin T := ⟨(y 0).val, by rw [T_eq]; exact (y 0).isLt⟩

/-- Row `k`'s elements. -/
abbrev rowSet (k : Fin T) : Finset S256x1024.Idx := (Rect.unit (s := S256x1024) (k0_off3 k) S1x1024.size (k0_off3_inb k)).set
theorem mem_rowSet (k : Fin T) (y : S256x1024.Idx) : y ∈ rowSet k ↔ tOf y = k := by
  rw [Rect.mem_set_unit, Fin.ext_iff]
  show _ ↔ (y 0).val = k.val
  have h1 : (y 1).val < 1024 := (y 1).isLt
  have e0 : k0_off3 k 0 = k.val := by rw [off3_eq]; rfl
  have e1 : k0_off3 k 1 = 0 := by rw [off3_eq]; rfl
  constructor
  · intro H; have a0 : k0_off3 k 0 ≤ (y 0).val ∧ (y 0).val < k0_off3 k 0 + 1 := H 0; omega
  · intro H a
    match a with
    | ⟨0, _⟩ => show k0_off3 k 0 ≤ (y 0).val ∧ (y 0).val < k0_off3 k 0 + 1; omega
    | ⟨1, _⟩ => show k0_off3 k 1 ≤ (y 1).val ∧ (y 1).val < k0_off3 k 1 + 1024; omega
theorem rowSet_eq (k : Fin T) : (rowM k).view.set = rowSet k := by
  unfold rowM; exact View.set_slice_whole _ _
theorem rowSet_disjoint : ∀ k k' : Fin T, k ≠ k' → Disjoint (rowSet k) (rowSet k') := fun k k' hne => by
  rw [Finset.disjoint_left]; intro y hy hy'; rw [mem_rowSet] at hy hy'; exact hne (hy.symm.trans hy')
theorem rowSet_cover : Finset.univ.biUnion rowSet = Finset.univ := by
  ext y; simp only [Finset.mem_biUnion, Finset.mem_univ, true_and, iff_true]; exact ⟨tOf y, (mem_rowSet _ _).mpr rfl⟩

variable {arg3 : Memref sig .tc .smem S1x1x256 .i32} {f3 : Buf (Elt F) (arg3.view.loc (c : Thread nD τ))}

theorem word_lt (hr : InRange (F := F) c arg3 f3) (k : Fin T) : (wordAt (F := F) c arg3 f3 k).toNat < 16384 := by
  have h := hr k 0
  have h' : (wordAt (F := F) c arg3 f3 k).toNat + 1 ≤ 16384 := h
  omega

/-- The block of rows: row `j` is the row of the token array that word `j` names. -/
def gath (hr : InRange (F := F) c arg3 f3) (fx : S16384x1024.Idx → Elt F .f32) : S256x1024.Idx → Elt F .f32 := fun y =>
  fx (ValueIdx.ix2 ⟨(wordAt (F := F) c arg3 f3 (tOf y)).toNat, word_lt c hr _⟩ (y 1))

theorem src_lt {w : BitVec 32} (h : ∀ a, (k0_off4 w) a + S1x1024.size a ≤ S16384x1024.size a) : w.toNat < 16384 := by
  have h' : w.toNat + 1 ≤ 16384 := h 0
  omega

theorem rowM_read (k : Fin T) (f : S256x1024.Idx → Elt F .f32) (x : S1x1024.Idx) :
    (rowM k).view.read (Elt F) f x = f ((rowM k).view.emb x) := rfl

theorem row_value_of (w : BitVec 32) (h : ∀ a, (k0_off4 w) a + S1x1024.size a ≤ S16384x1024.size a) (fx : S16384x1024.Idx → Elt F .f32)
    (g : S256x1024.Idx → Elt F .f32) (k : Fin T) (x : S1x1024.Idx) :
    (rowM k).view.writes (Elt F) g [⟨Rect.whole _, (srcM w h).view.read (Elt F) fx⟩] ((rowM k).view.emb x)
      = fx (ValueIdx.ix2 ⟨w.toNat, src_lt h⟩ (x 1)) := by
  have e := congrFun (View.read_writes_whole (Val := Elt F) (rowM k).view g ((srcM w h).view.read (Elt F) fx)) x
  refine (rowM_read k ((rowM k).view.writes (Elt F) g [⟨Rect.whole _, (srcM w h).view.read (Elt F) fx⟩]) x).symm.trans (e.trans ?_)
  show fx ((srcM w h).view.emb x) = _
  refine congrArg fx (funext fun a => Fin.ext ?_)
  have hx : (x 0).val = 0 := by have : (x 0).val < 1 := (x 0).isLt; omega
  match a with
  | ⟨0, _⟩ =>
    show w.toNat + 1 * (x 0).val = w.toNat
    omega
  | ⟨1, _⟩ =>
    show 0 + 1 * (x 1).val = (x 1).val
    omega

theorem row_value (hr : InRange (F := F) c arg3 f3) (fx : S16384x1024.Idx → Elt F .f32) (g : S256x1024.Idx → Elt F .f32) (k : Fin T) :
    ∀ y ∈ (rowM k).view.set, (rowM k).view.writes (Elt F) g [⟨Rect.whole _, (srcM (wordAt (F := F) c arg3 f3 k) (hr k)).view.read (Elt F) fx⟩] y
      = gath c hr fx y := by
  intro y hy
  have hk : tOf y = k := (mem_rowSet k y).mp (rowSet_eq k ▸ hy)
  obtain ⟨x, -, hx⟩ : ∃ x : S1x1024.Idx, _ ∧ (rowM k).view.emb x = y := Finset.mem_map.mp hy
  have e := row_value_of (wordAt (F := F) c arg3 f3 k) (hr k) fx g k x
  rw [hx] at e
  refine e.trans ?_
  have h1 : x 1 = (show S256x1024.Idx from y) 1 := by
    refine Fin.ext ?_
    have h2 : ((show S256x1024.Idx from y) 1).val = k0_off3 k 1 + 1 * (x 1).val := by rw [← hx]; rfl
    have e1 : k0_off3 k 1 = 0 := by rw [off3_eq]; rfl
    omega
  unfold gath
  rw [h1]
  have hw : (⟨_, src_lt (hr k)⟩ : Fin 16384) = ⟨_, word_lt c hr (tOf y)⟩ := Fin.ext (by rw [hk])
  rw [hw]

/-- The gather buffer held whole is its rows held, -/
theorem buf_rows (g : S256x1024.Idx → Elt F .f32) :
    (gM.view.loc (c : Thread nD τ) ↦{fullShare} g : sProp 𝕄) = bigSep Finset.univ (rowAt (F := F) c g) := by
  rw [Ring.pointsTo_blocks (ℓ := gM.view.loc (c : Thread nD τ)) (q := fullShare) rowSet rowSet_disjoint rowSet_cover g]
  refine congrArg _ (funext fun k => ?_)
  unfold rowAt; rw [rowSet_eq]; rfl

/-- the token array held whole is its read tokens and the rest; -/
theorem arr_toks (fx : S16384x1024.Idx → Elt F .f32) :
    (xM.view.loc (c : Thread nD τ) ↦{fullShare} fx : sProp 𝕄)
      ⊣⊢ iprop((xM.view.loc (c : Thread nD τ) ↦{Transfers.shareDrop fullShare T} fx) ∗ bigSep Finset.univ (tokAt (F := F) c fx)) := by
  have e : (bigSep Finset.univ (tokAt (F := F) c fx) : sProp 𝕄)
      = bigSep (Finset.range T) (fun t => (xM.view.loc (c : Thread nD τ) ↦{Transfers.shareTokN fullShare t} fx : sProp 𝕄)) := by
    rw [← Ring.rangeSet_univ]
    exact Ring.bigSep_rangeSet_eq_range (NB := T) (lo := 0) (hi := T) (Φ := tokAt (F := F) c fx) le_rfl _
      (fun k hk => by show _ = (xM.view.loc (c : Thread nD τ) ↦{Transfers.shareTokN fullShare (0 + k)} fx : sProp 𝕄); rw [Nat.zero_add])
  rw [e]
  exact Transfers.pointsTo_toks_range fullShare T

/-- and what the transfers deliver, with what they left of the tokens, is the gather buffer at the block of rows and
    the tokens. -/
theorem deliv_join (hr : InRange (F := F) c arg3 f3) (fx : S16384x1024.Idx → Elt F .f32) (g : S256x1024.Idx → Elt F .f32) :
    iprop(bigSep Finset.univ (deliv c hr fx g) ∗ bigSep (Ring.rangeSet T 0 T) (leftAt c arg3 hr fx))
      ⊢ (iprop((gM.view.loc (c : Thread nD τ) ↦{fullShare} gath c hr fx) ∗ bigSep Finset.univ (tokAt (F := F) c fx)) : sProp 𝕄) := by
  have e1 : (bigSep Finset.univ (deliv c hr fx g) : sProp 𝕄)
      = iprop(bigSep Finset.univ (rowAt (F := F) c (gath c hr fx))
        ∗ bigSep Finset.univ (fun k => ((srcM (wordAt (F := F) c arg3 f3 k) (hr k)).view.loc (c : Thread nD τ) ↦[(srcM (wordAt (F := F) c arg3 f3 k) (hr k)).view.set]{Transfers.shareTokN fullShare k.val} fx : sProp 𝕄))) := by
    rw [show deliv c hr fx g = fun k => iprop(rowAt (F := F) c (gath c hr fx) k ∗ ((srcM (wordAt (F := F) c arg3 f3 k) (hr k)).view.loc (c : Thread nD τ) ↦[(srcM (wordAt (F := F) c arg3 f3 k) (hr k)).view.set]{Transfers.shareTokN fullShare k.val} fx)) from
      funext fun k => by
        unfold deliv rowAt
        exact congrArg (fun P => iprop(P ∗ _)) (pointsTo_congr (row_value c hr fx g k))]
    exact BI.bigSep_sep _ _ _
  rw [e1, Ring.rangeSet_univ]
  have e2 : iprop(bigSep Finset.univ (fun k => ((srcM (wordAt (F := F) c arg3 f3 k) (hr k)).view.loc (c : Thread nD τ) ↦[(srcM (wordAt (F := F) c arg3 f3 k) (hr k)).view.set]{Transfers.shareTokN fullShare k.val} fx : sProp 𝕄))
      ∗ bigSep Finset.univ (leftAt c arg3 hr fx)) ⊢ bigSep Finset.univ (tokAt (F := F) c fx) := by
    refine (Entails.of_eq (BI.bigSep_sep _ _ _).symm).trans (BI.bigSep_mono fun k _ => ?_)
    exact (pointsTo_split_subset (ℓ := xM.view.loc (c : Thread nD τ)) (S := Finset.univ) (f := fx) (Finset.subset_univ _)).2
  iintro ⟨⟨HR, HS⟩, HL⟩
  isplitl [HR]
  · rw [buf_rows]; iexact HR
  iapply e2
  isplitl [HS] <;> iassumption

end Cert.MoeKernelIdeal.Rows

end
-- ==== Proof.MoeRun.lean ====
/- One grid point of the expert kernel: what its body does to the buffers it is handed, in the cases its
   branches distinguish: an idle block; a working block whose expert is the block before's, so that the narrowed
   weights in scratch are still right; a working block of another expert, which narrows its weights first. -/
module

public import proofs.«01_k».proof.Proof.MoeGather
public import Idealize.ShloMosaic.Lib.Pipeline.ValueKit
public import Idealize.ShloMosaic.Lib.WholeRead

@[expose] public section

set_option maxRecDepth 16384

noncomputable section

namespace Cert.MoeKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MoeKernelIdeal.Gen

variable {F : FTy → Type} [FloatOps F]

local notation "𝕄" => MT nD τ sig Unit (Elt F) ℕ (Pipeline.UD sig nD τ) ℕ

/-- The two tables and the scratch buffers as the body is handed them. -/
abbrev beM : Memref sig .tc .smem S288 .i32 := Memref.whole main_arg2
abbrev naM : Memref sig .tc .smem S1 .i32 := Memref.whole main_arg3
abbrev upM : Memref sig .tc .vmem S1024x2048 .bf16 := Memref.whole cc0_scratch1
abbrev dnM : Memref sig .tc .vmem S1024x1024 .bf16 := Memref.whole cc0_scratch2

variable (c : Dev nD)

/-- A table held at half the full share. -/
abbrev tbAt {S : Shape} {e : EltTy} (M : Memref sig .tc .smem S e) (f : Buf (Elt F) (M.view.loc (c : Thread nD τ))) : sProp 𝕄 :=
  M.view.loc (c : Thread nD τ) ↦{fullShare.right} f
abbrev hbAt {sp : Space} {S : Shape} {e : EltTy} (M : Memref sig .tc sp S e) (f : Buf (Elt F) (M.view.loc (c : Thread nD τ))) : sProp 𝕄 :=
  M.view.loc (c : Thread nD τ) ↦{fullShare} f

/-- The only index of a one-word table. -/
abbrev ix0 : S1.Idx := Shape.Idx.first (numel1_S1.symm ▸ Nat.one_pos)

instance deliv_storable {arg3 : Memref sig .tc .smem S1x1x256 .i32} {f3 : Buf (Elt F) (arg3.view.loc (c : Thread nD τ))} (hr : InRange (F := F) c arg3 f3)
    (fx : Buf (Elt F) (xM.view.loc (c : Thread nD τ))) (g : Buf (Elt F) (gM.view.loc (c : Thread nD τ))) (k : Fin T) :
    BI.Storable (upEmb : UEmb _ 𝕄) (deliv c hr fx g k) := by
  unfold deliv rowM srcM; infer_instance

/-- The word of the block count, -/
abbrev naWord (na : S1.Idx → Elt F .i32) : BitVec 32 :=
  (naM.access (Rect.unit (s := S1) ![0] S1.size inb_S1_S1_0)).read (Elt F) na ix0
/-- The word of the expert table at point `i`, and at the point before (at point 0 its own), -/
abbrev beHere (i : grid0.Coords) (be : S288.Idx → Elt F .i32) : BitVec 32 :=
  (beM.access (Rect.unit (s := S288) (k0_off5 i) S1.size (k0_off5_inb i))).read (Elt F) be ix0
abbrev bePrev (i : grid0.Coords) (be : S288.Idx → Elt F .i32) : BitVec 32 :=
  (beM.access (Rect.unit (s := S288) (k0_off6 i) S1.size (k0_off6_inb i))).read (Elt F) be ix0
/-- and the bit the body reads off them: whether the narrowed weights are another expert's. -/
abbrev stale (i : grid0.Coords) (be : S288.Idx → Elt F .i32) : BitVec 1 :=
  Scalar.cmpi .ne (Scalar.extui (Scalar.ori (Scalar.cmpi .eq (BitVec.ofNat 32 (i 0).val) 0#32) (Scalar.cmpi .ne (beHere i be) (bePrev i be)))) 0#32

/-- What a working block stores, of its rows and its expert's narrowed weights and biases. -/
def rowsOut (G : Vec F S256x1024 .f32) (wu : Vec F S1024x2048 .bf16) (bu : Vec F S1x1x1x2048 .f32) (wd : Vec F S1024x1024 .bf16) (bd : Vec F S1x1x1x1024 .f32) : Vec F S256x1024 .f32 :=
  k0_pay1 (k0_pay6 G wu bu) (k0_pay7 G wu bu) (k0_pay8 G wu bu) (Scalar.ofBits .f32 0x00000000#32) wd bd

/-- The narrowed weights at point `i`: narrowed anew if they were another expert's, and as they were otherwise. -/
abbrev upNow (i : grid0.Coords) (be : S288.Idx → Elt F .i32) (x1 : Vec F S1x1x1024x2048 .f32) (fu : S1024x2048.Idx → Elt F .bf16) : S1024x2048.Idx → Elt F .bf16 :=
  if stale (F := F) i be = 1#1 then k0_pay3 x1 else fu
abbrev dnNow (i : grid0.Coords) (be : S288.Idx → Elt F .i32) (x3 : Vec F S1x1x1024x1024 .f32) (fd : S1024x1024.Idx → Elt F .bf16) : S1024x1024.Idx → Elt F .bf16 :=
  if stale (F := F) i be = 1#1 then k0_pay4 x3 else fd

/-- A store through the whole of a view leaves its payload, and a load through the whole reads all there is. -/
theorem read_store {sp : Space} {S : Shape} {e : EltTy} (v : View sig .tc sp S e) (f : v.ty.Contents (Elt F)) {off : Fin S.rank → ℕ} (h : ∀ a, off a = 0)
    (inb : ∀ a, off a + S.size a ≤ S.size a) (w : S.Idx → Elt F e) : v.read (Elt F) (v.writes (Elt F) f [⟨Rect.unit off S.size inb, w⟩]) = w := by
  funext y
  have hr := View.read_writes_cons_emb (v := v) (f := f) (Rect.unit off S.size inb) w [] y
  rwa [show (Rect.unit off S.size inb).emb y = y from funext fun a => Fin.ext (by
    rw [ValueKit.rect_emb_unit_val, h a, Nat.zero_add])] at hr
theorem load_whole {sp : Space} {S : Shape} {e : EltTy} {M : Memref sig .tc sp S e} (hM : M.IsWhole) (x : S.Idx → Elt F e) {off : Fin S.rank → ℕ} (h : ∀ a, off a = 0)
    (inb : ∀ a, off a + S.size a ≤ S.size a) : M.view.readAt (Elt F) (Rect.unit off S.size inb).toLoadRect (hM.unread x) = x := by
  funext y
  rw [hM.readAt_unread]
  exact congrArg x (funext fun a => Fin.ext (by
    show off a + 1 * (y a).val = (y a).val
    rw [h a, Nat.zero_add, Nat.one_mul]))
theorem store_ref (b : Ref sig .tc) (f : b.ty.Contents (Elt F)) {off : Fin b.ty.shape.rank → ℕ} (h : ∀ a, off a = 0)
    (inb : ∀ a, off a + b.ty.shape.size a ≤ b.ty.shape.size a) (w : b.ty.Contents (Elt F)) :
    (Memref.whole b : Memref sig .tc _ _ _).view.writes (Elt F) f [⟨Rect.unit off b.ty.shape.size inb, w⟩] = w :=
  read_store (Memref.whole b : Memref sig .tc _ _ _).view f h inb w

theorem up_eq {arg5 : Memref sig .tc .vmem S1x1x1024x2048 .f32} (harg5 : arg5.IsWhole) (i : grid0.Coords) (be : S288.Idx → Elt F .i32) (x1 : Vec F S1x1x1024x2048 .f32) (fu : S1024x2048.Idx → Elt F .bf16) :
    (if hc : stale (F := F) i be = 1#1 then
        upM.view.writes (Elt F) fu [⟨Rect.unit ![0, 0] S1024x2048.size inb_S1024x2048_S1024x2048_0_0,
            k0_pay3 (View.readAt (Elt F) arg5.view (Rect.unit ![0, 0, 0, 0] S1x1x1024x2048.size inb_S1x1x1024x2048_S1x1x1024x2048_0_0_0_0).toLoadRect (harg5.unread x1))⟩]
      else fu) = upNow i be x1 fu := by
  by_cases h : stale (F := F) i be = 1#1
  · rw [dif_pos h, upNow, if_pos h, load_whole harg5 x1 (by decide)]
    exact store_ref cc0_scratch1 fu (by decide) _ _
  · rw [dif_neg h, upNow, if_neg h]

theorem dn_eq {arg7 : Memref sig .tc .vmem S1x1x1024x1024 .f32} (harg7 : arg7.IsWhole) (i : grid0.Coords) (be : S288.Idx → Elt F .i32) (x3 : Vec F S1x1x1024x1024 .f32) (fd : S1024x1024.Idx → Elt F .bf16) :
    (if hc : stale (F := F) i be = 1#1 then
        dnM.view.writes (Elt F) fd [⟨Rect.unit ![0, 0] S1024x1024.size inb_S1024x1024_S1024x1024_0_0,
            k0_pay4 (View.readAt (Elt F) arg7.view (Rect.unit ![0, 0, 0, 0] S1x1x1024x1024.size inb_S1x1x1024x1024_S1x1x1024x1024_0_0_0_0).toLoadRect (harg7.unread x3))⟩]
      else fd) = dnNow i be x3 fd := by
  by_cases h : stale (F := F) i be = 1#1
  · rw [dif_pos h, dnNow, if_pos h, load_whole harg7 x3 (by decide)]
    exact store_ref cc0_scratch2 fd (by decide) _ _
  · rw [dif_neg h, dnNow, if_neg h]

theorem up_ent {arg5 : Memref sig .tc .vmem S1x1x1024x2048 .f32} (harg5 : arg5.IsWhole) {p : BitVec 1} (i : grid0.Coords) (be : S288.Idx → Elt F .i32) (x1 : Vec F S1x1x1024x2048 .f32) (fu : S1024x2048.Idx → Elt F .bf16) (hp : p = stale (F := F) i be) :
    hbAt c upM (if hc : p = 1#1 then
        upM.view.writes (Elt F) fu [⟨Rect.unit ![0, 0] S1024x2048.size inb_S1024x2048_S1024x2048_0_0,
            k0_pay3 (View.readAt (Elt F) arg5.view (Rect.unit ![0, 0, 0, 0] S1x1x1024x2048.size inb_S1x1x1024x2048_S1x1x1024x2048_0_0_0_0).toLoadRect (harg5.unread x1))⟩]
      else fu) ⊢ hbAt c upM (upNow i be x1 fu) := by subst hp; rw [up_eq]
theorem dn_ent {arg7 : Memref sig .tc .vmem S1x1x1024x1024 .f32} (harg7 : arg7.IsWhole) {p : BitVec 1} (i : grid0.Coords) (be : S288.Idx → Elt F .i32) (x3 : Vec F S1x1x1024x1024 .f32) (fd : S1024x1024.Idx → Elt F .bf16) (hp : p = stale (F := F) i be) :
    hbAt c dnM (if hc : p = 1#1 then
        dnM.view.writes (Elt F) fd [⟨Rect.unit ![0, 0] S1024x1024.size inb_S1024x1024_S1024x1024_0_0,
            k0_pay4 (View.readAt (Elt F) arg7.view (Rect.unit ![0, 0, 0, 0] S1x1x1024x1024.size inb_S1x1x1024x1024_S1x1x1024x1024_0_0_0_0).toLoadRect (harg7.unread x3))⟩]
      else fd) ⊢ hbAt c dnM (dnNow i be x3 fd) := by subst hp; rw [dn_eq]

/-- A block stored whole is owned at what was stored. -/
theorem out_ent {sp : Space} {S : Shape} {e : EltTy} (M : Memref sig .tc sp S e) (f : M.view.ty.Contents (Elt F)) {off : Fin S.rank → ℕ} (inb : ∀ a, off a + S.size a ≤ S.size a)
    (w : S.Idx → Elt F e) (h : ∀ a, off a = 0) :
    (M.view.loc (c : Thread nD τ) ↦[M.view.set]{fullShare} M.view.writes (Elt F) f [⟨Rect.unit off S.size inb, w⟩] : sProp 𝕄) ⊢ owns (c : Thread nD τ) M fullShare w := by
  unfold owns
  iintro H
  iexists _; isplitr
  · ipureintro; exact read_store M.view f h inb w
  iexact H

theorem load_ref (b : Ref sig .tc) {off : Fin b.ty.shape.rank → ℕ} (h : ∀ a, off a = 0) (inb : ∀ a, off a + b.ty.shape.size a ≤ b.ty.shape.size a) (f : b.ty.Contents (Elt F)) :
    (Memref.whole b : Memref sig .tc _ _ _).view.readAt (Elt F) (Rect.unit off b.ty.shape.size inb).toLoadRect f = f :=
  Memref.readAt_unit_zero (Elt F) b (funext h) inb f
theorem load_rows (f : S256x1024.Idx → Elt F .f32) :
    View.readAt (Elt F) gM.view (Rect.unit (s := S256x1024) ![0, 0] S256x1024.size inb_S256x1024_S256x1024_0_0).toLoadRect f = f :=
  load_ref cc0_scratch0 (by decide) _ _
theorem load_up {arg5 : Memref sig .tc .vmem S1x1x1024x2048 .f32} (harg5 : arg5.IsWhole) {p : BitVec 1} (i : grid0.Coords) (be : S288.Idx → Elt F .i32) (x1 : Vec F S1x1x1024x2048 .f32) (fu : S1024x2048.Idx → Elt F .bf16) (hp : p = stale (F := F) i be) :
    View.readAt (Elt F) upM.view (Rect.unit (s := S1024x2048) ![0, 0] S1024x2048.size inb_S1024x2048_S1024x2048_0_0).toLoadRect
      (if hc : p = 1#1 then
        upM.view.writes (Elt F) fu [⟨Rect.unit ![0, 0] S1024x2048.size inb_S1024x2048_S1024x2048_0_0,
            k0_pay3 (View.readAt (Elt F) arg5.view (Rect.unit ![0, 0, 0, 0] S1x1x1024x2048.size inb_S1x1x1024x2048_S1x1x1024x2048_0_0_0_0).toLoadRect (harg5.unread x1))⟩]
      else fu) = upNow i be x1 fu := by
  subst hp; rw [up_eq]
  exact load_ref cc0_scratch1 (by decide) _ _
theorem load_dn {arg7 : Memref sig .tc .vmem S1x1x1024x1024 .f32} (harg7 : arg7.IsWhole) {p : BitVec 1} (i : grid0.Coords) (be : S288.Idx → Elt F .i32) (x3 : Vec F S1x1x1024x1024 .f32) (fd : S1024x1024.Idx → Elt F .bf16) (hp : p = stale (F := F) i be) :
    View.readAt (Elt F) dnM.view (Rect.unit (s := S1024x1024) ![0, 0] S1024x1024.size inb_S1024x1024_S1024x1024_0_0).toLoadRect
      (if hc : p = 1#1 then
        dnM.view.writes (Elt F) fd [⟨Rect.unit ![0, 0] S1024x1024.size inb_S1024x1024_S1024x1024_0_0,
            k0_pay4 (View.readAt (Elt F) arg7.view (Rect.unit ![0, 0, 0, 0] S1x1x1024x1024.size inb_S1x1x1024x1024_S1x1x1024x1024_0_0_0_0).toLoadRect (harg7.unread x3))⟩]
      else fd) = dnNow i be x3 fd := by
  subst hp; rw [dn_eq]
  exact load_ref cc0_scratch2 (by decide) _ _

theorem pay_eq {G' G : Vec F S256x1024 .f32} {wu' wu : Vec F S1024x2048 .bf16} {bu' bu : Vec F S1x1x1x2048 .f32} {wd' wd : Vec F S1024x1024 .bf16} {bd' bd : Vec F S1x1x1x1024 .f32}
    (hG : G' = G) (hU : wu' = wu) (hB : bu' = bu) (hD : wd' = wd) (hb : bd' = bd) :
    k0_pay1 (k0_pay6 G' wu' bu') (k0_pay7 G' wu' bu') (k0_pay8 G' wu' bu') (Scalar.ofBits .f32 0x00000000#32) wd' bd' = rowsOut G wu bu wd bd := by
  subst hG hU hB hD hb; rfl

variable (i : grid0.Coords)
  (arg3 : Memref sig .tc .smem S1x1x256 .i32) (harg3 : arg3.IsWhole)
  (arg5 : Memref sig .tc .vmem S1x1x1024x2048 .f32) (harg5 : arg5.IsWhole) (arg6 : Memref sig .tc .vmem S1x1x1x2048 .f32) (harg6 : arg6.IsWhole)
  (arg7 : Memref sig .tc .vmem S1x1x1024x1024 .f32) (harg7 : arg7.IsWhole) (arg8 : Memref sig .tc .vmem S1x1x1x1024 .f32) (harg8 : arg8.IsWhole)
  (arg9 : Memref sig .tc .vmem S256x1024 .f32) (harg9 : arg9.IsWhole)

set_option maxHeartbeats 800000 in
theorem run_active [∀ e, Nonempty (Elt F e)] (x0 : Vec F S1x1x256 .i32) (x1 : Vec F S1x1x1024x2048 .f32) (x2 : Vec F S1x1x1x2048 .f32) (x3 : Vec F S1x1x1024x1024 .f32) (x4 : Vec F S1x1x1x1024 .f32)
    (be : S288.Idx → Elt F .i32) (na : S1.Idx → Elt F .i32) (fx : S16384x1024.Idx → Elt F .f32) (g : S256x1024.Idx → Elt F .f32)
    (fu : S1024x2048.Idx → Elt F .bf16) (fd : S1024x1024.Idx → Elt F .bf16)
    (hr : InRange (F := F) c arg3 (harg3.unread x0)) (W : Waits sig Unit) (K : PUnit → sProp 𝕄)
    (ha : k0_cond1 i (naWord (F := F) na) = 1#1) (hz : ¬ k0_cond3 i (naWord (F := F) na) = 1#1) :
    iprop(owns (c : Thread nD τ) arg3 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ (∃ d, owns (c : Thread nD τ) arg9 fullShare d)
        ∗ hbAt c gM g ∗ hbAt c upM fu ∗ hbAt c dnM fd
        ∗ tbAt c beM be ∗ tbAt c naM na ∗ hbAt c xM fx ∗ semVal ((c : Thread nD τ), cell) 0 ∗ owes (c : Thread nD τ) 0 W
        ∗ (iprop(owns (c : Thread nD τ) arg3 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg9 fullShare (rowsOut (gath c hr fx) (upNow i be x1 fu) x2 (dnNow i be x3 fd) x4)
            ∗ (∃ f, hbAt c gM f) ∗ hbAt c upM (upNow i be x1 fu) ∗ hbAt c dnM (dnNow i be x3 fd)
            ∗ tbAt c beM be ∗ tbAt c naM na ∗ hbAt c xM fx ∗ semVal ((c : Thread nD τ), cell) 0 ∗ (∃ W, owes (c : Thread nD τ) 0 W)) -∗ K ⟨⟩))
      ⊢ wp frame (wpE (defs₀ (F := F)) Variants.none c none) Set.univ
          (cc0_moe_rows i beM (Memref.isWhole_whole _) naM (Memref.isWhole_whole _) arg3 harg3 xM (Memref.isWhole_whole _) arg5 harg5 arg6 harg6 arg7 harg7 arg8 harg8 arg9 harg9 gM (Memref.isWhole_whole _) upM (Memref.isWhole_whole _) dnM (Memref.isWhole_whole _) cc0_scratch3) K := by
  simp only [cc0_moe_rows_eq_skeleton]; unfold cc0_moe_rows_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HG, HU, HD, HT0, HT1, HX, Hc, HO, Hk⟩
  obtain rfl := harg3.eq_unread hf0; obtain rfl := harg5.eq_unread hf1; obtain rfl := harg6.eq_unread hf2; obtain rfl := harg7.eq_unread hf3; obtain rfl := harg8.eq_unread hf4
  ihave HX' := (arr_toks c fx).1 $$ HX
  icases HX' with ⟨HXr, HXt⟩
  ihave HGr := (Entails.of_eq (buf_rows c g)) $$ HG
  imod (Transfers.batch_alloc' (Lvl := ℕ) (countersEmb (U := Pipeline.UD sig nD τ)) (c : Thread nD τ) () 128 (deliv c hr fx g) (sm := cell) (E := Set.univ)) $$ Hc with HB
  rw [← Ring.rangeSet_univ]
  ihave HL := (show (emp : sProp 𝕄) ⊢ bigSep (Ring.rangeSet T 0 0) (leftAt c arg3 hr fx) from Entails.of_eq (Ring.bigSep_rangeSet_empty le_rfl).symm) $$ []
  · iempintro
  sl_exec (disch := first | sl_exact ha | sl_exact hz)
  sl_for (drainAt c arg3 hr fx g) $$ [HB HO]
  · intro k acc; exact drain_step c i beM (Memref.isWhole_whole _) naM (Memref.isWhole_whole _) arg3 harg3 arg5 harg5 arg6 harg6 arg7 harg7 arg8 harg8 arg9 harg9 upM (Memref.isWhole_whole _) dnM (Memref.isWhole_whole _) (BitVec.ofNat 32 (i 0).val) (naWord (F := F) na) ha hr fx g k acc
  · unfold drainAt
    rw [if_pos (by rw [T_eq]; decide)]
    isplitl [HO]; · iexists _; iexact HO
    rw [Nat.zero_mul]; iexact HB
  iintro %acc HI
  ihave HI' := (show drainAt c arg3 hr fx g (Scf.trips k0_t2_loop.lb k0_t2_loop.ub k0_t2_loop.st) acc ⊢
      (∃ W, owes c.tc 0 W) ∗ semVal (c.tc, cell) 0 ∗ bigSep Finset.univ (deliv c hr fx g) from by
        unfold drainAt; rw [if_neg (by decide)]) $$ HI
  icases HI' with ⟨⟨%W', HO⟩, Hc, HDl⟩
  ihave HJ := (deliv_join c hr fx g) $$ [HDl HL]
  · isplitl [HDl]; · iexact HDl
    iexact HL
  icases HJ with ⟨HG, HXt'⟩
  ihave HX := (arr_toks c fx).2 $$ [HXr HXt']
  · isplitl [HXr]; · iexact HXr
    iexact HXt'
  sl_exec (disch := first | sl_exact ha | sl_exact hz)
  sl_step
  have hv : run_active.sl.v18 (F := F) i be = stale (F := F) i be := rfl
  ihave HU' := up_ent c harg5 (p := run_active.sl.v18 (F := F) i be) i be x1 fu hv $$ HU
  ihave HD' := dn_ent c harg7 (p := run_active.sl.v18 (F := F) i be) i be x3 fd hv $$ HD
  ihave H5' := out_ent c arg9 f5 inb_S256x1024_S256x1024_0_0 _ (by decide) $$ H5
  have hU := load_up harg5 (p := run_active.sl.v18 (F := F) i be) i be x1 fu hv
  have hD := load_dn harg7 (p := run_active.sl.v18 (F := F) i be) i be x3 fd hv
  ihave H5'' := (Entails.of_eq (congrArg (owns (c : Thread nD τ) arg9 fullShare)
    (pay_eq (load_rows (gath c hr fx)) hU (load_whole harg6 x2 (by decide) inb_S1x1x1x2048_S1x1x1x2048_0_0_0_0) hD (load_whole harg8 x4 (by decide) inb_S1x1x1x1024_S1x1x1x1024_0_0_0_0)))) $$ H5'
  unfold owns
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5'']; · iexact H5''
  isplitl [HG]; · iexists _; iexact HG
  isplitl [HU']; · iexact HU'
  isplitl [HD']; · iexact HD'
  isplitl [HT0]; · iexact HT0
  isplitl [HT1]; · iexact HT1
  isplitl [HX]; · iexact HX
  isplitl [Hc]; · iexact Hc
  iexists _; iexact HO

/-- An idle block stores zeros and touches nothing else. -/
theorem run_idle [∀ e, Nonempty (Elt F e)] (na : S1.Idx → Elt F .i32) (K : PUnit → sProp 𝕄)
    (ha : ¬ k0_cond1 i (naWord (F := F) na) = 1#1) (hz : k0_cond3 i (naWord (F := F) na) = 1#1) :
    iprop((∃ d, owns (c : Thread nD τ) arg9 fullShare d) ∗ tbAt c naM na
        ∗ (iprop(owns (c : Thread nD τ) arg9 fullShare (k0_pay2 (F := F)) ∗ tbAt c naM na) -∗ K ⟨⟩))
      ⊢ wp frame (wpE (defs₀ (F := F)) Variants.none c none) Set.univ
          (cc0_moe_rows i beM (Memref.isWhole_whole _) naM (Memref.isWhole_whole _) arg3 harg3 xM (Memref.isWhole_whole _) arg5 harg5 arg6 harg6 arg7 harg7 arg8 harg8 arg9 harg9 gM (Memref.isWhole_whole _) upM (Memref.isWhole_whole _) dnM (Memref.isWhole_whole _) cc0_scratch3) K := by
  simp only [cc0_moe_rows_eq_skeleton]; unfold cc0_moe_rows_skel
  iintro ⟨⟨%d5, H5⟩, HT1, Hk⟩
  unfold owns
  icases H5 with ⟨%f5, -, H5⟩
  sl_exec (disch := first | sl_exact ha | sl_exact hz)
  sl_step
  ihave H5' := out_ent c arg9 f5 inb_S256x1024_S256x1024_0_0 _ (by decide) $$ H5
  unfold owns
  iapply Hk
  isplitl [H5']; · iexact H5'
  iexact HT1

end Cert.MoeKernelIdeal.Rows

end
-- ==== Proof.MoeBlocks.lean ====
/- What the expert kernel's region finds: the arrays after the three reshapes before it, the two tables, each window's
   block at a grid point, and what the tables' words say of a point — whether it works at all, and whether its expert is
   the point before's. -/
module

public import proofs.«01_k».proof.Proof.MoeRun
public import proofs.«01_k».proof.Proof.Gen.MoeKernelIdeal.Launch
public import Idealize.ShloMosaic.Lib.Claim

@[expose] public section

set_option maxRecDepth 16384

noncomputable section

namespace Cert.MoeKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MoeKernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays at the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- An array the reshapes do not write is as launched. -/
theorem V_kept (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))
theorem V_tok (c : Dev nD) : V m c main_v0 = shapeCast S288x1x256 (m ((c : Thread nD τ).loc main_arg1)) shapeCasts_S73728_S288x1x256 := by
  unfold_abbrev_sides
  after_results
  rfl
theorem V_bup (c : Dev nD) : V m c main_v1 = shapeCast S2x32x1x2048 (m ((c : Thread nD τ).loc main_arg5)) shapeCasts_S2x32x2048_S2x32x1x2048 := by
  unfold_abbrev_sides
  after_results
  rfl
theorem V_bdn (c : Dev nD) : V m c main_v2 = shapeCast S2x32x1x1024 (m ((c : Thread nD τ).loc main_arg7)) shapeCasts_S2x32x1024_S2x32x1x1024 := by
  unfold_abbrev_sides
  after_results
  rfl

/-! ## The tables -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables admit the pipeline: every block they name is inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp 𝕄) = iprop(tbAt c beM (tbl m 0) ∗ tbAt c naM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (Pipeline.UD sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the words say -/

/-- Whether point `i` works. -/
abbrev act (i : grid0.Coords) : Prop := k0_cond1 i (naWord (F := F) (tbl m 1)) = 1#1

theorem bits_of_flag (b : BitVec 1) : (Scalar.cmpi .ne (Scalar.extui b : BitVec 32) 0#32 = 1#1 ↔ b = 1#1)
    ∧ (Scalar.cmpi .ne (Scalar.extui (Scalar.xori b 1#1) : BitVec 32) 0#32 = 1#1 ↔ ¬ b = 1#1) := by
  revert b; decide

/-- The second branch is taken exactly where the first is not. -/
theorem cond3_iff (i : grid0.Coords) (w : BitVec 32) : k0_cond3 i w = 1#1 ↔ ¬ k0_cond1 i w = 1#1 := by
  have h := bits_of_flag (Scalar.cmpi .slt (BitVec.ofNat 32 (i 0).val) w)
  exact h.2.trans (not_congr h.1).symm

theorem toInt_point (i : grid0.Coords) : (BitVec.ofNat 32 (i 0).val).toInt = ((i 0).val : ℤ) := by
  have hi : (i 0).val < 288 := (i 0).isLt
  rw [BitVec.toInt_eq_toNat_cond, BitVec.toNat_ofNat]
  norm_num
  omega

/-- A point works exactly when it lies before the number of blocks in use. -/
theorem act_iff (i : grid0.Coords) (w : BitVec 32) : k0_cond1 i w = 1#1 ↔ ((i 0).val : ℤ) < w.toInt := by
  refine (bits_of_flag _).1.trans ?_
  rw [← toInt_point]
  unfold Scalar.cmpi IntOp.cmpi
  by_cases h : (BitVec.ofNat 32 (i 0).val).toInt < w.toInt <;> simp [BitVec.slt, h]

theorem writes_somewhere (i : grid0.Coords) (w : BitVec 32) : (!(k0_cond1 i w == 1#1) && !(k0_cond3 i w == 1#1)) = false := by
  have h := cond3_iff i w
  by_cases h1 : k0_cond1 i w = 1#1
  · simp [h1]
  · simp [h.2 h1]

theorem idle_never (a : (pcfg0 (F := F)).Adm) (i : grid0.Coords) : (cfg0 a).idle 5 i = false := writes_somewhere i _

/-- Where the two loads of the expert table read: at the point, and at the point before it. -/
theorem off1_val : ∀ n : Fin 288, (Scalar.indexCast (BitVec.ofNat 32 n.val) : Index).toNat = n.val := by decide +kernel
theorem off6_val : ∀ n : Fin 288, (Scalar.indexCast (Scalar.maxsi (Scalar.subi (BitVec.ofNat 32 n.val) 1#32) 0#32) : Index).toNat = n.val - 1 := by
  decide +kernel

/-- The expert the block at point `n` goes to. -/
abbrev expert (be : S288.Idx → Elt F .i32) (n : Fin 288) : BitVec 32 := be (ValueIdx.ix1 n)

/-- A word read through a unit rectangle of the expert table is the entry at its offset. -/
theorem word_at (be : S288.Idx → Elt F .i32) (off : Fin 1 → ℕ) (h : ∀ a, off a + S1.size a ≤ S288.size a) (x : (Rect.unit (s := S288) off S1.size h).shape.Idx)
    (n : Fin 288) (hn : off 0 = n.val) : be ((Rect.unit (s := S288) off S1.size h).emb x) = expert be n := by
  refine congrArg be (funext fun a => Fin.ext ?_)
  match a with
  | ⟨0, _⟩ =>
    have hx : (x 0).val < 1 := (x 0).isLt
    show off 0 + 1 * (x 0).val = n.val
    omega

theorem at_eq (pf : pre0.Contents (Elt F)) (i : grid0.Coords) : pf.at 0 (Rect.unit (s := S288) (k0_off1 i) S1.size (k0_off1_inb i)) numel1_S1 = expert (pf 0) (i 0) :=
  word_at (pf 0) (k0_off1 i) (k0_off1_inb i) _ (i 0) (off1_val (i 0))
theorem beHere_eq (i : grid0.Coords) (be : S288.Idx → Elt F .i32) : beHere (F := F) i be = expert be (i 0) :=
  word_at be (k0_off5 i) (k0_off5_inb i) _ (i 0) (off1_val (i 0))
theorem bePrev_eq (i : grid0.Coords) (be : S288.Idx → Elt F .i32) : bePrev (F := F) i be = expert be ⟨(i 0).val - 1, by have : (i 0).val < 288 := (i 0).isLt; omega⟩ :=
  word_at be (k0_off6 i) (k0_off6_inb i) _ _ (off6_val (i 0))

theorem ne_flag (a b : BitVec 32) (h : a ≠ b) : Scalar.cmpi .ne a b = 1#1 := by
  have e : (a != b) = true := bne_iff_ne.mpr h
  show BitVec.ofBool (a != b) = 1#1
  rw [e]; rfl

/-- The narrowed weights are kept only after the first point, when the point before went to the same expert. -/
theorem kept (i : grid0.Coords) (be : S288.Idx → Elt F .i32) (h : ¬ stale (F := F) i be = 1#1) :
    (i 0).val ≠ 0 ∧ expert be (i 0) = expert be ⟨(i 0).val - 1, by have : (i 0).val < 288 := (i 0).isLt; omega⟩ := by
  rw [← beHere_eq, ← bePrev_eq]
  have h' := fun hb => h ((bits_of_flag _).1.mpr hb)
  have hi : (i 0).val < 288 := (i 0).isLt
  have h0 : Scalar.cmpi .eq (BitVec.ofNat 32 (i 0).val) 0#32 ≠ 1#1 ∧ Scalar.cmpi .ne (beHere (F := F) i be) (bePrev (F := F) i be) ≠ 1#1 := by
    generalize Scalar.cmpi .eq (BitVec.ofNat 32 (i 0).val) 0#32 = a at h'
    generalize Scalar.cmpi .ne (beHere (F := F) i be) (bePrev (F := F) i be) = b at h'
    revert a b; decide
  refine ⟨fun e => h0.1 ?_, ?_⟩
  · rw [e]; decide
  · by_contra hne
    exact h0.2 (ne_flag _ _ hne)

/-- The maps of the four windows that follow the expert table, by the entry. -/
theorem map1_eq (pf : pre0.Contents (Elt F)) (i : grid0.Coords) : cc0_transform_2 k0_off1_inb numel1_S1 pf i = ![0, (expert (pf 0) (i 0)).toNat, 0, 0] := by
  rw [← at_eq]; rfl
theorem map2_eq (pf : pre0.Contents (Elt F)) (i : grid0.Coords) : cc0_transform_3 k0_off1_inb numel1_S1 pf i = ![0, (expert (pf 0) (i 0)).toNat, 0, 0] := by
  rw [← at_eq]; rfl
theorem map3_eq (pf : pre0.Contents (Elt F)) (i : grid0.Coords) : cc0_transform_4 k0_off1_inb numel1_S1 pf i = ![0, (expert (pf 0) (i 0)).toNat, 0, 0] := by
  rw [← at_eq]; rfl
theorem map4_eq (pf : pre0.Contents (Elt F)) (i : grid0.Coords) : cc0_transform_5 k0_off1_inb numel1_S1 pf i = ![0, (expert (pf 0) (i 0)).toNat, 0, 0] := by
  rw [← at_eq]; rfl

/-- The tables admit the pipeline when every entry of the expert table names an expert. -/
theorem ok_of (pf : pre0.Contents (Elt F)) (h : ∀ n : Fin 288, (expert (pf 0) n).toNat < 32) : ok0 pf := by
  have h4 : ∀ (i : grid0.Coords) (p q : ℕ) (a : Fin 4), ((![0, (expert (pf 0) (i 0)).toNat, 0, 0] : Fin 4 → ℕ) a + 1) * (![1, 1, p, q] : Fin 4 → ℕ) a ≤ (![2, 32, p, q] : Fin 4 → ℕ) a := by
    intro i p q a
    have := h (i 0)
    match a with
    | ⟨0, _⟩ => show (0 + 1) * 1 ≤ 2; omega
    | ⟨1, _⟩ => show ((expert (pf 0) (i 0)).toNat + 1) * 1 ≤ 32; omega
    | ⟨2, _⟩ => show (0 + 1) * p ≤ p; omega
    | ⟨3, _⟩ => show (0 + 1) * q ≤ q; omega
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [map1_eq]; exact h4 i 1024 2048 a
  · rw [map2_eq]; exact h4 i 1 2048 a
  · rw [map3_eq]; exact h4 i 1024 1024 a
  · rw [map4_eq]; exact h4 i 1 1024 a

/-! ## The blocks in closed form -/

/-- The one coordinate of a point is its number. -/
theorem coord_val : ∀ t : Fin grid0.N, (grid0.coords t 0).val = t.val := fun t => by
  rw [Pipeline.Grid.coords_val t 0 (S := 1) (B := 288) (by decide) rfl, Nat.div_one]
  exact Nat.mod_eq_of_lt (by have := t.isLt; have := N_0; omega)

/-! The slab of a stack of weights or biases that an entry of the expert table names. -/

def slab1 (x : S2x32x1024x2048.Idx → Elt F .f32) (w : BitVec 32) : S1x1x1024x2048.Idx → Elt F .f32 :=
  fun y => x (ValueIdx.ix4 ⟨0, by decide⟩ ⟨w.toNat % 32, Nat.mod_lt _ (by decide)⟩ (y 2) (y 3))
def slab2 (x : S2x32x1x2048.Idx → Elt F .f32) (w : BitVec 32) : S1x1x1x2048.Idx → Elt F .f32 :=
  fun y => x (ValueIdx.ix4 ⟨0, by decide⟩ ⟨w.toNat % 32, Nat.mod_lt _ (by decide)⟩ (y 2) (y 3))
def slab3 (x : S2x32x1024x1024.Idx → Elt F .f32) (w : BitVec 32) : S1x1x1024x1024.Idx → Elt F .f32 :=
  fun y => x (ValueIdx.ix4 ⟨0, by decide⟩ ⟨w.toNat % 32, Nat.mod_lt _ (by decide)⟩ (y 2) (y 3))
def slab4 (x : S2x32x1x1024.Idx → Elt F .f32) (w : BitVec 32) : S1x1x1x1024.Idx → Elt F .f32 :=
  fun y => x (ValueIdx.ix4 ⟨0, by decide⟩ ⟨w.toNat % 32, Nat.mod_lt _ (by decide)⟩ (y 2) (y 3))
/-- A point's words. -/
def words (x : S288x1x256.Idx → Elt F .i32) (n : Fin 288) : S1x1x256.Idx → Elt F .i32 := fun y => x (ValueIdx.ix3 n ⟨0, by decide⟩ (y 2))

theorem lt_of_ok (hO : Ok m) (i : grid0.Coords) : (expert (tbl m 0) (i 0)).toNat < 32 := by
  obtain ⟨h, -⟩ := hO.1 i
  rw [map1_eq] at h
  have h1 : ((expert (tbl m 0) (i 0)).toNat + 1) * 1 ≤ 32 := h 1
  omega

theorem iblk_0 (hO : Ok m) (c : Dev nD) (t : Fin (cfgM m hO).N) : (iblk m hO c 0 t : S1x1x256.Idx → Elt F .i32) = words (V m c main_v0) (grid0.coords t 0) := by
  refine funext fun (y : S1x1x256.Idx) => ?_
  show V m c main_v0 _ = V m c main_v0 _
  refine congrArg (V m c main_v0) (funext fun a => Fin.ext ?_)
  have h0 : (y 0).val < 1 := (y 0).isLt
  have h1 : (y 1).val < 1 := (y 1).isLt
  match a with
  | ⟨0, _⟩ =>
    show (BitVec.ofNat 32 (grid0.coords t 0).val).toNat * 1 + 1 * (y 0).val = (grid0.coords t 0).val
    have := off1_val (grid0.coords t 0)
    have e : (BitVec.ofNat 32 (grid0.coords t 0).val).toNat = (grid0.coords t 0).val := this
    omega
  | ⟨1, _⟩ => show 0 * 1 + 1 * (y 1).val = 0; omega
  | ⟨2, _⟩ => show 0 * 256 + 1 * (y 2).val = (y 2).val; omega

theorem iblk_1 (hO : Ok m) (c : Dev nD) (t : Fin (cfgM m hO).N) : (iblk m hO c 1 t : S1x1x1024x2048.Idx → Elt F .f32) = slab1 (V m c main_arg4) (expert (tbl m 0) (grid0.coords t 0)) := by
  refine funext fun (y : S1x1x1024x2048.Idx) => ?_
  show V m c main_arg4 _ = V m c main_arg4 _
  refine congrArg (V m c main_arg4) (funext fun a => Fin.ext ?_)
  have h0 : (y 0).val < 1 := (y 0).isLt
  have h1 : (y 1).val < 1 := (y 1).isLt
  have hx := lt_of_ok m hO (grid0.coords t)
  have hm := Nat.mod_eq_of_lt hx
  have e := map1_eq (tbl m) (grid0.coords t)
  match a with
  | ⟨0, _⟩ => show cc0_transform_2 k0_off1_inb numel1_S1 (tbl m) (grid0.coords t) 0 * 1 + 1 * (y 0).val = 0; rw [e]; show 0 * 1 + 1 * (y 0).val = 0; omega
  | ⟨1, _⟩ =>
    show cc0_transform_2 k0_off1_inb numel1_S1 (tbl m) (grid0.coords t) 1 * 1 + 1 * (y 1).val = (expert (tbl m 0) (grid0.coords t 0)).toNat % 32
    rw [e]; show (expert (tbl m 0) (grid0.coords t 0)).toNat * 1 + 1 * (y 1).val = _; omega
  | ⟨2, _⟩ => show cc0_transform_2 k0_off1_inb numel1_S1 (tbl m) (grid0.coords t) 2 * 1024 + 1 * (y 2).val = (y 2).val; rw [e]; show 0 * 1024 + 1 * (y 2).val = _; omega
  | ⟨3, _⟩ => show cc0_transform_2 k0_off1_inb numel1_S1 (tbl m) (grid0.coords t) 3 * 2048 + 1 * (y 3).val = (y 3).val; rw [e]; show 0 * 2048 + 1 * (y 3).val = _; omega

theorem iblk_2 (hO : Ok m) (c : Dev nD) (t : Fin (cfgM m hO).N) : (iblk m hO c 2 t : S1x1x1x2048.Idx → Elt F .f32) = slab2 (V m c main_v1) (expert (tbl m 0) (grid0.coords t 0)) := by
  refine funext fun (y : S1x1x1x2048.Idx) => ?_
  show V m c main_v1 _ = V m c main_v1 _
  refine congrArg (V m c main_v1) (funext fun a => Fin.ext ?_)
  have h0 : (y 0).val < 1 := (y 0).isLt
  have h1 : (y 1).val < 1 := (y 1).isLt
  have hx := lt_of_ok m hO (grid0.coords t)
  have hm := Nat.mod_eq_of_lt hx
  have e := map2_eq (tbl m) (grid0.coords t)
  match a with
  | ⟨0, _⟩ => show cc0_transform_3 k0_off1_inb numel1_S1 (tbl m) (grid0.coords t) 0 * 1 + 1 * (y 0).val = 0; rw [e]; show 0 * 1 + 1 * (y 0).val = 0; omega
  | ⟨1, _⟩ =>
    show cc0_transform_3 k0_off1_inb numel1_S1 (tbl m) (grid0.coords t) 1 * 1 + 1 * (y 1).val = (expert (tbl m 0) (grid0.coords t 0)).toNat % 32
    rw [e]; show (expert (tbl m 0) (grid0.coords t 0)).toNat * 1 + 1 * (y 1).val = _; omega
  | ⟨2, _⟩ => show cc0_transform_3 k0_off1_inb numel1_S1 (tbl m) (grid0.coords t) 2 * 1 + 1 * (y 2).val = (y 2).val; rw [e]; show 0 * 1 + 1 * (y 2).val = _; omega
  | ⟨3, _⟩ => show cc0_transform_3 k0_off1_inb numel1_S1 (tbl m) (grid0.coords t) 3 * 2048 + 1 * (y 3).val = (y 3).val; rw [e]; show 0 * 2048 + 1 * (y 3).val = _; omega

theorem iblk_3 (hO : Ok m) (c : Dev nD) (t : Fin (cfgM m hO).N) : (iblk m hO c 3 t : S1x1x1024x1024.Idx → Elt F .f32) = slab3 (V m c main_arg6) (expert (tbl m 0) (grid0.coords t 0)) := by
  refine funext fun (y : S1x1x1024x1024.Idx) => ?_
  show V m c main_arg6 _ = V m c main_arg6 _
  refine congrArg (V m c main_arg6) (funext fun a => Fin.ext ?_)
  have h0 : (y 0).val < 1 := (y 0).isLt
  have h1 : (y 1).val < 1 := (y 1).isLt
  have hx := lt_of_ok m hO (grid0.coords t)
  have hm := Nat.mod_eq_of_lt hx
  have e := map3_eq (tbl m) (grid0.coords t)
  match a with
  | ⟨0, _⟩ => show cc0_transform_4 k0_off1_inb numel1_S1 (tbl m) (grid0.coords t) 0 * 1 + 1 * (y 0).val = 0; rw [e]; show 0 * 1 + 1 * (y 0).val = 0; omega
  | ⟨1, _⟩ =>
    show cc0_transform_4 k0_off1_inb numel1_S1 (tbl m) (grid0.coords t) 1 * 1 + 1 * (y 1).val = (expert (tbl m 0) (grid0.coords t 0)).toNat % 32
    rw [e]; show (expert (tbl m 0) (grid0.coords t 0)).toNat * 1 + 1 * (y 1).val = _; omega
  | ⟨2, _⟩ => show cc0_transform_4 k0_off1_inb numel1_S1 (tbl m) (grid0.coords t) 2 * 1024 + 1 * (y 2).val = (y 2).val; rw [e]; show 0 * 1024 + 1 * (y 2).val = _; omega
  | ⟨3, _⟩ => show cc0_transform_4 k0_off1_inb numel1_S1 (tbl m) (grid0.coords t) 3 * 1024 + 1 * (y 3).val = (y 3).val; rw [e]; show 0 * 1024 + 1 * (y 3).val = _; omega

theorem iblk_4 (hO : Ok m) (c : Dev nD) (t : Fin (cfgM m hO).N) : (iblk m hO c 4 t : S1x1x1x1024.Idx → Elt F .f32) = slab4 (V m c main_v2) (expert (tbl m 0) (grid0.coords t 0)) := by
  refine funext fun (y : S1x1x1x1024.Idx) => ?_
  show V m c main_v2 _ = V m c main_v2 _
  refine congrArg (V m c main_v2) (funext fun a => Fin.ext ?_)
  have h0 : (y 0).val < 1 := (y 0).isLt
  have h1 : (y 1).val < 1 := (y 1).isLt
  have hx := lt_of_ok m hO (grid0.coords t)
  have hm := Nat.mod_eq_of_lt hx
  have e := map4_eq (tbl m) (grid0.coords t)
  match a with
  | ⟨0, _⟩ => show cc0_transform_5 k0_off1_inb numel1_S1 (tbl m) (grid0.coords t) 0 * 1 + 1 * (y 0).val = 0; rw [e]; show 0 * 1 + 1 * (y 0).val = 0; omega
  | ⟨1, _⟩ =>
    show cc0_transform_5 k0_off1_inb numel1_S1 (tbl m) (grid0.coords t) 1 * 1 + 1 * (y 1).val = (expert (tbl m 0) (grid0.coords t 0)).toNat % 32
    rw [e]; show (expert (tbl m 0) (grid0.coords t 0)).toNat * 1 + 1 * (y 1).val = _; omega
  | ⟨2, _⟩ => show cc0_transform_5 k0_off1_inb numel1_S1 (tbl m) (grid0.coords t) 2 * 1 + 1 * (y 2).val = (y 2).val; rw [e]; show 0 * 1 + 1 * (y 2).val = _; omega
  | ⟨3, _⟩ => show cc0_transform_5 k0_off1_inb numel1_S1 (tbl m) (grid0.coords t) 3 * 1024 + 1 * (y 3).val = (y 3).val; rw [e]; show 0 * 1024 + 1 * (y 3).val = _; omega

end Cert.MoeKernelIdeal.Rows

end
-- ==== Proof.MoeFrame.lean ====
/- The expert kernel's whole run: at every grid point the body keeps the invariant that, after a working point, the two
   buffers of narrowed weights hold its expert's; so every working point writes the feed-forward of its rows through its
   own expert, every other one zeros; and the launch, the arrays as they were. -/
module

public import proofs.«01_k».proof.Proof.MoeBlocks
public import Idealize.ShloMosaic.Lib.WholeRead

@[expose] public section

set_option maxRecDepth 16384

noncomputable section

namespace Cert.MoeKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MoeKernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The gathered rows, of the words alone -/

/-- The rows of the token array a block of words names. -/
def rowsOf (x0 : S1x1x256.Idx → Elt F .i32) (fx : S16384x1024.Idx → Elt F .f32) : S256x1024.Idx → Elt F .f32 := fun y =>
  fx (ValueIdx.ix2 ⟨BitVec.toNat (w := 32) (x0 (ValueIdx.ix3 ⟨0, by decide⟩ ⟨0, by decide⟩ (y 0))) % 16384, Nat.mod_lt _ (by decide)⟩ (y 1))

theorem off2_eq : ∀ k : Fin T, k0_off2 k = ![0, 0, k.val] := by decide +kernel

theorem wordAt_unread (c : Dev nD) (arg3 : Memref sig .tc .smem S1x1x256 .i32) (harg3 : arg3.IsWhole) (x0 : Vec F S1x1x256 .i32) (k : Fin T) :
    wordAt (F := F) c arg3 (harg3.unread x0) k = x0 (ValueIdx.ix3 ⟨0, by decide⟩ ⟨0, by decide⟩ (k.cast T_eq)) := by
  refine (congrFun (harg3.read_unread x0) _).trans (congrArg x0 (funext fun a => Fin.ext ?_))
  have e := off2_eq k
  match a with
  | ⟨0, _⟩ => show k0_off2 k 0 + 1 * 0 = 0; rw [e]; rfl
  | ⟨1, _⟩ => show k0_off2 k 1 + 1 * 0 = 0; rw [e]; rfl
  | ⟨2, _⟩ => show k0_off2 k 2 + 1 * 0 = k.val; rw [e]; rfl

theorem inRange_of (c : Dev nD) (arg3 : Memref sig .tc .smem S1x1x256 .i32) (harg3 : arg3.IsWhole) (x0 : Vec F S1x1x256 .i32)
    (h : ∀ y, BitVec.toNat (w := 32) (x0 y) < 16384) : InRange (F := F) c arg3 (harg3.unread x0) := by
  intro k a
  have h1 : (wordAt (F := F) c arg3 (harg3.unread x0) k).toNat < 16384 := by
    rw [wordAt_unread]; exact h _
  generalize wordAt (F := F) c arg3 (harg3.unread x0) k = w at h1 ⊢
  match a with
  | ⟨0, _⟩ => show w.toNat + 1 ≤ 16384; exact h1
  | ⟨1, _⟩ => show 0 + 1024 ≤ 1024; omega

theorem row_congr (fx : S16384x1024.Idx → Elt F .f32) {a b : ℕ} (h : a = b) (ha : a < 16384) (hb : b < 16384) (j : Fin 1024) :
    fx (ValueIdx.ix2 ⟨a, ha⟩ j) = fx (ValueIdx.ix2 ⟨b, hb⟩ j) := by
  subst h; rfl

theorem gath_eq (c : Dev nD) (arg3 : Memref sig .tc .smem S1x1x256 .i32) (harg3 : arg3.IsWhole) (x0 : Vec F S1x1x256 .i32)
    (hr : InRange (F := F) c arg3 (harg3.unread x0)) (fx : S16384x1024.Idx → Elt F .f32) : gath c hr fx = rowsOf x0 fx := by
  funext y
  unfold gath rowsOf
  have h := word_lt c hr (tOf y)
  have e := congrArg (BitVec.toNat (w := 32)) (wordAt_unread c arg3 harg3 x0 (tOf y))
  exact row_congr fx (e.trans (Nat.mod_eq_of_lt (e ▸ h)).symm) _ _ (y 1)

/-! ## What each point writes -/

/-- What the point of coordinates `i` leaves in the output's buffer. -/
def outOf (i : grid0.Coords) (be : S288.Idx → Elt F .i32) (na : S1.Idx → Elt F .i32) (tok : S288x1x256.Idx → Elt F .i32) (fx : S16384x1024.Idx → Elt F .f32)
    (wu : S2x32x1024x2048.Idx → Elt F .f32) (bu : S2x32x1x2048.Idx → Elt F .f32) (wd : S2x32x1024x1024.Idx → Elt F .f32) (bd : S2x32x1x1024.Idx → Elt F .f32) : S256x1024.Idx → Elt F .f32 :=
  if k0_cond1 i (naWord (F := F) na) = 1#1 then
    rowsOut (rowsOf (words tok (i 0)) fx) (k0_pay3 (slab1 wu (expert be (i 0)))) (slab2 bu (expert be (i 0))) (k0_pay4 (slab3 wd (expert be (i 0)))) (slab4 bd (expert be (i 0)))
  else k0_pay2

/-- The same at a point of the run. -/
def outAt (hO : Ok m) (c : Dev nD) (t : Fin (cfgM m hO).N) : S256x1024.Idx → Elt F .f32 :=
  outOf (grid0.coords t) (tbl m 0) (tbl m 1) (V m c main_v0) (V m c main_arg0) (V m c main_arg4) (V m c main_v1) (V m c main_arg6) (V m c main_v2)

/-! ## The invariant -/

/-- After a working point the narrowed weights are its expert's. -/
def Good (c : Dev nD) (t : ℕ) (fu : S1024x2048.Idx → Elt F .bf16) (fd : S1024x1024.Idx → Elt F .bf16) : Prop :=
  ∀ n : Fin 288, n.val + 1 = t → (n.val : ℤ) < (naWord (F := F) (tbl m 1)).toInt →
    fu = k0_pay3 (slab1 (V m c main_arg4) (expert (tbl m 0) n)) ∧ fd = k0_pay4 (slab3 (V m c main_arg6) (expert (tbl m 0) n))

theorem now_eq (c : Dev nD) (t : Fin grid0.N) (fu : S1024x2048.Idx → Elt F .bf16) (fd : S1024x1024.Idx → Elt F .bf16)
    (ha : k0_cond1 (grid0.coords t) (naWord (F := F) (tbl m 1)) = 1#1) (hg : Good m c t.val fu fd) :
    upNow (grid0.coords t) (tbl m 0) (slab1 (V m c main_arg4) (expert (tbl m 0) (grid0.coords t 0))) fu = k0_pay3 (slab1 (V m c main_arg4) (expert (tbl m 0) (grid0.coords t 0)))
      ∧ dnNow (grid0.coords t) (tbl m 0) (slab3 (V m c main_arg6) (expert (tbl m 0) (grid0.coords t 0))) fd = k0_pay4 (slab3 (V m c main_arg6) (expert (tbl m 0) (grid0.coords t 0))) := by
  unfold upNow dnNow
  by_cases hs : stale (F := F) (grid0.coords t) (tbl m 0) = 1#1
  · rw [if_pos hs, if_pos hs]; exact ⟨rfl, rfl⟩
  · rw [if_neg hs, if_neg hs]
    obtain ⟨h0, he⟩ := kept (grid0.coords t) (tbl m 0) hs
    have hc := coord_val t
    have hlt := (act_iff _ _).mp ha
    have hg' := hg ⟨(grid0.coords t 0).val - 1, by have : (grid0.coords t 0).val < 288 := (grid0.coords t 0).isLt; omega⟩
      (by show (grid0.coords t 0).val - 1 + 1 = t.val; omega) (by show (((grid0.coords t 0).val - 1 : ℕ) : ℤ) < _; omega)
    rw [he]; exact hg'

theorem good_succ (c : Dev nD) (t : Fin grid0.N) : Good m c (t.val + 1) (k0_pay3 (slab1 (V m c main_arg4) (expert (tbl m 0) (grid0.coords t 0))))
    (k0_pay4 (slab3 (V m c main_arg6) (expert (tbl m 0) (grid0.coords t 0)))) := by
  intro n hn _
  have hc := coord_val t
  have e : grid0.coords t 0 = n := Fin.ext (by omega)
  rw [e]; exact ⟨rfl, rfl⟩

theorem good_idle (c : Dev nD) (t : Fin grid0.N) (ha : ¬ k0_cond1 (grid0.coords t) (naWord (F := F) (tbl m 1)) = 1#1) (fu : S1024x2048.Idx → Elt F .bf16) (fd : S1024x1024.Idx → Elt F .bf16) :
    Good m c (t.val + 1) fu fd := by
  intro n hn hlt
  have hc := coord_val t
  exact absurd ((act_iff _ _).mpr (by rw [hc]; have : n.val = t.val := by omega
                                      rw [← this]; exact hlt)) ha

/-- The invariant before point `t`: the gather buffer at any contents, the narrowed weights at the last working point's
    expert's, the generator, the gather's semaphore at rest, the token array and the tables. -/
def Inv (c : Dev nD) (t : ℕ) : sProp 𝕄 :=
  iprop((∃ g, hbAt c gM g) ∗ (∃ fu fd, ⌜Good m c t fu fd⌝ ∗ hbAt c upM fu ∗ hbAt c dnM fd) ∗ (∃ r, prngReg c r)
    ∗ semVal ((c : Thread nD τ), cell) 0 ∗ hbAt c xM (V m c main_arg0) ∗ tbAt c beM (tbl m 0) ∗ tbAt c naM (tbl m 1))

/-! ## The proof data -/

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := Inv m c t.val
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body at a point -/

abbrev ms0_0 (hO : Ok m) (t : Fin (cfgM m hO).N) := spec0_0.stage ((cfgM m hO).slots t 0)
abbrev ms0_1 (hO : Ok m) (t : Fin (cfgM m hO).N) := spec0_1.stage ((cfgM m hO).slots t 1)
abbrev ms0_2 (hO : Ok m) (t : Fin (cfgM m hO).N) := spec0_2.stage ((cfgM m hO).slots t 2)
abbrev ms0_3 (hO : Ok m) (t : Fin (cfgM m hO).N) := spec0_3.stage ((cfgM m hO).slots t 3)
abbrev ms0_4 (hO : Ok m) (t : Fin (cfgM m hO).N) := spec0_4.stage ((cfgM m hO).slots t 4)
abbrev ms0_5 (hO : Ok m) (t : Fin (cfgM m hO).N) := spec0_5.stage ((cfgM m hO).slots t 5)

/-- The body as the pipeline calls it at point `t`. -/
abbrev bodyAt (hO : Ok m) (t : Fin (cfgM m hO).N) : Prog (TpuEff nD τ sig (Elt F) Λ₀ .tc) PUnit :=
  cc0_moe_rows (grid0.coords t) (Memref.whole main_arg2) (Memref.isWhole_whole _) (Memref.whole main_arg3) (Memref.isWhole_whole _)
    (ms0_0 m hO t) (hstage0_0 (((cfgM m hO).slots t 0).cast nbuf0_0)) (Memref.whole main_arg0) (Memref.isWhole_whole _)
    (ms0_1 m hO t) (hstage0_1 (((cfgM m hO).slots t 1).cast nbuf0_1)) (ms0_2 m hO t) (hstage0_2 (((cfgM m hO).slots t 2).cast nbuf0_2))
    (ms0_3 m hO t) (hstage0_3 (((cfgM m hO).slots t 3).cast nbuf0_3)) (ms0_4 m hO t) (hstage0_4 (((cfgM m hO).slots t 4).cast nbuf0_4))
    (ms0_5 m hO t) (hstage0_5 (((cfgM m hO).slots t 5).cast nbuf0_5))
    (Memref.whole cc0_scratch0) (Memref.isWhole_whole _) (Memref.whole cc0_scratch1) (Memref.isWhole_whole _) (Memref.whole cc0_scratch2) (Memref.isWhole_whole _) cc0_scratch3

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- Every token word names a row of the token array. -/
abbrev Toks : Prop := ∀ (c : Dev nD) (y : S288x1x256.Idx), BitVec.toNat (w := 32) (V m c main_v0 y) < 16384

theorem out_congr {G G' : Vec F S256x1024 .f32} {wu wu' : Vec F S1024x2048 .bf16} {bu bu' : Vec F S1x1x1x2048 .f32} {wd wd' : Vec F S1024x1024 .bf16} {bd bd' : Vec F S1x1x1x1024 .f32}
    (h0 : G = G') (h1 : wu = wu') (h2 : bu = bu') (h3 : wd = wd') (h4 : bd = bd') : rowsOut G wu bu wd bd = rowsOut G' wu' bu' wd' bd' := by
  subst h0 h1 h2 h3 h4; rfl

set_option maxHeartbeats 800000 in
theorem sound_body [∀ e, Nonempty (Elt F e)] (hO : Ok m) (hT : Toks m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before0_0, before0_1, before0_2, before0_3, before0_4]
  rw [after0_0, after0_1, after0_2, after0_3, after0_4, after0_5]
  rw [show (dats m hO 0 c).Φ t.castSucc = Inv m c t.val from rfl, show (dats m hO 0 c).Φ t.succ = Inv m c (t.val + 1) from rfl]
  unfold Dat.owesAt Pipeline.owesWithin
  rw [show (dats m hO 0 c).owed t.castSucc = 0 from rfl, show (dats m hO 0 c).owed t.succ = 0 from rfl]
  unfold Inv outAt outOf
  have hz := cond3_iff (grid0.coords t) (naWord (F := F) (tbl m 1))
  by_cases ha : k0_cond1 (grid0.coords t) (naWord (F := F) (tbl m 1)) = 1#1
  · have hr : InRange (F := F) c (ms0_0 m hO t) ((hstage0_0 (((cfgM m hO).slots t 0).cast nbuf0_0)).unread (iblk m hO c 0 t)) :=
      inRange_of c _ _ (iblk m hO c 0 t) (fun y => by rw [iblk_0]; exact hT c _)
    rw [if_pos ha]
    iintro ⟨⟨⟨%g, Hg⟩, ⟨%fu, %fd, %hG, Hu, Hd⟩, Hp, Hs, Hx, Hb, Hn⟩, ⟨%W, -, HW⟩, ⟨%d0, H0⟩, ⟨%d1, H1⟩, ⟨%d2, H2⟩, ⟨%d3, H3⟩, ⟨%d4, H4⟩, ⟨%d5, H5⟩⟩
    have hnow := now_eq m c t fu fd ha hG
    rw [← iblk_1 m hO c t, ← iblk_3 m hO c t] at hnow
    iapply (run_active c (grid0.coords t) (ms0_0 m hO t) _ (ms0_1 m hO t) _ (ms0_2 m hO t) _ (ms0_3 m hO t) _ (ms0_4 m hO t) _ (ms0_5 m hO t) _
      (iblk m hO c 0 t) (iblk m hO c 1 t) (iblk m hO c 2 t) (iblk m hO c 3 t) (iblk m hO c 4 t) (tbl m 0) (tbl m 1) (V m c main_arg0) g fu fd hr W _ ha (fun h => (hz.mp h) ha))
    isplitl [H0]; · iexact H0
    isplitl [H1]; · iexact H1
    isplitl [H2]; · iexact H2
    isplitl [H3]; · iexact H3
    isplitl [H4]; · iexact H4
    isplitl [H5]; · iexists _; iexact H5
    isplitl [Hg]; · iexact Hg
    isplitl [Hu]; · iexact Hu
    isplitl [Hd]; · iexact Hd
    isplitl [Hb]; · iexact Hb
    isplitl [Hn]; · iexact Hn
    isplitl [Hx]; · iexact Hx
    isplitl [Hs]; · iexact Hs
    isplitl [HW]; · iexact HW
    rw [hnow.1, hnow.2, out_congr ((gath_eq c _ _ _ hr _).trans (congrArg (fun x => rowsOf x _) (iblk_0 m hO c t))) (congrArg k0_pay3 (iblk_1 m hO c t)) (iblk_2 m hO c t)
      (congrArg k0_pay4 (iblk_3 m hO c t)) (iblk_4 m hO c t)]
    iintro ⟨H0, H1, H2, H3, H4, H5, Hg, Hu, Hd, Hb, Hn, Hx, Hs, ⟨%W', HW'⟩⟩
    isplitl [Hg Hu Hd Hp Hs Hx Hb Hn]
    · isplitl [Hg]; · iexact Hg
      isplitl [Hu Hd]
      · iexists _, _
        isplitr
        swap
        · isplitl [Hu]; · iexact Hu
          iexact Hd
        · ipureintro
          rw [iblk_1, iblk_3]
          exact good_succ m c t
      isplitl [Hp]; · iexact Hp
      isplitl [Hs]; · iexact Hs
      isplitl [Hx]; · iexact Hx
      isplitl [Hb]; · iexact Hb
      iexact Hn
    isplitl [HW']
    · iexists W'; isplitr
      · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · rw [if_neg ha]
    iintro ⟨⟨Hg, ⟨%fu, %fd, %hG, Hu, Hd⟩, Hp, Hs, Hx, Hb, Hn⟩, HW, ⟨%d0, H0⟩, ⟨%d1, H1⟩, ⟨%d2, H2⟩, ⟨%d3, H3⟩, ⟨%d4, H4⟩, ⟨%d5, H5⟩⟩
    iapply (run_idle c (grid0.coords t) (ms0_0 m hO t) _ (ms0_1 m hO t) _ (ms0_2 m hO t) _ (ms0_3 m hO t) _ (ms0_4 m hO t) _ (ms0_5 m hO t) _ (tbl m 1) _ ha (hz.mpr ha))
    isplitl [H5]; · iexists _; iexact H5
    isplitl [Hn]; · iexact Hn
    iintro ⟨H5, Hn⟩
    isplitl [Hg Hu Hd Hp Hs Hx Hb Hn]
    · isplitl [Hg]; · iexact Hg
      isplitl [Hu Hd]
      · iexists fu, fd
        isplitr
        · ipureintro
          exact good_idle m c t ha fu fd
        · isplitl [Hu]; · iexact Hu
          iexact Hd
      isplitl [Hp]; · iexact Hp
      isplitl [Hs]; · iexact Hs
      isplitl [Hx]; · iexact Hx
      isplitl [Hb]; · iexact Hb
      iexact Hn
    isplitl [HW]; · iexact HW
    isplitl [H0]; · iexact H0
    isplitl [H1]; · iexact H1
    isplitl [H2]; · iexact H2
    isplitl [H3]; · iexact H3
    isplitl [H4]; · iexact H4
    iexact H5

end Cert.MoeKernelIdeal.Rows

end
-- ==== Proof.MoeLaunch.lean ====
/- The launch of the expert kernel: the body's obligation at every grid point, the run from any memory whose tables are
   in range, and the frame: the arguments end as they began. -/
module

public import proofs.«01_k».proof.Proof.MoeFrame

@[expose] public section

set_option maxRecDepth 16384

noncomputable section

namespace Cert.MoeKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MoeKernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-! No point leaves a window's buffer untouched. -/

theorem idle0_0 (a : (pcfg0 (F := F)).Adm) (i : grid0.Coords) : (cfg0 a).idle 0 i = false := rfl
theorem idle0_1 (a : (pcfg0 (F := F)).Adm) (i : grid0.Coords) : (cfg0 a).idle 1 i = false := rfl
theorem idle0_2 (a : (pcfg0 (F := F)).Adm) (i : grid0.Coords) : (cfg0 a).idle 2 i = false := rfl
theorem idle0_3 (a : (pcfg0 (F := F)).Adm) (i : grid0.Coords) : (cfg0 a).idle 3 i = false := rfl
theorem idle0_5 (pf : pre0.Contents (Elt F)) (i : grid0.Coords) : idle0 (F := F) pf 5 i = false := writes_somewhere i _
theorem idle0_4 (a : (pcfg0 (F := F)).Adm) (i : grid0.Coords) : (cfg0 a).idle 4 i = false := rfl

set_option maxHeartbeats 800000 in
theorem body_obligation [∀ e, Nonempty (Elt F e)] (hO : Ok m) (hT : Toks m) (c : Dev nD) : BodyObligation (dats (F := F) m hO 0 c) (defs₀ (F := F)) Variants.none () Set.univ := fun t => by
  rw [bigSep_W0, bigSep_W0, defs₀_row m hO]
  refine triple_restated (sound_body m hO hT c t) rfl .rfl fun _ => ?_
  have h0 : (cfgM m hO).idle 0 ((cfgM m hO).grid.coords t) = false := idle0_0 (adm m hO) _
  have h1 : (cfgM m hO).idle 1 ((cfgM m hO).grid.coords t) = false := idle0_1 (adm m hO) _
  have h2 : (cfgM m hO).idle 2 ((cfgM m hO).grid.coords t) = false := idle0_2 (adm m hO) _
  have h3 : (cfgM m hO).idle 3 ((cfgM m hO).grid.coords t) = false := idle0_3 (adm m hO) _
  have h4 : (cfgM m hO).idle 4 ((cfgM m hO).grid.coords t) = false := idle0_4 (adm m hO) _
  simp only [h0, h1, h2, h3, h4]
  rw [idle0_5 (F := F) (tbl m)]
  exact .rfl

/-! ## The launch -/

/-- The one semaphore of the body's own: the gather's. -/
def osem0 : Fin 1 → SemLoc sig := ![cell]
theorem own0 : Pipeline.OwnSemFacts spec0 osem0 := by decide
/-- The one array the body reads by itself: the token array. -/
def H0 : Finset (Ref sig .tc) := {main_arg0}

theorem PhiD_eq (c : Dev nD) : (Pipeline.ΦD osem0 spec0 H0 (V m) c : sProp 𝕄)
    = iprop(((∃ f, hbAt c gM f) ∗ (∃ f, hbAt c upM f) ∗ (∃ f, hbAt c dnM f)) ∗ (∃ r, prngReg c r) ∗ semVal ((c : Thread nD τ), cell) 0 ∗ hbAt c xM (V m c main_arg0)) := by
  rw [Pipeline.ΦD_eq, scopedRest0_eq, Pipeline.ownSems0_eq_of_list c osem0 [0] (by decide) (by decide),
    BI.bigSep_eq_bigSepL_of_eq [main_arg0] (by decide) (by decide)]
  rfl

theorem good_zero (c : Dev nD) (fu : S1024x2048.Idx → Elt F .bf16) (fd : S1024x1024.Idx → Elt F .bf16) : Good m c 0 fu fd :=
  fun n hn _ => absurd hn (Nat.succ_ne_zero _)

theorem inv_in (hO : Ok m) (c : Dev nD) : iprop(Pipeline.ΦD osem0 spec0 H0 (V m) c ∗ Pipeline.ΦT pre0 (tbl m) c) ⊢ (dats m hO 0 c).Φ 0 := by
  rw [PhiD_eq, PhiT0_eq, show (dats m hO 0 c).Φ 0 = Inv m c 0 from rfl]
  unfold Inv
  iintro ⟨⟨⟨Hg, ⟨%fu, Hu⟩, ⟨%fd, Hd⟩⟩, Hp, Hs, Hx⟩, ⟨Hb, Hn⟩⟩
  isplitl [Hg]; · iexact Hg
  isplitl [Hu Hd]
  · iexists fu, fd
    isplitr
    · ipureintro; exact good_zero m c fu fd
    · isplitl [Hu]; · iexact Hu
      iexact Hd
  isplitl [Hp]; · iexact Hp
  isplitl [Hs]; · iexact Hs
  isplitl [Hx]; · iexact Hx
  isplitl [Hb]; · iexact Hb
  iexact Hn

theorem inv_out (hO : Ok m) (c : Dev nD) : (dats m hO 0 c).Φ (Fin.last (cfgM m hO).N) ⊢ Pipeline.ΦD osem0 spec0 H0 (V m) c := by
  rw [PhiD_eq, show (dats m hO 0 c).Φ (Fin.last (cfgM m hO).N) = Inv m c (cfgM m hO).N from rfl]
  unfold Inv
  iintro ⟨Hg, ⟨%fu, %fd, -, Hu, Hd⟩, Hp, Hs, Hx, Hb, Hn⟩
  isplitl [Hg Hu Hd]
  · isplitl [Hg]; · iexact Hg
    isplitl [Hu]; · iexists fu; iexact Hu
    iexists fd; iexact Hd
  isplitl [Hp]; · iexact Hp
  isplitl [Hs]; · iexact Hs
  iexact Hx

set_option maxHeartbeats 800000 in
set_option backward.isDefEq.respectTransparency.types false in
/-- The run: every array ends as the proof data says, every other as the region found it, every semaphore at zero. -/
theorem run_main_quiescent [∀ e, Nonempty (Elt F e)] (hO : Ok m) (hT : Toks m) :
    θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none own0 H0 (by decide : H0 ⊆ Pipeline.restRefsP sig pre0 spec0) m ρ main
    (hbody := fun c => (body_obligation m hO hT c).loose) (hshare := fun c => (dats m hO 0 c).share_full fun _ => rfl)
    (howed := fun _ _ => rfl) (V := V m) (hmain := hmain m Variants.none) (hA := A_eq m hO) (hpf := V_pre m)
    (hin := inv_in m hO) (hout := inv_out m hO)

theorem run_main [∀ e, Nonempty (Elt F e)] (hO : Ok m) (hT : Toks m) :
    θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hT)

/-- An array of @main that no window stages ends as launched. -/
theorem rest_kept (hO : Ok m) (r : PUnit × MemSt nD τ sig (Elt F)) (h : Pipeline.FramePost (Pipeline.pin pcfgs fun _ => adm m hO) (dats m hO) 0 (V m) r) (c : Dev nD) (b : Ref sig .tc)
    (hb : b ∈ Pipeline.restRefs sig spec0) (h0 : b ≠ main_v0) (h1 : b ≠ main_v1) (h2 : b ≠ main_v2) :
    r.2.mem ((c.tc : Thread nD τ).loc b) = m ((c.tc : Thread nD τ).loc b) :=
  ((h c).2 b hb).trans (V_kept m c b h0 h1 h2)

/-- The arguments at the end. -/
theorem args_kept (hO : Ok m) (r : PUnit × MemSt nD τ sig (Elt F)) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨rest_kept m hO r h c main_arg0 (by decide) (by decide) (by decide) (by decide), rest_kept m hO r h c main_arg1 (by decide) (by decide) (by decide) (by decide),
    rest_kept m hO r h c main_arg2 (by decide) (by decide) (by decide) (by decide), rest_kept m hO r h c main_arg3 (by decide) (by decide) (by decide) (by decide),
    ((h c).1 1).trans (((dats m hO 0 c).arrAt_in 1 rfl _).trans ((A_eq m hO c 1).trans (V_kept m c main_arg4 (by decide) (by decide) (by decide)))),
    rest_kept m hO r h c main_arg5 (by decide) (by decide) (by decide) (by decide),
    ((h c).1 3).trans (((dats m hO 0 c).arrAt_in 3 rfl _).trans ((A_eq m hO c 3).trans (V_kept m c main_arg6 (by decide) (by decide) (by decide)))),
    rest_kept m hO r h c main_arg7 (by decide) (by decide) (by decide) (by decide)⟩

/-- The frame: the arguments end as they began, every semaphore at zero. -/
theorem frame [∀ e, Nonempty (Elt F e)] (hO : Ok m) (hT : Toks m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_kept m hO r h.1 c, h.2⟩) (run_main_quiescent m ρ hO hT)

/-- An expert table of legal experts is what the tiling asks of it. -/
theorem ok_of_arg (h2 : ∀ n : Fin 288, BitVec.toNat (w := 32) (m (((0 : Dev nD) : Thread nD τ).loc main_arg2) (ValueIdx.ix1 n)) < 32) : Ok m := by
  have t0 : tbl m 0 = m (((0 : Dev nD) : Thread nD τ).loc main_arg2) :=
    (V_pre m 0 0).symm.trans (V_kept m 0 main_arg2 (by decide) (by decide) (by decide))
  refine ok_of (tbl m) ?_
  rw [t0]
  exact h2

/-- A row table of legal rows is so block by block. -/
theorem toks_of_arg (h1 : ∀ (c : Dev nD) (y : S73728.Idx), BitVec.toNat (w := 32) (m ((c : Thread nD τ).loc main_arg1) y) < 16384) : Toks m := by
  intro c y
  rw [V_tok]
  exact h1 c _

end Cert.MoeKernelIdeal.Rows

end
-- ==== Proof.MoeValue.lean ====
/- The kernel's result is the plain program's: what a point writes, on extended reals, is its rows' feed-forward entry by
   entry, and the points' blocks cover the result. -/
module

public import proofs.«01_k».proof.Proof.MoeLaunch
public import proofs.«01_k».proof.Proof.MoeRef
public import proofs.«01_k».proof.Proof.MoePre
public import Idealize.ShloMosaic.Lib.Pipeline.ValueKit
public import Idealize.ShloMosaic.Lib.MatmulPlain

@[expose] public section

set_option maxRecDepth 16384

noncomputable section

namespace Cert.MoeKernelIdeal.Rows

open Cert.MoeKernelIdeal Cert.MoeKernelIdeal.Gen Idealize.ShloMosaic
open Idealize.ShloMosaic.TcCoe Idealize.SL.Sem Cert.MoeMath

/-! ## What a point writes, entry by entry -/

variable (G : S256x1024.Idx → Elt Ideal .f32) (U : S1x1x1024x2048.Idx → Elt Ideal .f32) (B : S1x1x1x2048.Idx → Elt Ideal .f32)
  (D : S1x1x1024x1024.Idx → Elt Ideal .f32) (E : S1x1x1x1024.Idx → Elt Ideal .f32)

/-- A point's slab of first weights, as a matrix, and the others likewise. -/
abbrev upW : Fin 1024 → Fin 2048 → EReal := fun k j => U (ValueIdx.ix4 (0 : Fin 1) (0 : Fin 1) k j)
abbrev bupW : Fin 2048 → EReal := fun j => B (ValueIdx.ix4 (0 : Fin 1) (0 : Fin 1) (0 : Fin 1) j)
abbrev dnW : Fin 1024 → Fin 1024 → EReal := fun k j => D (ValueIdx.ix4 (0 : Fin 1) (0 : Fin 1) k j)
abbrev bdnW : Fin 1024 → EReal := fun j => E (ValueIdx.ix4 (0 : Fin 1) (0 : Fin 1) (0 : Fin 1) j)
abbrev rowV (r : Fin 256) : Fin 1024 → EReal := fun k => G (ValueIdx.ix2 r k)

theorem pay3_at (k : Fin 1024) (j : Fin 2048) : k0_pay3 (F := Ideal) U (ValueIdx.ix2 k j) = upW U k j := by
  unfold k0_pay3
  rw [shapeCast_self]
  exact shapeCast_apply U shapeCasts_S1x1x1024x2048_S1024x2048 (ValueIdx.ix2 k j) (ValueIdx.ix4 (0 : Fin 1) (0 : Fin 1) k j) (by
    rewrite [Shape.rowMajor_val_four, Shape.rowMajor_val_two]
    show ((0 * 1 + 0) * 1024 + k.val) * 2048 + j.val = k.val * 2048 + j.val
    omega)

theorem pay4_at (k : Fin 1024) (j : Fin 1024) : k0_pay4 (F := Ideal) D (ValueIdx.ix2 k j) = dnW D k j := by
  unfold k0_pay4
  rw [shapeCast_self]
  exact shapeCast_apply D shapeCasts_S1x1x1024x1024_S1024x1024 (ValueIdx.ix2 k j) (ValueIdx.ix4 (0 : Fin 1) (0 : Fin 1) k j) (by
    rewrite [Shape.rowMajor_val_four, Shape.rowMajor_val_two]
    show ((0 * 1 + 0) * 1024 + k.val) * 1024 + j.val = k.val * 1024 + j.val
    omega)

/-- The first bias along the rows. -/
theorem bias_up (r : Fin 256) (j : Fin 2048) :
    broadcastTo S256x2048 (shapeCast S1x2048 B shapeCasts_S1x1x1x2048_S1x2048) broadcasts_S1x2048_S256x2048 (ValueIdx.ix2 r j) = bupW B j := by
  rw [broadcastTo_apply _ broadcasts_S1x2048_S256x2048 (ValueIdx.ix2 r j) (ValueIdx.ix2 (0 : Fin 1) j) (fun a => match a with
    | ⟨0, _⟩ => by show 0 = if (1 : Nat) = 1 then 0 else _; rw [if_pos rfl]
    | ⟨1, _⟩ => by show j.val = if (2048 : Nat) = 1 then 0 else j.val; rw [if_neg (by decide)])]
  exact shapeCast_apply B _ (ValueIdx.ix2 (0 : Fin 1) j) (ValueIdx.ix4 (0 : Fin 1) (0 : Fin 1) (0 : Fin 1) j) (by
    rewrite [Shape.rowMajor_val_four, Shape.rowMajor_val_two]
    show ((0 * 1 + 0) * 1 + 0) * 2048 + j.val = 0 * 2048 + j.val
    omega)

theorem bias_dn (r : Fin 256) (j : Fin 1024) :
    broadcastTo S256x1024 (shapeCast S1x1024 E shapeCasts_S1x1x1x1024_S1x1024) broadcasts_S1x1024_S256x1024 (ValueIdx.ix2 r j) = bdnW E j := by
  rw [broadcastTo_apply _ broadcasts_S1x1024_S256x1024 (ValueIdx.ix2 r j) (ValueIdx.ix2 (0 : Fin 1) j) (fun a => match a with
    | ⟨0, _⟩ => by show 0 = if (1 : Nat) = 1 then 0 else _; rw [if_pos rfl]
    | ⟨1, _⟩ => by show j.val = if (1024 : Nat) = 1 then 0 else j.val; rw [if_neg (by decide)])]
  exact shapeCast_apply E _ (ValueIdx.ix2 (0 : Fin 1) j) (ValueIdx.ix4 (0 : Fin 1) (0 : Fin 1) (0 : Fin 1) j) (by
    rewrite [Shape.rowMajor_val_four, Shape.rowMajor_val_two]
    show ((0 * 1 + 0) * 1 + 0) * 1024 + j.val = 0 * 1024 + j.val
    omega)

/-- The first product, its bias added. -/
theorem pay5_at (r : Fin 256) (j : Fin 2048) : k0_pay5 (F := Ideal) G (k0_pay3 (F := Ideal) U) B (ValueIdx.ix2 r j) = hid (rowV G r) (upW U) (bupW B) j := by
  unfold k0_pay5
  show matmul _ none _ _ _ (ValueIdx.ix2 r j) + broadcastTo S256x2048 _ _ (ValueIdx.ix2 r j) = _
  rw [bias_up]
  refine congrArg (· + _) ((Ideal.matmul_plain_apply none _ _ _ r j).trans ?_)
  rw [show (constant S256x2048 .f32 0x00000000#32 : FVec Ideal S256x2048 .f32) (ValueIdx.ix2 r j) = 0 from Ideal.ofBits_zero_f32, zero_add]
  exact Finset.sum_congr rfl fun k _ => congrArg (G (ValueIdx.ix2 r k) * ·) (pay3_at U k j)

theorem pay6_at (r : Fin 256) (f : Fin 1024) : k0_pay6 (F := Ideal) G (k0_pay3 (F := Ideal) U) B (ValueIdx.ix2 r f) = gate (rowV G r) (upW U) (bupW B) f := by
  unfold k0_pay6
  show min (extractStridedSlice (s := S256x2048) S256x1024 ![0, 0] _ _ (ValueIdx.ix2 r f)) seven = _
  rw [extractStridedSlice_apply ![0, 0] _ _ (ValueIdx.ix2 r f) (ValueIdx.ix2 r (⟨f.val, by have := f.isLt; omega⟩ : Fin 2048)) (fun a => match a with
    | ⟨0, _⟩ => by show r.val = 0 + r.val; omega
    | ⟨1, _⟩ => by show f.val = 0 + f.val; omega), pay5_at]
  rfl

theorem pay7_at (r : Fin 256) (f : Fin 1024) : k0_pay7 (F := Ideal) G (k0_pay3 (F := Ideal) U) B (ValueIdx.ix2 r f) = lin (rowV G r) (upW U) (bupW B) f := by
  unfold k0_pay7
  show min seven (max negSeven (extractStridedSlice (s := S256x2048) S256x1024 ![0, 1024] _ _ (ValueIdx.ix2 r f))) = _
  rw [extractStridedSlice_apply ![0, 1024] _ _ (ValueIdx.ix2 r f) (ValueIdx.ix2 r (⟨1024 + f.val, by have := f.isLt; omega⟩ : Fin 2048)) (fun a => match a with
    | ⟨0, _⟩ => by show r.val = 0 + r.val; omega
    | ⟨1, _⟩ => by show 1024 + f.val = 1024 + f.val; omega), pay5_at]
  rfl

theorem pay8_at (r : Fin 256) (f : Fin 1024) : k0_pay8 (F := Ideal) G (k0_pay3 (F := Ideal) U) B (ValueIdx.ix2 r f) = alpha * gate (rowV G r) (upW U) (bupW B) f := by
  unfold k0_pay8
  show alpha * k0_pay6 (F := Ideal) G (k0_pay3 (F := Ideal) U) B (ValueIdx.ix2 r f) = _
  rw [pay6_at]

/-- Entry `(r, j)` of a working point's block. -/
theorem rowsOut_at (r : Fin 256) (j : Fin 1024) :
    rowsOut (F := Ideal) G (k0_pay3 (F := Ideal) U) B (k0_pay4 (F := Ideal) D) E (ValueIdx.ix2 r j) = ffn (rowV G r) (upW U) (bupW B) (dnW D) (bdnW E) j := by
  unfold rowsOut k0_pay1
  show matmul _ none _ _ _ (ValueIdx.ix2 r j) + broadcastTo S256x1024 _ _ (ValueIdx.ix2 r j) = _
  rw [bias_dn]
  refine congrArg (· + _) ((Ideal.matmul_plain_apply none _ _ _ r j).trans ?_)
  rw [show (constant S256x1024 .f32 0x00000000#32 : FVec Ideal S256x1024 .f32) (ValueIdx.ix2 r j) = 0 from Ideal.ofBits_zero_f32, zero_add]
  refine Finset.sum_congr rfl fun f _ => ?_
  refine congr_arg₂ (· * ·) ?_ (pay4_at D f j)
  show k0_pay6 (F := Ideal) G (k0_pay3 (F := Ideal) U) B (ValueIdx.ix2 r f)
      * Ideal.div one (one + Ideal.exp (Ideal.ofBits .f32 0x00000000#32 - k0_pay8 (F := Ideal) G (k0_pay3 (F := Ideal) U) B (ValueIdx.ix2 r f)))
      * (k0_pay7 (F := Ideal) G (k0_pay3 (F := Ideal) U) B (ValueIdx.ix2 r f) + one) = _
  rw [pay6_at, pay7_at, pay8_at, Ideal.ofBits_zero_f32, zero_sub]
  rfl

theorem idle_at (r : Fin 256) (j : Fin 1024) : k0_pay2 (F := Ideal) (ValueIdx.ix2 r j) = (0 : EReal) := Ideal.ofBits_zero_f32

/-! ## Against the plain program -/

section Point

variable (x0 : (⟨S16384x1024, .f32⟩ : BufTy).Contents (Elt Ideal)) (x1 : (⟨S73728, .i32⟩ : BufTy).Contents (Elt Ideal))
  (x2 : (⟨S288, .i32⟩ : BufTy).Contents (Elt Ideal)) (x3 : (⟨S1, .i32⟩ : BufTy).Contents (Elt Ideal))
  (x4 : (⟨S2x32x1024x2048, .f32⟩ : BufTy).Contents (Elt Ideal)) (x5 : (⟨S2x32x2048, .f32⟩ : BufTy).Contents (Elt Ideal))
  (x6 : (⟨S2x32x1024x1024, .f32⟩ : BufTy).Contents (Elt Ideal)) (x7 : (⟨S2x32x1024, .f32⟩ : BufTy).Contents (Elt Ideal))

theorem tok_at (n : Fin 288) (r : Fin 256) :
    shapeCast S288x1x256 x1 shapeCasts_S73728_S288x1x256 (ValueIdx.ix3 n (⟨0, by decide⟩ : Fin 1) r) = x1 (ValueIdx.ix1 (MoeRef.flat n r)) :=
  shapeCast_apply x1 _ _ _ (by
    rewrite [Shape.rowMajor_val_one, Shape.rowMajor_val_three]
    show n.val * 256 + r.val = (n.val * 1 + 0) * 256 + r.val
    omega)

theorem bup_at (e : Fin 32) (j : Fin 2048) :
    shapeCast S2x32x1x2048 x5 shapeCasts_S2x32x2048_S2x32x1x2048 (ValueIdx.ix4 (⟨0, by decide⟩ : Fin 2) e (0 : Fin 1) j) = x5 (ValueIdx.ix3 (0 : Fin 2) e j) :=
  shapeCast_apply x5 _ _ _ (by
    rewrite [Shape.rowMajor_val_three, Shape.rowMajor_val_four]
    show (0 * 32 + e.val) * 2048 + j.val = ((0 * 32 + e.val) * 1 + 0) * 2048 + j.val
    omega)

theorem bdn_at (e : Fin 32) (j : Fin 1024) :
    shapeCast S2x32x1x1024 x7 shapeCasts_S2x32x1024_S2x32x1x1024 (ValueIdx.ix4 (⟨0, by decide⟩ : Fin 2) e (0 : Fin 1) j) = x7 (ValueIdx.ix3 (0 : Fin 2) e j) :=
  shapeCast_apply x7 _ _ _ (by
    rewrite [Shape.rowMajor_val_three, Shape.rowMajor_val_four]
    show (0 * 32 + e.val) * 1024 + j.val = ((0 * 32 + e.val) * 1 + 0) * 1024 + j.val
    omega)

/-- What the point of coordinates `i` writes is the plain program's block. -/
theorem outOf_at (i : grid0.Coords) (h1 : ∀ y, BitVec.toNat (w := 32) (x1 y) < 16384) (h2 : ∀ n : Fin 288, BitVec.toNat (w := 32) (x2 (ValueIdx.ix1 n)) < 32)
    (r : Fin 256) (j : Fin 1024) :
    outOf (F := Ideal) i x2 x3 (shapeCast S288x1x256 x1 shapeCasts_S73728_S288x1x256) x0 x4 (shapeCast S2x32x1x2048 x5 shapeCasts_S2x32x2048_S2x32x1x2048) x6
        (shapeCast S2x32x1x1024 x7 shapeCasts_S2x32x1024_S2x32x1x1024) (ValueIdx.ix2 r j)
      = MoeReferenceIdeal.Read.val_main_v75 (F := Ideal) x0 x1 x2 x3 x4 x5 x6 x7 (ValueIdx.ix2 (MoeRef.flat (i 0) r) j) := by
  rw [MoeRef.v75_at x0 x1 x2 x3 x4 x5 x6 x7 (i 0) r (h1 _) (h2 _) j]
  have hn : naWord (F := Ideal) x3 = x3 (ValueIdx.ix1 (0 : Fin 1)) := by
    refine congrArg x3 (funext fun a => Fin.ext ?_)
    match a with
    | ⟨0, _⟩ => exact Nat.lt_one_iff.mp (Fin.isLt _)
  unfold outOf
  have hc := act_iff i (naWord (F := Ideal) x3)
  rw [hn] at hc ⊢
  by_cases ha : k0_cond1 i (x3 (ValueIdx.ix1 (0 : Fin 1))) = 1#1
  · rw [if_pos ha, if_pos (hc.mp ha), rowsOut_at]
    have e0 : rowV (rowsOf (F := Ideal) (words (F := Ideal) (shapeCast S288x1x256 x1 shapeCasts_S73728_S288x1x256) (i 0)) x0) r = MoeRef.rowAt x0 x1 (i 0) r :=
      funext fun k => row_congr (F := Ideal) x0 (congrArg (fun w => BitVec.toNat (w := 32) w % 16384) (tok_at x1 (i 0) r)) _ _ k
    have e2 : bupW (slab2 (F := Ideal) (shapeCast S2x32x1x2048 x5 shapeCasts_S2x32x2048_S2x32x1x2048) (expert (F := Ideal) x2 (i 0))) = MoeRef.bupAt x2 x5 (i 0) :=
      funext fun j => bup_at x5 _ j
    have e4 : bdnW (slab4 (F := Ideal) (shapeCast S2x32x1x1024 x7 shapeCasts_S2x32x1024_S2x32x1x1024) (expert (F := Ideal) x2 (i 0))) = MoeRef.bdnAt x2 x7 (i 0) :=
      funext fun j => bdn_at x7 _ j
    rw [e0, e2, e4]
    rfl
  · rw [if_neg ha, if_neg (fun h => ha (hc.mpr h)), idle_at]

end Point

variable (m : (ℓ : Loc nD τ sig) → Buf (Elt Ideal) ℓ)

theorem out_at (hO : Ok m) (c : Dev nD) (h1 : ∀ y : S73728.Idx, BitVec.toNat (w := 32) (m ((c : Thread nD τ).loc main_arg1) y) < 16384)
    (h2 : ∀ n : Fin 288, BitVec.toNat (w := 32) (m ((c : Thread nD τ).loc main_arg2) (ValueIdx.ix1 n)) < 32) (t : Fin grid0.N) (r : Fin 256) (j : Fin 1024) :
    outAt m hO c t (ValueIdx.ix2 r j)
      = MoeReferenceIdeal.Read.val_main_v75 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (ValueIdx.ix2 (MoeRef.flat (grid0.coords t 0) r) j) := by
  have t0 : tbl m 0 = m ((c : Thread nD τ).loc main_arg2) := (V_pre m c 0).symm.trans (V_kept m c main_arg2 (by decide) (by decide) (by decide))
  have t1 : tbl m 1 = m ((c : Thread nD τ).loc main_arg3) := (V_pre m c 1).symm.trans (V_kept m c main_arg3 (by decide) (by decide) (by decide))
  refine Eq.trans ?_ (outOf_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (grid0.coords t) h1 h2 r j)
  unfold outAt
  rw [V_tok, V_bup, V_bdn, V_kept m c main_arg0 (by decide) (by decide) (by decide), V_kept m c main_arg4 (by decide) (by decide) (by decide),
    V_kept m c main_arg6 (by decide) (by decide) (by decide), t0, t1]

theorem flush5 : ∀ t : Fin grid0.N, Pipeline.Window.flushOf grid0 true cc0_transform_6 t = true := fun t =>
  (Pipeline.Window.flushOf_reads cc0_transform_6 reads0_5 hreads0_5 0 (by decide) (by decide) (Pipeline.Window.sep_of_coord cc0_transform_6 0 0 (fun _ => rfl) (by decide)) (P := 1) (m := 0) (by decide) rfl t).mpr (Nat.mod_one _)

/-- Where a point's block lies in the result. -/
theorem emb5 (hO : Ok m) (t : Fin (cfgM m hO).N) (r : Fin 256) (j : Fin 1024) :
    (((cfgM m hO).win 5).blk t).view.emb (ValueIdx.ix2 r j) = (ValueIdx.ix2 (MoeRef.flat (grid0.coords t 0) r) j : S73728x1024.Idx) := by
  refine funext fun a => Fin.ext ?_
  have hv : (BitVec.ofNat 32 (grid0.coords t 0).val).toNat = (grid0.coords t 0).val := off1_val (grid0.coords t 0)
  match a with
  | ⟨0, _⟩ =>
    show (BitVec.ofNat 32 (grid0.coords t 0).val).toNat * 256 + 1 * r.val = (grid0.coords t 0).val * 256 + r.val
    omega
  | ⟨1, _⟩ => show 0 * 1024 + 1 * j.val = j.val; omega

/-- The whole result. -/
theorem result_eq (hO : Ok m) (c : Dev nD) (h1 : ∀ y : S73728.Idx, BitVec.toNat (w := 32) (m ((c : Thread nD τ).loc main_arg1) y) < 16384)
    (h2 : ∀ n : Fin 288, BitVec.toNat (w := 32) (m ((c : Thread nD τ).loc main_arg2) (ValueIdx.ix1 n)) < 32) :
    (dats m hO 0 c).arrAt 5 (cfgM m hO).N
      = MoeReferenceIdeal.Read.val_main_v75 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) := by
  refine (dats m hO 0 c).arrAt_eq_of_emb 5 _ (fun t hf (y : S256x1024.Idx) => ?_) (fun (i : S73728x1024.Idx) => ?_)
  · obtain ⟨r, j, rfl⟩ : ∃ (r : Fin 256) (j : Fin 1024), y = ValueIdx.ix2 r j := ⟨y 0, y 1, ValueIdx.eq_ix2 y⟩
    refine Eq.trans ?_ (congrArg _ (emb5 m hO t r j).symm)
    refine Eq.trans ?_ (out_at m hO c h1 h2 t r j)
    have h := after0_5 m hO c t
    generalize outAt m hO c t = g at h ⊢
    generalize (dats m hO 0 c).after 5 t = f at h ⊢
    subst h
    rfl
  · have hi0 : (i 0).val < 73728 := (i 0).isLt
    obtain ⟨t, ht⟩ : ∃ t : Fin (cfgM m hO).N, t.val = (i 0).val / 256 := ⟨⟨(i 0).val / 256, by show _ < 288; omega⟩, rfl⟩
    refine ⟨t, flush5 t, ?_⟩
    have e := emb5 m hO t (⟨(i 0).val % 256, by omega⟩ : Fin 256) (i 1 : Fin 1024)
    have e' : (ValueIdx.ix2 (MoeRef.flat (grid0.coords t 0) (⟨(i 0).val % 256, by omega⟩ : Fin 256)) (i 1 : Fin 1024) : S73728x1024.Idx) = i := by
      refine funext fun a => Fin.ext ?_
      have hc := coord_val t
      match a with
      | ⟨0, _⟩ => show (grid0.coords t 0).val * 256 + (i 0).val % 256 = (i 0).val; omega
      | ⟨1, _⟩ => rfl
    have hm := View.emb_mem_set (((cfgM m hO).win 5).blk t).view (ValueIdx.ix2 (⟨(i 0).val % 256, by omega⟩ : Fin 256) (i 1 : Fin 1024))
    exact (congrArg (· ∈ (((cfgM m hO).win 5).blk t).view.set) (e.trans e')).mp hm

end Cert.MoeKernelIdeal.Rows

end
-- ==== Proof.CmbPre.lean ====
/- What the combine's precondition says of the row table: every entry names a row of the experts' array. -/
module

public import proofs.«01_k».proof.Proof.Gen.Pre_rows_in_range
public import proofs.«01_k».proof.Proof.MoePre

@[expose] public section

noncomputable section

namespace Cert.CmbPre

open Idealize.ShloMosaic Cert.Pre_rows_in_range

variable {F : FTy → Type} [FloatOps F]

theorem dest_lt (a0 : IVec S65536 32) (a1 : FVec F S16384x4 .f32) (a2 : FVec F S16384x1024 .f32) (a3 : FVec F S73728x1024 .f32) (a4 a5 : FVec F S1024 .f32)
    (h : fn (F := F) a0 a1 a2 a3 a4 a5 = fun _ => 1#1) (y : S65536.Idx) : (a0 y).toNat < 73728 := by
  have g := congrFun h y
  unfold fn at g
  dsimp only at g
  obtain ⟨g1, g2⟩ := MoePre.and_one g
  exact MoePre.lt_of_signed (n := 73728) (by decide) g1 g2

end Cert.CmbPre

end
-- ==== Proof.CmbLoops.lean ====
/- The two counted loops of the combine kernel: the first starts one transfer per choice of a block's rows, each copying
   the experts' row that the choice's word names into the row buffer; the second waits for all of them.

   All transfers complete on one semaphore, so they are one batch. A transfer's source is a row of the experts' array,
   and several may name the same row, so each transfer lends that row out of a read token of its own of the whole
   array; what is left of the token stays with the loop until the batch is drained. -/
module

public import proofs.«01_k».proof.Proof.Gen.CmbKernelIdeal.Loops
public import proofs.«01_k».proof.Proof.Gen.CmbKernelIdeal.Launch
public import Idealize.ShloMosaic.Lib.Batch
public import Idealize.ShloMosaic.Lib.Ring
public import Idealize.ShloMosaic.Lib.Tactic
public import Idealize.ShloMosaic.Lib.Pipeline.FrameBody
public import Idealize.ShloMosaic.Lib.WordCmp

@[expose] public section

set_option maxRecDepth 16384

noncomputable section

namespace Cert.CmbKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CmbKernelIdeal.Gen

variable {F : FTy → Type} [FloatOps F]

local notation "𝕄" => MT nD τ sig Unit (Elt F) ℕ (Pipeline.UD sig nD τ) ℕ

/-- The number of rows of a block, and of transfers of a batch. -/
abbrev T : ℕ := k0_t1_loop.trips
theorem T_eq : T = 512 := by decide
theorem T2_eq : k0_t2_loop.trips = T := by decide

/-- The experts' array in HBM and the row buffer, and the batch's cell. -/
abbrev xM : Memref sig .tc .hbm S73728x1024 .f32 := Memref.whole main_arg3
abbrev gM : Memref sig .tc .vmem S512x1024 .f32 := Memref.whole cc0_scratch0
abbrev cell : SemLoc sig := .dma (cc0_scratch1).sem

/-- Row `k` of the row buffer, and the row of the experts' array that word `w` names. -/
def rowM (k : Fin T) : Memref sig .tc .vmem S1x1024 .f32 :=
  gM.slice (Rect.unit (s := S512x1024) (k0_off2 k) S1x1024.size (k0_off2_inb k)) (fun _ => rfl)
def srcM (w : BitVec 32) (h : ∀ a, (k0_off3 w) a + S1x1024.size a ≤ S73728x1024.size a) : Memref sig .tc .hbm S1x1024 .f32 :=
  xM.slice (Rect.unit (s := S73728x1024) (k0_off3 w) S1x1024.size h) (fun _ => rfl)

variable (c : Dev nD)

section Issue

variable (i : grid0.Coords) (arg1 : Memref sig .tc .smem S1x1x512 .i32) (harg1 : arg1.IsWhole)
  (arg2 : Memref sig .tc .vmem S128x4 .f32) (harg2 : arg2.IsWhole) (arg3 : Memref sig .tc .vmem S128x1024 .f32) (harg3 : arg3.IsWhole)
  (arg5 : Memref sig .tc .vmem S1x1024 .f32) (harg5 : arg5.IsWhole) (arg6 : Memref sig .tc .vmem S1x1024 .f32) (harg6 : arg6.IsWhole)
  (arg7 : Memref sig .tc .vmem S128x1024 .f32) (harg7 : arg7.IsWhole)

/-- The word the loop reads at trip `k`, the word block held at contents `f3`. -/
abbrev wordAt (f3 : Buf (Elt F) (arg1.view.loc (c : Thread nD τ))) (k : Fin T) : BitVec 32 :=
  (arg1.access (Rect.unit (s := S1x1x512) (k0_off1 k) S1x1x1.size (k0_off1_inb k))).read (Elt F) f3 (Shape.Idx.first (numel1_S1x1x1.symm ▸ Nat.one_pos))

/-- Every word of the block names a row of the experts' array. -/
def InRange (f3 : Buf (Elt F) (arg1.view.loc (c : Thread nD τ))) : Prop :=
  ∀ k : Fin T, ∀ a, (k0_off3 (wordAt (F := F) c arg1 f3 k)) a + S1x1024.size a ≤ S73728x1024.size a

variable {arg1} in
/-- What transfer `k` delivers: its row of the row buffer, written with the row its word names, and that row of the
    experts' array under read token `k`. -/
abbrev deliv {f3 : Buf (Elt F) (arg1.view.loc (c : Thread nD τ))} (hr : InRange (F := F) c arg1 f3)
    (fx : Buf (Elt F) (xM.view.loc (c : Thread nD τ))) (g : Buf (Elt F) (gM.view.loc (c : Thread nD τ))) (k : Fin T) : sProp 𝕄 :=
  iprop(((rowM k).view.loc (c : Thread nD τ) ↦[(rowM k).view.set]{fullShare}
        (rowM k).view.writes (Elt F) g [⟨Rect.whole _, (srcM (wordAt (F := F) c arg1 f3 k) (hr k)).view.read (Elt F) fx⟩])
    ∗ ((srcM (wordAt (F := F) c arg1 f3 k) (hr k)).view.loc (c : Thread nD τ) ↦[(srcM (wordAt (F := F) c arg1 f3 k) (hr k)).view.set]{Transfers.shareTokN fullShare k.val} fx))

/-- The batch (a row credits 128 units), `j` transfers started and `u` units consumed. -/
abbrev batch {f3 : Buf (Elt F) (arg1.view.loc (c : Thread nD τ))} (hr : InRange (F := F) c arg1 f3)
    (fx : Buf (Elt F) (xM.view.loc (c : Thread nD τ))) (g : Buf (Elt F) (gM.view.loc (c : Thread nD τ))) (j u : ℕ) : sProp 𝕄 :=
  Transfers.Batch (countersEmb (U := Pipeline.UD sig nD τ)) (c : Thread nD τ) cell () 128 (deliv c hr fx g) j u

/-- Row `k` of the row buffer at contents `g`. -/
abbrev rowAt (g : Buf (Elt F) (gM.view.loc (c : Thread nD τ))) (k : Fin T) : sProp 𝕄 :=
  (rowM k).view.loc (c : Thread nD τ) ↦[(rowM k).view.set]{fullShare} g
/-- Read token `k` of the experts' array, -/
abbrev tokAt (fx : Buf (Elt F) (xM.view.loc (c : Thread nD τ))) (k : Fin T) : sProp 𝕄 :=
  xM.view.loc (c : Thread nD τ) ↦{Transfers.shareTokN fullShare k.val} fx
/-- and what is left of it while transfer `k` holds its row. -/
abbrev leftAt {f3 : Buf (Elt F) (arg1.view.loc (c : Thread nD τ))} (hr : InRange (F := F) c arg1 f3)
    (fx : Buf (Elt F) (xM.view.loc (c : Thread nD τ))) (k : Fin T) : sProp 𝕄 :=
  xM.view.loc (c : Thread nD τ) ↦[Finset.univ \ (srcM (wordAt (F := F) c arg1 f3 k) (hr k)).view.set]{Transfers.shareTokN fullShare k.val} fx

/-- Before trip `k` of the first loop: `k` transfers started; the rows and the tokens from `k` on in hand; of the
    tokens before `k` what their transfers left; the word block. -/
def issueAt {f3 : Buf (Elt F) (arg1.view.loc (c : Thread nD τ))} (hr : InRange (F := F) c arg1 f3)
    (fx : Buf (Elt F) (xM.view.loc (c : Thread nD τ))) (g : Buf (Elt F) (gM.view.loc (c : Thread nD τ))) (k : ℕ) (_ : Unit) : sProp 𝕄 :=
  iprop(batch c arg1 hr fx g k 0 ∗ bigSep (Ring.rangeSet T k T) (rowAt (F := F) c g) ∗ bigSep (Ring.rangeSet T k T) (tokAt (F := F) c fx)
    ∗ bigSep (Ring.rangeSet T 0 k) (leftAt c arg1 hr fx) ∗ (arg1.view.loc (c : Thread nD τ) ↦[arg1.view.set]{fullShare} f3))

set_option maxHeartbeats 2000000 in
theorem issue_step [∀ e, Nonempty (Elt F e)] {f3 : Buf (Elt F) (arg1.view.loc (c : Thread nD τ))} (hr : InRange (F := F) c arg1 f3)
    (fx : Buf (Elt F) (xM.view.loc (c : Thread nD τ))) (g : Buf (Elt F) (gM.view.loc (c : Thread nD τ))) (k : Fin T) (acc : Unit) :
    issueAt c arg1 hr fx g k acc ⊢ wp frame (wpE (defs₀ (F := F)) Variants.none (c : Thread nD τ) none) Set.univ
      (k0_t1_body (F := F) i arg1 harg1 arg2 harg2 arg3 harg3 xM (Memref.isWhole_whole _) arg5 harg5 arg6 harg6 arg7 harg7 gM (Memref.isWhole_whole _) cc0_scratch1 k acc)
      (issueAt c arg1 hr fx g (k.val + 1)) := by
  have hk := k.isLt
  have hchk : k0_chk1 (wordAt (F := F) c arg1 f3 k) := hr k
  unfold issueAt
  rw [Ring.bigSep_rangeSet_head (Φ := rowAt (F := F) c g) (by omega) (by omega), Ring.bigSep_rangeSet_head (Φ := tokAt (F := F) c fx) (by omega) (by omega),
    Ring.bigSep_rangeSet_last (lo := 0) (hi := k.val + 1) (Φ := leftAt c arg1 hr fx) (by omega) (by omega)]
  iintro ⟨HB, ⟨HR, HRs⟩, ⟨HX, HXs⟩, HLs, HW⟩
  unfold k0_t1_body
  sl_exec (disch := exact hchk)
  sl_step
  isplitl [HB]; · iexact HB
  isplitl [HRs]; · iexact HRs
  isplitl [HXs]; · iexact HXs
  isplitl [HX HLs]
  · isplitl [HX]; · iexact HX
    iexact HLs
  iexact HW

set_option warn.classDefReducibility false in
/-- The first loop's invariant, for the run to find. -/
@[sl_loop] def issueInv [∀ e, Nonempty (Elt F e)] {f3 : Buf (Elt F) (arg1.view.loc (c : Thread nD τ))} (hr : InRange (F := F) c arg1 f3)
    (fx : Buf (Elt F) (xM.view.loc (c : Thread nD τ))) (g : Buf (Elt F) (gM.view.loc (c : Thread nD τ))) :
    Gen.LoopInvTy_k0_t1 (F := F) Unit ℕ (Pipeline.UD sig nD τ) ℕ Variants.none c none Set.univ i arg1 harg1 arg2 harg2 arg3 harg3 xM (Memref.isWhole_whole _) arg5 harg5 arg6 harg6 arg7 harg7 gM (Memref.isWhole_whole _) cc0_scratch1 where
  inv := issueAt c arg1 hr fx g
  step := issue_step c i arg1 harg1 arg2 harg2 arg3 harg3 arg5 harg5 arg6 harg6 arg7 harg7 hr fx g

/-! ## The second loop -/

/-- Before trip `k` of the second loop: the waits so far recorded; and before the last trip has run the batch with `k`
    rows' units consumed, after it the cell at zero and every delivery. -/
def drainAt {f3 : Buf (Elt F) (arg1.view.loc (c : Thread nD τ))} (hr : InRange (F := F) c arg1 f3)
    (fx : Buf (Elt F) (xM.view.loc (c : Thread nD τ))) (g : Buf (Elt F) (gM.view.loc (c : Thread nD τ))) (k : ℕ) (_ : Unit) : sProp 𝕄 :=
  iprop((∃ W, owes (c : Thread nD τ) 0 W)
    ∗ (if k < T then batch c arg1 hr fx g T (k * 128)
       else iprop(semVal ((c : Thread nD τ), cell) 0 ∗ bigSep Finset.univ (deliv c hr fx g))))

set_option maxHeartbeats 2000000 in
theorem drain_step [∀ e, Nonempty (Elt F e)] {f3 : Buf (Elt F) (arg1.view.loc (c : Thread nD τ))} (hr : InRange (F := F) c arg1 f3)
    (fx : Buf (Elt F) (xM.view.loc (c : Thread nD τ))) (g : Buf (Elt F) (gM.view.loc (c : Thread nD τ))) (k : Fin k0_t2_loop.trips) (acc : Unit) :
    drainAt c arg1 hr fx g k acc ⊢ wp frame (wpE (defs₀ (F := F)) Variants.none (c : Thread nD τ) none) Set.univ
      (k0_t2_body (F := F) i arg1 harg1 arg2 harg2 arg3 harg3 xM (Memref.isWhole_whole _) arg5 harg5 arg6 harg6 arg7 harg7 gM (Memref.isWhole_whole _) cc0_scratch1 k acc)
      (drainAt c arg1 hr fx g (k.val + 1)) := by
  have hk : k.val < T := k.isLt
  unfold drainAt
  simp only [if_pos hk]
  rcases Nat.lt_or_ge (k.val + 1) T with h1 | h1
  · simp only [if_pos h1]
    iintro ⟨⟨%W, HO⟩, HB⟩
    unfold k0_t2_body
    sl_exec
    sl_step
    isplitl [HO]; · iexists _; iexact HO
    rw [show (k.val + 1) * 128 = k.val * 128 + 128 from Nat.succ_mul _ _]
    iexact HB
  · simp only [if_neg (Nat.not_lt.mpr h1)]
    iintro ⟨⟨%W, HO⟩, HB⟩
    unfold k0_t2_body
    sl_exec
    sl_step
    isplitl [HO]; · iexists _; iexact HO
    isplitl [HB]; · iexact HB
    iexact HB_all

end Issue

end Cert.CmbKernelIdeal.Rows

end
-- ==== Proof.CmbGather.lean ====
/- What the gather leaves: the block of rows the transfers assemble, and the two arrays put together again from what
   the transfers return. -/
module

public import proofs.«01_k».proof.Proof.CmbLoops
public import Idealize.ShloMosaic.Lib.ValueIdx
public import Idealize.ShloMosaic.Lib.Pipeline.ValueKit.Geometry

@[expose] public section

set_option maxRecDepth 16384

noncomputable section

namespace Cert.CmbKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CmbKernelIdeal.Gen

variable {F : FTy → Type} [FloatOps F]

local notation "𝕄" => MT nD τ sig Unit (Elt F) ℕ (Pipeline.UD sig nD τ) ℕ

variable (c : Dev nD)

/-- Transfer `k` fills row `k`. -/
theorem off3_eq : ∀ k : Fin T, k0_off2 k = ![k.val, 0] := by decide +kernel
/-- The row of the buffer an element lies in, as a transfer's number. -/
def tOf (y : S512x1024.Idx) : Fin T := ⟨(y 0).val, by rw [T_eq]; exact (y 0).isLt⟩

/-- Row `k`'s elements. -/
abbrev rowSet (k : Fin T) : Finset S512x1024.Idx := (Rect.unit (s := S512x1024) (k0_off2 k) S1x1024.size (k0_off2_inb k)).set
theorem mem_rowSet (k : Fin T) (y : S512x1024.Idx) : y ∈ rowSet k ↔ tOf y = k := by
  rw [Rect.mem_set_unit, Fin.ext_iff]
  show _ ↔ (y 0).val = k.val
  have h1 : (y 1).val < 1024 := (y 1).isLt
  have e0 : k0_off2 k 0 = k.val := by rw [off3_eq]; rfl
  have e1 : k0_off2 k 1 = 0 := by rw [off3_eq]; rfl
  constructor
  · intro H; have a0 : k0_off2 k 0 ≤ (y 0).val ∧ (y 0).val < k0_off2 k 0 + 1 := H 0; omega
  · intro H a
    match a with
    | ⟨0, _⟩ => show k0_off2 k 0 ≤ (y 0).val ∧ (y 0).val < k0_off2 k 0 + 1; omega
    | ⟨1, _⟩ => show k0_off2 k 1 ≤ (y 1).val ∧ (y 1).val < k0_off2 k 1 + 1024; omega
theorem rowSet_eq (k : Fin T) : (rowM k).view.set = rowSet k := by
  unfold rowM; exact View.set_slice_whole _ _
theorem rowSet_disjoint : ∀ k k' : Fin T, k ≠ k' → Disjoint (rowSet k) (rowSet k') := fun k k' hne => by
  rw [Finset.disjoint_left]; intro y hy hy'; rw [mem_rowSet] at hy hy'; exact hne (hy.symm.trans hy')
theorem rowSet_cover : Finset.univ.biUnion rowSet = Finset.univ := by
  ext y; simp only [Finset.mem_biUnion, Finset.mem_univ, true_and, iff_true]; exact ⟨tOf y, (mem_rowSet _ _).mpr rfl⟩

variable {arg1 : Memref sig .tc .smem S1x1x512 .i32} {f3 : Buf (Elt F) (arg1.view.loc (c : Thread nD τ))}

theorem word_lt (hr : InRange (F := F) c arg1 f3) (k : Fin T) : (wordAt (F := F) c arg1 f3 k).toNat < 73728 := by
  have h := hr k 0
  have h' : (wordAt (F := F) c arg1 f3 k).toNat + 1 ≤ 73728 := h
  omega

/-- The block of rows: row `j` is the row of the experts' array that word `j` names. -/
def gath (hr : InRange (F := F) c arg1 f3) (fx : S73728x1024.Idx → Elt F .f32) : S512x1024.Idx → Elt F .f32 := fun y =>
  fx (ValueIdx.ix2 ⟨(wordAt (F := F) c arg1 f3 (tOf y)).toNat, word_lt c hr _⟩ (y 1))

theorem src_lt {w : BitVec 32} (h : ∀ a, (k0_off3 w) a + S1x1024.size a ≤ S73728x1024.size a) : w.toNat < 73728 := by
  have h' : w.toNat + 1 ≤ 73728 := h 0
  omega

theorem rowM_read (k : Fin T) (f : S512x1024.Idx → Elt F .f32) (x : S1x1024.Idx) :
    (rowM k).view.read (Elt F) f x = f ((rowM k).view.emb x) := rfl

theorem row_value_of (w : BitVec 32) (h : ∀ a, (k0_off3 w) a + S1x1024.size a ≤ S73728x1024.size a) (fx : S73728x1024.Idx → Elt F .f32)
    (g : S512x1024.Idx → Elt F .f32) (k : Fin T) (x : S1x1024.Idx) :
    (rowM k).view.writes (Elt F) g [⟨Rect.whole _, (srcM w h).view.read (Elt F) fx⟩] ((rowM k).view.emb x)
      = fx (ValueIdx.ix2 ⟨w.toNat, src_lt h⟩ (x 1)) := by
  have e := congrFun (View.read_writes_whole (Val := Elt F) (rowM k).view g ((srcM w h).view.read (Elt F) fx)) x
  refine (rowM_read k ((rowM k).view.writes (Elt F) g [⟨Rect.whole _, (srcM w h).view.read (Elt F) fx⟩]) x).symm.trans (e.trans ?_)
  show fx ((srcM w h).view.emb x) = _
  refine congrArg fx (funext fun a => Fin.ext ?_)
  have hx : (x 0).val = 0 := by have : (x 0).val < 1 := (x 0).isLt; omega
  match a with
  | ⟨0, _⟩ =>
    show w.toNat + 1 * (x 0).val = w.toNat
    omega
  | ⟨1, _⟩ =>
    show 0 + 1 * (x 1).val = (x 1).val
    omega

theorem row_value (hr : InRange (F := F) c arg1 f3) (fx : S73728x1024.Idx → Elt F .f32) (g : S512x1024.Idx → Elt F .f32) (k : Fin T) :
    ∀ y ∈ (rowM k).view.set, (rowM k).view.writes (Elt F) g [⟨Rect.whole _, (srcM (wordAt (F := F) c arg1 f3 k) (hr k)).view.read (Elt F) fx⟩] y
      = gath c hr fx y := by
  intro y hy
  have hk : tOf y = k := (mem_rowSet k y).mp (rowSet_eq k ▸ hy)
  obtain ⟨x, -, hx⟩ : ∃ x : S1x1024.Idx, _ ∧ (rowM k).view.emb x = y := Finset.mem_map.mp hy
  have e := row_value_of (wordAt (F := F) c arg1 f3 k) (hr k) fx g k x
  rw [hx] at e
  refine e.trans ?_
  have h1 : x 1 = (show S512x1024.Idx from y) 1 := by
    refine Fin.ext ?_
    have h2 : ((show S512x1024.Idx from y) 1).val = k0_off2 k 1 + 1 * (x 1).val := by rw [← hx]; rfl
    have e1 : k0_off2 k 1 = 0 := by rw [off3_eq]; rfl
    omega
  unfold gath
  rw [h1]
  have hw : (⟨_, src_lt (hr k)⟩ : Fin 73728) = ⟨_, word_lt c hr (tOf y)⟩ := Fin.ext (by rw [hk])
  rw [hw]

/-- The row buffer held whole is its rows held, -/
theorem buf_rows (g : S512x1024.Idx → Elt F .f32) :
    (gM.view.loc (c : Thread nD τ) ↦{fullShare} g : sProp 𝕄) = bigSep Finset.univ (rowAt (F := F) c g) := by
  rw [Ring.pointsTo_blocks (ℓ := gM.view.loc (c : Thread nD τ)) (q := fullShare) rowSet rowSet_disjoint rowSet_cover g]
  refine congrArg _ (funext fun k => ?_)
  unfold rowAt; rw [rowSet_eq]; rfl

/-- the experts' array held whole is its read tokens and the rest; -/
theorem arr_toks (fx : S73728x1024.Idx → Elt F .f32) :
    (xM.view.loc (c : Thread nD τ) ↦{fullShare} fx : sProp 𝕄)
      ⊣⊢ iprop((xM.view.loc (c : Thread nD τ) ↦{Transfers.shareDrop fullShare T} fx) ∗ bigSep Finset.univ (tokAt (F := F) c fx)) := by
  have e : (bigSep Finset.univ (tokAt (F := F) c fx) : sProp 𝕄)
      = bigSep (Finset.range T) (fun t => (xM.view.loc (c : Thread nD τ) ↦{Transfers.shareTokN fullShare t} fx : sProp 𝕄)) := by
    rw [← Ring.rangeSet_univ]
    exact Ring.bigSep_rangeSet_eq_range (NB := T) (lo := 0) (hi := T) (Φ := tokAt (F := F) c fx) le_rfl _
      (fun k hk => by show _ = (xM.view.loc (c : Thread nD τ) ↦{Transfers.shareTokN fullShare (0 + k)} fx : sProp 𝕄); rw [Nat.zero_add])
  rw [e]
  exact Transfers.pointsTo_toks_range fullShare T

/-- and what the transfers deliver, with what they left of the tokens, is the row buffer at the block of rows and
    the tokens. -/
theorem deliv_join (hr : InRange (F := F) c arg1 f3) (fx : S73728x1024.Idx → Elt F .f32) (g : S512x1024.Idx → Elt F .f32) :
    iprop(bigSep Finset.univ (deliv c hr fx g) ∗ bigSep (Ring.rangeSet T 0 T) (leftAt c arg1 hr fx))
      ⊢ (iprop((gM.view.loc (c : Thread nD τ) ↦{fullShare} gath c hr fx) ∗ bigSep Finset.univ (tokAt (F := F) c fx)) : sProp 𝕄) := by
  have e1 : (bigSep Finset.univ (deliv c hr fx g) : sProp 𝕄)
      = iprop(bigSep Finset.univ (rowAt (F := F) c (gath c hr fx))
        ∗ bigSep Finset.univ (fun k => ((srcM (wordAt (F := F) c arg1 f3 k) (hr k)).view.loc (c : Thread nD τ) ↦[(srcM (wordAt (F := F) c arg1 f3 k) (hr k)).view.set]{Transfers.shareTokN fullShare k.val} fx : sProp 𝕄))) := by
    rw [show deliv c hr fx g = fun k => iprop(rowAt (F := F) c (gath c hr fx) k ∗ ((srcM (wordAt (F := F) c arg1 f3 k) (hr k)).view.loc (c : Thread nD τ) ↦[(srcM (wordAt (F := F) c arg1 f3 k) (hr k)).view.set]{Transfers.shareTokN fullShare k.val} fx)) from
      funext fun k => by
        unfold deliv rowAt
        exact congrArg (fun P => iprop(P ∗ _)) (pointsTo_congr (row_value c hr fx g k))]
    exact BI.bigSep_sep _ _ _
  rw [e1, Ring.rangeSet_univ]
  have e2 : iprop(bigSep Finset.univ (fun k => ((srcM (wordAt (F := F) c arg1 f3 k) (hr k)).view.loc (c : Thread nD τ) ↦[(srcM (wordAt (F := F) c arg1 f3 k) (hr k)).view.set]{Transfers.shareTokN fullShare k.val} fx : sProp 𝕄))
      ∗ bigSep Finset.univ (leftAt c arg1 hr fx)) ⊢ bigSep Finset.univ (tokAt (F := F) c fx) := by
    refine (Entails.of_eq (BI.bigSep_sep _ _ _).symm).trans (BI.bigSep_mono fun k _ => ?_)
    exact (pointsTo_split_subset (ℓ := xM.view.loc (c : Thread nD τ)) (S := Finset.univ) (f := fx) (Finset.subset_univ _)).2
  iintro ⟨⟨HR, HS⟩, HL⟩
  isplitl [HR]
  · rw [buf_rows]; iexact HR
  iapply e2
  isplitl [HS] <;> iassumption

end Cert.CmbKernelIdeal.Rows

end
-- ==== Proof.CmbRun.lean ====
/- One grid point of the combine kernel: what its body does to the buffers it is handed. -/
module

public import proofs.«01_k».proof.Proof.CmbGather
public import Idealize.ShloMosaic.Lib.Pipeline.ValueKit
public import Idealize.ShloMosaic.Lib.WholeRead

@[expose] public section

set_option maxRecDepth 16384

noncomputable section

namespace Cert.CmbKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.CmbKernelIdeal.Gen

variable {F : FTy → Type} [FloatOps F]

local notation "𝕄" => MT nD τ sig Unit (Elt F) ℕ (Pipeline.UD sig nD τ) ℕ

variable (c : Dev nD)

abbrev hbAt {sp : Space} {S : Shape} {e : EltTy} (M : Memref sig .tc sp S e) (f : Buf (Elt F) (M.view.loc (c : Thread nD τ))) : sProp 𝕄 :=
  M.view.loc (c : Thread nD τ) ↦{fullShare} f

instance deliv_storable {arg1 : Memref sig .tc .smem S1x1x512 .i32} {f3 : Buf (Elt F) (arg1.view.loc (c : Thread nD τ))} (hr : InRange (F := F) c arg1 f3)
    (fx : Buf (Elt F) (xM.view.loc (c : Thread nD τ))) (g : Buf (Elt F) (gM.view.loc (c : Thread nD τ))) (k : Fin T) :
    BI.Storable (upEmb : UEmb _ 𝕄) (deliv c hr fx g k) := by
  unfold deliv rowM srcM; infer_instance

/-- The four quarters of the row buffer, one for each of a row's choices. -/
abbrev part0 (G : S512x1024.Idx → Elt F .f32) : Vec F S128x1024 .f32 :=
  View.readAt (Elt F) gM.view (Rect.unit (s := S512x1024) ![0, 0] S128x1024.size inb_S512x1024_S128x1024_0_0).toLoadRect G
abbrev part1 (G : S512x1024.Idx → Elt F .f32) : Vec F S128x1024 .f32 :=
  View.readAt (Elt F) gM.view (Rect.unit (s := S512x1024) ![128, 0] S128x1024.size inb_S512x1024_S128x1024_128_0).toLoadRect G
abbrev part2 (G : S512x1024.Idx → Elt F .f32) : Vec F S128x1024 .f32 :=
  View.readAt (Elt F) gM.view (Rect.unit (s := S512x1024) ![256, 0] S128x1024.size inb_S512x1024_S128x1024_256_0).toLoadRect G
abbrev part3 (G : S512x1024.Idx → Elt F .f32) : Vec F S128x1024 .f32 :=
  View.readAt (Elt F) gM.view (Rect.unit (s := S512x1024) ![384, 0] S128x1024.size inb_S512x1024_S128x1024_384_0).toLoadRect G

/-- What a point stores, of the gathered rows, the gates, the rows of the first norm, the scale and the shift. -/
def rowsOut (G : S512x1024.Idx → Elt F .f32) (A : Vec F S128x4 .f32) (X : Vec F S128x1024 .f32) (gw bw : Vec F S1x1024 .f32) : Vec F S128x1024 .f32 :=
  k0_pay1 (k0_pay2 A (part0 G) (part1 G) (part2 G) (part3 G) X) (k0_pay3 gw) bw

/-- A store through the whole of a view leaves its payload, and a load through the whole reads all there is. -/
theorem read_store {sp : Space} {S : Shape} {e : EltTy} (v : View sig .tc sp S e) (f : v.ty.Contents (Elt F)) {off : Fin S.rank → ℕ} (h : ∀ a, off a = 0)
    (inb : ∀ a, off a + S.size a ≤ S.size a) (w : S.Idx → Elt F e) : v.read (Elt F) (v.writes (Elt F) f [⟨Rect.unit off S.size inb, w⟩]) = w := by
  funext y
  have hr := View.read_writes_cons_emb (v := v) (f := f) (Rect.unit off S.size inb) w [] y
  rwa [show (Rect.unit off S.size inb).emb y = y from funext fun a => Fin.ext (by
    rw [ValueKit.rect_emb_unit_val, h a, Nat.zero_add])] at hr
theorem load_whole {sp : Space} {S : Shape} {e : EltTy} {M : Memref sig .tc sp S e} (hM : M.IsWhole) (x : S.Idx → Elt F e) {off : Fin S.rank → ℕ} (h : ∀ a, off a = 0)
    (inb : ∀ a, off a + S.size a ≤ S.size a) : M.view.readAt (Elt F) (Rect.unit off S.size inb).toLoadRect (hM.unread x) = x := by
  funext y
  rw [hM.readAt_unread]
  exact congrArg x (funext fun a => Fin.ext (by
    show off a + 1 * (y a).val = (y a).val
    rw [h a, Nat.zero_add, Nat.one_mul]))

/-- A block stored whole is owned at what was stored. -/
theorem out_ent {sp : Space} {S : Shape} {e : EltTy} (M : Memref sig .tc sp S e) (f : M.view.ty.Contents (Elt F)) {off : Fin S.rank → ℕ} (inb : ∀ a, off a + S.size a ≤ S.size a)
    (w : S.Idx → Elt F e) (h : ∀ a, off a = 0) :
    (M.view.loc (c : Thread nD τ) ↦[M.view.set]{fullShare} M.view.writes (Elt F) f [⟨Rect.unit off S.size inb, w⟩] : sProp 𝕄) ⊢ owns (c : Thread nD τ) M fullShare w := by
  unfold owns
  iintro H
  iexists _; isplitr
  · ipureintro; exact read_store M.view f h inb w
  iexact H

theorem pay_eq {G : S512x1024.Idx → Elt F .f32} {A' A : Vec F S128x4 .f32} {X' X : Vec F S128x1024 .f32} {gw' gw bw' bw : Vec F S1x1024 .f32}
    (hA : A' = A) (hX : X' = X) (hg : gw' = gw) (hb : bw' = bw) :
    k0_pay1 (k0_pay2 A' (part0 G) (part1 G) (part2 G) (part3 G) X') (k0_pay3 gw') bw' = rowsOut G A X gw bw := by
  subst hA hX hg hb; rfl

variable (i : grid0.Coords)
  (arg1 : Memref sig .tc .smem S1x1x512 .i32) (harg1 : arg1.IsWhole)
  (arg2 : Memref sig .tc .vmem S128x4 .f32) (harg2 : arg2.IsWhole) (arg3 : Memref sig .tc .vmem S128x1024 .f32) (harg3 : arg3.IsWhole)
  (arg5 : Memref sig .tc .vmem S1x1024 .f32) (harg5 : arg5.IsWhole) (arg6 : Memref sig .tc .vmem S1x1024 .f32) (harg6 : arg6.IsWhole)
  (arg7 : Memref sig .tc .vmem S128x1024 .f32) (harg7 : arg7.IsWhole)

set_option maxHeartbeats 800000 in
theorem run_point [∀ e, Nonempty (Elt F e)] (x0 : Vec F S1x1x512 .i32) (x1 : Vec F S128x4 .f32) (x2 : Vec F S128x1024 .f32) (x3 x4 : Vec F S1x1024 .f32)
    (fx : S73728x1024.Idx → Elt F .f32) (g : S512x1024.Idx → Elt F .f32)
    (hr : InRange (F := F) c arg1 (harg1.unread x0)) (W : Waits sig Unit) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg5 fullShare x3 ∗ owns (c : Thread nD τ) arg6 fullShare x4 ∗ (∃ d, owns (c : Thread nD τ) arg7 fullShare d)
        ∗ hbAt c gM g ∗ hbAt c xM fx ∗ semVal ((c : Thread nD τ), cell) 0 ∗ owes (c : Thread nD τ) 0 W
        ∗ (iprop(owns (c : Thread nD τ) arg1 fullShare x0 ∗ owns (c : Thread nD τ) arg2 fullShare x1 ∗ owns (c : Thread nD τ) arg3 fullShare x2
            ∗ owns (c : Thread nD τ) arg5 fullShare x3 ∗ owns (c : Thread nD τ) arg6 fullShare x4
            ∗ owns (c : Thread nD τ) arg7 fullShare (rowsOut (gath c hr fx) x1 x2 x3 x4)
            ∗ (∃ f, hbAt c gM f) ∗ hbAt c xM fx ∗ semVal ((c : Thread nD τ), cell) 0 ∗ (∃ W, owes (c : Thread nD τ) 0 W)) -∗ K ⟨⟩))
      ⊢ wp frame (wpE (defs₀ (F := F)) Variants.none c none) Set.univ
          (cc0_moe_combine i arg1 harg1 arg2 harg2 arg3 harg3 xM (Memref.isWhole_whole _) arg5 harg5 arg6 harg6 arg7 harg7 gM (Memref.isWhole_whole _) cc0_scratch1) K := by
  simp only [cc0_moe_combine_eq_skeleton]; unfold cc0_moe_combine_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HG, HX, Hc, HO, Hk⟩
  obtain rfl := harg1.eq_unread hf0; obtain rfl := harg2.eq_unread hf1; obtain rfl := harg3.eq_unread hf2; obtain rfl := harg5.eq_unread hf3; obtain rfl := harg6.eq_unread hf4
  ihave HX' := (arr_toks c fx).1 $$ HX
  icases HX' with ⟨HXr, HXt⟩
  ihave HGr := (Entails.of_eq (buf_rows c g)) $$ HG
  imod (Transfers.batch_alloc' (Lvl := ℕ) (countersEmb (U := Pipeline.UD sig nD τ)) (c : Thread nD τ) () 128 (deliv c hr fx g) (sm := cell) (E := Set.univ)) $$ Hc with HB
  rw [← Ring.rangeSet_univ]
  ihave HL := (show (emp : sProp 𝕄) ⊢ bigSep (Ring.rangeSet T 0 0) (leftAt c arg1 hr fx) from Entails.of_eq (Ring.bigSep_rangeSet_empty le_rfl).symm) $$ []
  · iempintro
  sl_exec
  sl_for (drainAt c arg1 hr fx g) $$ [HB HO]
  · intro k acc; exact drain_step c i arg1 harg1 arg2 harg2 arg3 harg3 arg5 harg5 arg6 harg6 arg7 harg7 hr fx g k acc
  · unfold drainAt
    rw [if_pos (by rw [T_eq]; decide)]
    isplitl [HO]; · iexists _; iexact HO
    rw [Nat.zero_mul]; iexact HB
  iintro %acc HI
  ihave HI' := (show drainAt c arg1 hr fx g (Scf.trips k0_t2_loop.lb k0_t2_loop.ub k0_t2_loop.st) acc ⊢
      (∃ W, owes c.tc 0 W) ∗ semVal (c.tc, cell) 0 ∗ bigSep Finset.univ (deliv c hr fx g) from by
        unfold drainAt; rw [if_neg (by decide)]) $$ HI
  icases HI' with ⟨⟨%W', HO⟩, Hc, HDl⟩
  ihave HJ := (deliv_join c hr fx g) $$ [HDl HL]
  · isplitl [HDl]; · iexact HDl
    iexact HL
  icases HJ with ⟨HG, HXt'⟩
  ihave HX := (arr_toks c fx).2 $$ [HXr HXt']
  · isplitl [HXr]; · iexact HXr
    iexact HXt'
  sl_exec
  sl_step
  ihave H5' := out_ent c arg7 f5 inb_S128x1024_S128x1024_0_0 _ (by decide) $$ H5
  ihave H5'' := (Entails.of_eq (congrArg (owns (c : Thread nD τ) arg7 fullShare)
    (pay_eq (G := gath c hr fx) (load_whole harg2 x1 (by decide) inb_S128x4_S128x4_0_0) (load_whole harg3 x2 (by decide) inb_S128x1024_S128x1024_0_0)
      (load_whole harg5 x3 (by decide) inb_S1x1024_S1x1024_0_0) (load_whole harg6 x4 (by decide) inb_S1x1024_S1x1024_0_0)))) $$ H5'
  unfold owns
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5'']; · iexact H5''
  isplitl [HG]; · iexists _; iexact HG
  isplitl [HX]; · iexact HX
  isplitl [Hc]; · iexact Hc
  iexists _; iexact HO

end Cert.CmbKernelIdeal.Rows

end
-- ==== Proof.CmbFrame.lean ====
/- What the combine kernel's region finds, the proof data of its launch, and its body at a point. -/
module

public import proofs.«01_k».proof.Proof.CmbRun
public import proofs.«01_k».proof.Proof.Gen.CmbKernelIdeal.Launch
public import Idealize.ShloMosaic.Lib.Claim

@[expose] public section

set_option maxRecDepth 16384

noncomputable section

namespace Cert.CmbKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.CmbKernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The arrays at the region -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- An array the operations before the region do not write is as launched. -/
theorem V_kept (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.reshape_writes, StableHlo.unary_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))
/-- The word table: block by block, the choices in front of the rows. -/
theorem V_word (c : Dev nD) : V m c main_v2 = shapeCast S128x1x512 (transpose S128x4x128 [0, 2, 1]
    (shapeCast S128x128x4 (m ((c : Thread nD τ).loc main_arg0)) shapeCasts_S65536_S128x128x4) transposes_S128x128x4_S128x4x128_0_2_1) shapeCasts_S128x4x128_S128x1x512 := by
  unfold_abbrev_sides
  after_results
  rfl
theorem V_scale (c : Dev nD) : V m c main_v3 = shapeCast S1x1024 (m ((c : Thread nD τ).loc main_arg4)) shapeCasts_S1024_S1x1024 := by
  unfold_abbrev_sides
  after_results
  rfl
theorem V_shift (c : Dev nD) : V m c main_v4 = shapeCast S1x1024 (m ((c : Thread nD τ).loc main_arg5)) shapeCasts_S1024_S1x1024 := by
  unfold_abbrev_sides
  after_results
  rfl

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The gathered rows, of the words alone -/

/-- The rows of the experts' array a block of words names. -/
def rowsOf (x0 : S1x1x512.Idx → Elt F .i32) (fx : S73728x1024.Idx → Elt F .f32) : S512x1024.Idx → Elt F .f32 := fun y =>
  fx (ValueIdx.ix2 ⟨BitVec.toNat (w := 32) (x0 (ValueIdx.ix3 ⟨0, by decide⟩ ⟨0, by decide⟩ (y 0))) % 73728, Nat.mod_lt _ (by decide)⟩ (y 1))

theorem off1_eq : ∀ k : Fin T, k0_off1 k = ![0, 0, k.val] := by decide +kernel

theorem wordAt_unread (c : Dev nD) (arg1 : Memref sig .tc .smem S1x1x512 .i32) (harg1 : arg1.IsWhole) (x0 : Vec F S1x1x512 .i32) (k : Fin T) :
    wordAt (F := F) c arg1 (harg1.unread x0) k = x0 (ValueIdx.ix3 ⟨0, by decide⟩ ⟨0, by decide⟩ (k.cast T_eq)) := by
  refine (congrFun (harg1.read_unread x0) _).trans (congrArg x0 (funext fun a => Fin.ext ?_))
  have e := off1_eq k
  match a with
  | ⟨0, _⟩ => show k0_off1 k 0 + 1 * 0 = 0; rw [e]; rfl
  | ⟨1, _⟩ => show k0_off1 k 1 + 1 * 0 = 0; rw [e]; rfl
  | ⟨2, _⟩ => show k0_off1 k 2 + 1 * 0 = k.val; rw [e]; rfl

theorem inRange_of (c : Dev nD) (arg1 : Memref sig .tc .smem S1x1x512 .i32) (harg1 : arg1.IsWhole) (x0 : Vec F S1x1x512 .i32)
    (h : ∀ y, BitVec.toNat (w := 32) (x0 y) < 73728) : InRange (F := F) c arg1 (harg1.unread x0) := by
  intro k a
  have h1 : (wordAt (F := F) c arg1 (harg1.unread x0) k).toNat < 73728 := by
    rw [wordAt_unread]; exact h _
  generalize wordAt (F := F) c arg1 (harg1.unread x0) k = w at h1 ⊢
  match a with
  | ⟨0, _⟩ => show w.toNat + 1 ≤ 73728; exact h1
  | ⟨1, _⟩ => show 0 + 1024 ≤ 1024; omega

theorem row_congr (fx : S73728x1024.Idx → Elt F .f32) {a b : ℕ} (h : a = b) (ha : a < 73728) (hb : b < 73728) (j : Fin 1024) :
    fx (ValueIdx.ix2 ⟨a, ha⟩ j) = fx (ValueIdx.ix2 ⟨b, hb⟩ j) := by
  subst h; rfl

theorem gath_eq (c : Dev nD) (arg1 : Memref sig .tc .smem S1x1x512 .i32) (harg1 : arg1.IsWhole) (x0 : Vec F S1x1x512 .i32)
    (hr : InRange (F := F) c arg1 (harg1.unread x0)) (fx : S73728x1024.Idx → Elt F .f32) : gath c hr fx = rowsOf x0 fx := by
  funext y
  unfold gath rowsOf
  have h := word_lt c hr (tOf y)
  have e := congrArg (BitVec.toNat (w := 32)) (wordAt_unread c arg1 harg1 x0 (tOf y))
  exact row_congr fx (e.trans (Nat.mod_eq_of_lt (e ▸ h)).symm) _ _ (y 1)

/-- What point `t` leaves in the output's buffer. -/
def outAt (c : Dev nD) (t : Fin cfg0.N) : S128x1024.Idx → Elt F .f32 :=
  rowsOut (rowsOf (iblk m c 0 t) (V m c main_arg3)) (iblk m c 1 t) (iblk m c 2 t) (iblk m c 3 t) (iblk m c 4 t)

/-- The invariant: the row buffer at any contents, the generator, the semaphore at rest, and the experts' array. -/
def Inv (c : Dev nD) : sProp 𝕄 :=
  iprop((∃ g, hbAt c gM g) ∗ (∃ r, prngReg c r) ∗ semVal ((c : Thread nD τ), cell) 0 ∗ hbAt c xM (V m c main_arg3))

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Inv m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = outAt m c t := by dsimp only [dats]; try rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)

/-- The body as the pipeline calls it at point `t`. -/
abbrev bodyAt (t : Fin cfg0.N) : Prog (TpuEff nD τ sig (Elt F) Λ₀ .tc) PUnit :=
  cc0_moe_combine (grid0.coords t) (ms0_0 t) (hstage0_0 ((cfg0.slots t 0).cast nbuf0_0)) (ms0_1 t) (hstage0_1 ((cfg0.slots t 1).cast nbuf0_1))
    (ms0_2 t) (hstage0_2 ((cfg0.slots t 2).cast nbuf0_2)) (Memref.whole main_arg3) (Memref.isWhole_whole _)
    (ms0_3 t) (hstage0_3 ((cfg0.slots t 3).cast nbuf0_3)) (ms0_4 t) (hstage0_4 ((cfg0.slots t 4).cast nbuf0_4))
    (ms0_5 t) (hstage0_5 ((cfg0.slots t 5).cast nbuf0_5))
    (Memref.whole cc0_scratch0) (Memref.isWhole_whole _) cc0_scratch1

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- Every word names a row of the experts' array. -/
abbrev Words : Prop := ∀ (c : Dev nD) (y : S128x1x512.Idx), BitVec.toNat (w := 32) (V m c main_v2 y) < 73728

set_option maxHeartbeats 800000 in
theorem sound_body [∀ e, Nonempty (Elt F e)] (hT : Words m) (c : Dev nD) (t : Fin cfg0.N) :
    bodyPre m c t ⊢ wp frame (wpE (defs₀ (F := F)) Variants.none c none) Set.univ (bodyAt t) (fun _ => bodyPost m c t) := by
  unfold bodyPre bodyPost
  simp only [before0_0, before0_1, before0_2, before0_3, before0_4]
  rw [after0_0, after0_1, after0_2, after0_3, after0_4, after0_5]
  rw [show (dats m 0 c).Φ t.castSucc = Inv m c from rfl, show (dats m 0 c).Φ t.succ = Inv m c from rfl]
  unfold Dat.owesAt Pipeline.owesWithin
  rw [show (dats m 0 c).owed t.castSucc = 0 from rfl, show (dats m 0 c).owed t.succ = 0 from rfl]
  unfold Inv outAt
  have hr : InRange (F := F) c (ms0_0 t) ((hstage0_0 ((cfg0.slots t 0).cast nbuf0_0)).unread (iblk m c 0 t)) :=
    inRange_of c _ _ (iblk m c 0 t) (fun y => hT c _)
  iintro ⟨⟨⟨%g, Hg⟩, Hp, Hs, Hx⟩, ⟨%W, -, HW⟩, ⟨%d0, H0⟩, ⟨%d1, H1⟩, ⟨%d2, H2⟩, ⟨%d3, H3⟩, ⟨%d4, H4⟩, ⟨%d5, H5⟩⟩
  iapply (run_point c (grid0.coords t) (ms0_0 t) _ (ms0_1 t) _ (ms0_2 t) _ (ms0_3 t) _ (ms0_4 t) _ (ms0_5 t) _
    (iblk m c 0 t) (iblk m c 1 t) (iblk m c 2 t) (iblk m c 3 t) (iblk m c 4 t) (V m c main_arg3) g hr W _)
  isplitl [H0]; · iexact H0
  isplitl [H1]; · iexact H1
  isplitl [H2]; · iexact H2
  isplitl [H3]; · iexact H3
  isplitl [H4]; · iexact H4
  isplitl [H5]; · iexists _; iexact H5
  isplitl [Hg]; · iexact Hg
  isplitl [Hx]; · iexact Hx
  isplitl [Hs]; · iexact Hs
  isplitl [HW]; · iexact HW
  rw [gath_eq c _ _ _ hr _]
  iintro ⟨H0, H1, H2, H3, H4, H5, Hg, Hx, Hs, ⟨%W', HW'⟩⟩
  isplitl [Hg Hp Hs Hx]
  · isplitl [Hg]; · iexact Hg
    isplitl [Hp]; · iexact Hp
    isplitl [Hs]; · iexact Hs
    iexact Hx
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

end Cert.CmbKernelIdeal.Rows

end
-- ==== Proof.CmbLaunch.lean ====
/- The launch of the combine kernel: the body's obligation at every grid point, the run from any memory whose words are
   in range, and the frame: the arguments end as they began. -/
module

public import proofs.«01_k».proof.Proof.CmbFrame

@[expose] public section

set_option maxRecDepth 16384

noncomputable section

namespace Cert.CmbKernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.CmbKernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem defs₀_row (t : Fin cfg0.N) : defs₀ (F := F) .tc cfg0.body (cfg0.bodyArgs t (cfg0.slots t)) = bodyAt t := by
  unfold defs₀; rw [Defs.onTc_tc]

set_option maxHeartbeats 800000 in
theorem body_obligation [∀ e, Nonempty (Elt F e)] (hT : Words m) (c : Dev nD) : BodyObligation (dats (F := F) m 0 c) (defs₀ (F := F)) Variants.none () Set.univ := fun t => by
  rw [bigSep_W0, bigSep_W0, defs₀_row]
  refine triple_restated (sound_body m hT c t) rfl .rfl fun _ => ?_
  exact .rfl

/-! ## The launch -/

/-- The one semaphore of the body's own: the gather's. -/
def osem0 : Fin 1 → SemLoc sig := ![cell]
theorem own0 : Pipeline.OwnSemFacts spec0 osem0 := by decide
/-- The one array the body reads by itself: the experts' rows. -/
def H0 : Finset (Ref sig .tc) := {main_arg3}

theorem PhiD_eq (c : Dev nD) : (Pipeline.ΦD osem0 spec0 H0 (V m) c : sProp 𝕄)
    = iprop((∃ f, hbAt c gM f) ∗ (∃ r, prngReg c r) ∗ semVal ((c : Thread nD τ), cell) 0 ∗ hbAt c xM (V m c main_arg3)) := by
  rw [Pipeline.ΦD_eq, scopedRest0_eq, Pipeline.ownSems0_eq_of_list c osem0 [0] (by decide) (by decide),
    BI.bigSep_eq_bigSepL_of_eq [main_arg3] (by decide) (by decide)]
  rfl

theorem inv_in (c : Dev nD) : Pipeline.ΦD osem0 spec0 H0 (V m) c ⊢ (dats m 0 c).Φ 0 := by
  rw [PhiD_eq]; exact .rfl

theorem inv_out (c : Dev nD) : (dats m 0 c).Φ (Fin.last cfg0.N) ⊢ Pipeline.ΦD osem0 spec0 H0 (V m) c := by
  rw [PhiD_eq]; exact .rfl

set_option maxHeartbeats 800000 in
set_option backward.isDefEq.respectTransparency.types false in
/-- The run: every array ends as the proof data says, every other as the region found it, every semaphore at zero. -/
theorem run_main_quiescent [∀ e, Nonempty (Elt F e)] (hT : Words m) :
    θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none own0 H0 (by decide : H0 ⊆ Pipeline.restRefs sig spec0) m ρ main
    (hbody := fun c => (body_obligation m hT c).loose) (hshare := fun c => (dats m 0 c).share_full fun _ => rfl)
    (howed := fun _ _ => rfl) (V := V m) (hmain := hmain m Variants.none) (hA := A_eq m)
    (hin := inv_in m) (hout := inv_out m)

theorem run_main [∀ e, Nonempty (Elt F e)] (hT : Words m) :
    θ_run defs (onTc (τ := τ) (main (F := F))) (s₀ m ρ) (Pipeline.FramePost cfgs (dats m) 0 (V m)) :=
  (θ_run defs _ _).mono (fun _ h => h.1) (run_main_quiescent m ρ hT)

/-- An array of @main that no window stages ends as launched. -/
theorem rest_kept (r : PUnit × MemSt nD τ sig (Elt F)) (h : Pipeline.FramePost cfgs (dats m) 0 (V m) r) (c : Dev nD) (b : Ref sig .tc)
    (hb : b ∈ Pipeline.restRefs sig spec0) (h0 : b ≠ main_v0) (h1 : b ≠ main_v1) (h2 : b ≠ main_v2) (h3 : b ≠ main_v3) (h4 : b ≠ main_v4) :
    r.2.mem ((c.tc : Thread nD τ).loc b) = m ((c.tc : Thread nD τ).loc b) :=
  ((h c).2 b hb).trans (V_kept m c b h0 h1 h2 h3 h4)

/-- The arguments at the end. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨rest_kept m r h c main_arg0 (by decide) (by decide) (by decide) (by decide) (by decide) (by decide),
    ((h c).1 1).trans (((dats m 0 c).arrAt_in 1 rfl _).trans ((A_eq m c 1).trans (V_kept m c main_arg1 (by decide) (by decide) (by decide) (by decide) (by decide)))),
    ((h c).1 2).trans (((dats m 0 c).arrAt_in 2 rfl _).trans ((A_eq m c 2).trans (V_kept m c main_arg2 (by decide) (by decide) (by decide) (by decide) (by decide)))),
    rest_kept m r h c main_arg3 (by decide) (by decide) (by decide) (by decide) (by decide) (by decide),
    rest_kept m r h c main_arg4 (by decide) (by decide) (by decide) (by decide) (by decide) (by decide),
    rest_kept m r h c main_arg5 (by decide) (by decide) (by decide) (by decide) (by decide) (by decide)⟩

/-- The frame: the arguments end as they began, every semaphore at zero. -/
theorem frame [∀ e, Nonempty (Elt F e)] (hT : Words m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_kept m r h.1 c, h.2⟩) (run_main_quiescent m ρ hT)

/-- Words in range before the transposition are so after it. -/
theorem words_of_arg (h : ∀ (c : Dev nD) (y : S65536.Idx), BitVec.toNat (w := 32) (m ((c : Thread nD τ).loc main_arg0) y) < 73728) : Words m := by
  intro c y
  rw [V_word]
  exact h c _

end Cert.CmbKernelIdeal.Rows

end
-- ==== Proof.CmbRef.lean ====
/- The reference of the combine, entry by entry: the four experts' rows a word names, each times its gate, beside the row of
   the first norm, and the layer norm of what that gives. -/
module

public import proofs.«01_k».proof.Proof.OutMath
public import proofs.«01_k».proof.Proof.MoeRef
public import proofs.«01_k».proof.Proof.Gen.CmbReferenceIdeal.Read
public import Idealize.ShloMosaic.Lib.Pipeline.ValueKit
public import Idealize.ShloMosaic.Lib.Pointwise.SelectCore
public import Idealize.ShloMosaic.Lib.Routing.Ops

@[expose] public section

set_option maxRecDepth 16384

noncomputable section

namespace Cert.CmbRef

open Cert.CmbReferenceIdeal Cert.CmbReferenceIdeal.Gen Cert.CmbReferenceIdeal.Read Idealize.ShloMosaic Idealize.ShloMosaic.TcCoe Cert.OutMath

variable (x0 : (⟨S65536, .i32⟩ : BufTy).Contents (Elt Ideal)) (x1 : (⟨S16384x4, .f32⟩ : BufTy).Contents (Elt Ideal))
  (x2 : (⟨S16384x1024, .f32⟩ : BufTy).Contents (Elt Ideal)) (x3 : (⟨S73728x1024, .f32⟩ : BufTy).Contents (Elt Ideal))
  (x4 x5 : (⟨S1024, .f32⟩ : BufTy).Contents (Elt Ideal))

/-- Row `R`'s choice `k`, counted from the first. -/
abbrev flat (R : Fin 16384) (k : Fin 4) : Fin 65536 := ⟨R.val * 4 + k.val, by have := R.isLt; have := k.isLt; omega⟩
/-- The experts' row a word names. -/
abbrev rowOf (w : BitVec 32) : Fin 73728 := ⟨w.toNat % 73728, Nat.mod_lt _ (by decide)⟩

/-- Row `R` before the norm. -/
def row (R : Fin 16384) (j : Fin 1024) : EReal :=
  alpha * x2 (ValueIdx.ix2 R j) + ∑ k : Fin 4, x3 (ValueIdx.ix2 (rowOf (x0 (ValueIdx.ix1 (flat R k)))) j) * x1 (ValueIdx.ix2 R k)

section Rows

variable (h0 : ∀ y : S65536.Idx, BitVec.toNat (w := 32) (x0 y) < 73728)
include h0

theorem v4_at (i : S65536.Idx) : val_main_v4 (F := Ideal) x0 i = x0 i := by
  rw [val_main_v4_apply, val_main_v1_apply, val_main_v0_apply]
  exact MoeRef.wrap (w := x0 i) (by have := h0 i; omega)

/-- The gathered rows. -/
theorem v7_at (R : Fin 16384) (k : Fin 4) (j : Fin 1024) :
    val_main_v7 (F := Ideal) x0 x3 (ValueIdx.ix3 R k j) = x3 (ValueIdx.ix2 (rowOf (x0 (ValueIdx.ix1 (flat R k)))) j) := by
  rw [val_main_v7_apply]
  have e : idx_main_v7 (ValueIdx.ix3 R k j) = ValueIdx.ix2 (flat R k) j := funext fun a => Fin.ext (by
    have := k.isLt; have := j.isLt
    match a with
    | ⟨0, _⟩ => show ((R.val * 4 + k.val) * 1024 + j.val) / 1024 = R.val * 4 + k.val; omega
    | ⟨1, _⟩ => show ((R.val * 4 + k.val) * 1024 + j.val) % 1024 = j.val; omega)
  rw [e]
  unfold val_main_v6
  refine Routing.gather_row _ rfl rfl rfl rfl rfl x3 _ (flat R k) j (rowOf (x0 (ValueIdx.ix1 (flat R k)))) ?_ (by decide)
  rw [val_main_v5_apply]
  have e5 : idx_main_v5 (ValueIdx.ix2 (flat R k) (0 : Fin 1)) = ValueIdx.ix1 (flat R k) := funext fun a => Fin.ext (by
    match a with
    | ⟨0, _⟩ => rfl)
  rw [e5, v4_at x0 h0]
  exact MoeRef.as_ofNat (h0 _)

theorem v10_at (R : Fin 16384) (k : Fin 4) (j : Fin 1024) :
    val_main_v10 (F := Ideal) x0 x1 x3 (ValueIdx.ix3 R k j) = x3 (ValueIdx.ix2 (rowOf (x0 (ValueIdx.ix1 (flat R k)))) j) * x1 (ValueIdx.ix2 R k) := by
  rw [val_main_v10_apply, v7_at x0 x3 h0, val_main_v9_apply, val_main_v8_apply]
  exact congrArg (fun z => x3 (ValueIdx.ix2 (rowOf (x0 (ValueIdx.ix1 (flat R k)))) j) * z) (congrArg x1 (funext fun a => match a with
    | ⟨0, _⟩ => rfl
    | ⟨1, _⟩ => rfl))

theorem v14_eq (i : S16384x1024.Idx) : val_main_v14 (F := Ideal) x0 x1 x2 x3 i = row x0 x1 x2 x3 (i 0) (i 1) := by
  rw [val_main_v14_apply, val_main_v13_apply, val_main_v12_apply, val_main_v11_apply,
    show val_main_cst (F := Ideal) (Shape.Idx.first h_S_) = 0 from Ideal.ofBits_zero_f32, zero_add]
  unfold row
  rw [show x2 i = x2 (ValueIdx.ix2 (i 0) (i 1)) from congrArg x2 (ValueIdx.eq_ix2 i)]
  refine congrArg (fun z => alpha * x2 (ValueIdx.ix2 (i 0) (i 1)) + z) (Finset.sum_congr rfl fun k _ => ?_)
  have e : idx_main_v11 i k = ValueIdx.ix3 (i 0) k (i 1) := funext fun a => match a with
    | ⟨0, _⟩ => rfl
    | ⟨1, _⟩ => rfl
    | ⟨2, _⟩ => rfl
  rw [e]
  exact v10_at x0 x1 x3 h0 (i 0) k (i 1)

/-! ## The norm -/

theorem v15_eq (i : S16384.Idx) : val_main_v15 (F := Ideal) x0 x1 x2 x3 i = ∑ k : Fin 1024, row x0 x1 x2 x3 (i 0) k := by
  rw [val_main_v15_apply, show val_main_cst_2 (F := Ideal) (Shape.Idx.first h_S_) = 0 from Ideal.ofBits_zero_f32, zero_add]
  exact Finset.sum_congr rfl fun k _ => v14_eq x0 x1 x2 x3 h0 _

theorem v18_eq (i : S16384x1.Idx) : val_main_v18 (F := Ideal) x0 x1 x2 x3 i = Ideal.div (∑ k : Fin 1024, row x0 x1 x2 x3 (i 0) k) width := by
  rw [val_main_v18_apply, val_main_v16_apply, v15_eq x0 x1 x2 x3 h0, val_main_v17_apply]; rfl

theorem v20_eq (i : S16384x1024.Idx) : val_main_v20 (F := Ideal) x0 x1 x2 x3 i = dev (row x0 x1 x2 x3 (i 0)) (i 1) := by
  rw [val_main_v20_apply, val_main_v19_apply, v14_eq x0 x1 x2 x3 h0, v18_eq x0 x1 x2 x3 h0]; rfl

theorem v27_eq (i : S16384x1024.Idx) : val_main_v27 (F := Ideal) x0 x1 x2 x3 i = dev (row x0 x1 x2 x3 (i 0)) (i 1) := by
  rw [val_main_v27_apply, val_main_v26_apply, v14_eq x0 x1 x2 x3 h0, v18_eq x0 x1 x2 x3 h0]; rfl

theorem v22_eq (i : S16384.Idx) : val_main_v22 (F := Ideal) x0 x1 x2 x3 i
    = ∑ k : Fin 1024, dev (row x0 x1 x2 x3 (i 0)) k * dev (row x0 x1 x2 x3 (i 0)) k := by
  rw [val_main_v22_apply, show val_main_cst_4 (F := Ideal) (Shape.Idx.first h_S_) = 0 from Ideal.ofBits_zero_f32, zero_add]
  refine Finset.sum_congr rfl fun k _ => ?_
  rw [val_main_v21_apply, v20_eq x0 x1 x2 x3 h0]; rfl

theorem v30_eq (i : S16384x1.Idx) : val_main_v30 (F := Ideal) x0 x1 x2 x3 i = Ideal.rsqrt (var (row x0 x1 x2 x3 (i 0)) + eps) := by
  rw [val_main_v30_apply, val_main_v29_apply, val_main_v25_apply, val_main_v23_apply, v22_eq x0 x1 x2 x3 h0, val_main_v24_apply, val_main_v28_apply]; rfl

/-- The reference's entry is the layer norm of its row. -/
theorem v38_eq (R : Fin 16384) (j : Fin 1024) : val_main_v38 (F := Ideal) x0 x1 x2 x3 x4 x5 (ValueIdx.ix2 R j)
    = norm (row x0 x1 x2 x3 R) (x4 (ValueIdx.ix1 j)) (x5 (ValueIdx.ix1 j)) j := by
  rw [val_main_v38_apply, val_main_v35_apply, val_main_v32_apply, v27_eq x0 x1 x2 x3 h0, val_main_v31_apply, v30_eq x0 x1 x2 x3 h0, val_main_v34_apply,
    val_main_v33_apply, val_main_v37_apply, val_main_v36_apply]
  rw [show x4 (idx_main_v33 (idx_main_v34 (ValueIdx.ix2 R j))) = x4 (ValueIdx.ix1 j) from
      congrArg x4 (funext fun a => match a with | ⟨0, _⟩ => rfl),
    show x5 (idx_main_v36 (idx_main_v37 (ValueIdx.ix2 R j))) = x5 (ValueIdx.ix1 j) from
      congrArg x5 (funext fun a => match a with | ⟨0, _⟩ => rfl)]
  rfl

end Rows

end Cert.CmbRef

end
-- ==== Proof.CmbValue.lean ====
/- The combine's result is the plain program's: what a point writes, on extended reals, is the layer norm of its rows, and the
   points' blocks cover the result. -/
module

public import proofs.«01_k».proof.Proof.CmbLaunch
public import proofs.«01_k».proof.Proof.CmbRef
public import proofs.«01_k».proof.Proof.CmbPre
public import Idealize.ShloMosaic.Lib.Pipeline.ValueKit

@[expose] public section

set_option maxRecDepth 16384

noncomputable section

namespace Cert.CmbKernelIdeal.Rows

open Cert.CmbKernelIdeal Cert.CmbKernelIdeal.Gen Idealize.ShloMosaic
open Idealize.ShloMosaic.TcCoe Idealize.SL.Sem

/-! ## The layer norm of a block -/

/-- One row seen along all 128. -/
theorem along (v : FVec Ideal S1x1024 .f32) (r : Fin 128) (j : Fin 1024) :
    broadcastTo S128x1024 v broadcasts_S1x1024_S128x1024 (ValueIdx.ix2 r j) = v (ValueIdx.ix2 (0 : Fin 1) j) :=
  broadcastTo_apply _ _ (ValueIdx.ix2 r j) (ValueIdx.ix2 (0 : Fin 1) j) (fun a => match a with
    | ⟨0, _⟩ => by show 0 = if (1 : Nat) = 1 then 0 else _; rw [if_pos rfl]
    | ⟨1, _⟩ => by show j.val = if (1024 : Nat) = 1 then 0 else j.val; rw [if_neg (by decide)])

/-- One column seen along all 1024. -/
theorem across (v : FVec Ideal S128x1 .f32) (r : Fin 128) (j : Fin 1024) :
    broadcastTo S128x1024 v broadcasts_S128x1_S128x1024 (ValueIdx.ix2 r j) = v (ValueIdx.ix2 r (0 : Fin 1)) :=
  broadcastTo_apply _ _ (ValueIdx.ix2 r j) (ValueIdx.ix2 r (0 : Fin 1)) (fun a => match a with
    | ⟨0, _⟩ => by show r.val = (if (128 : Nat) = 1 then 0 else r.val); rw [if_neg (by decide)]
    | ⟨1, _⟩ => by show 0 = (if (1 : Nat) = 1 then 0 else j.val); rw [if_pos rfl])

theorem rowsum (v : FVec Ideal S128x1024 .f32) (r : S128.Idx) :
    multiReduction .add [1] S128 v 0x00000000#32 reduces_S128x1024_S128 (.inl rfl) rfl r = ∑ k : Fin 1024, v (ValueIdx.ix2 (r 0) k) := by
  refine (Ideal.multiReduction_add_single v _ reduces_S128x1024_S128 _ _ r).trans (Finset.sum_congr rfl fun k _ => congrArg v (funext fun a => ?_))
  match a with
  | ⟨0, _⟩ => rfl
  | ⟨1, _⟩ => rfl

/-- A row's sum over its width. -/
abbrev meanCol (v : FVec Ideal S128x1024 .f32) : FVec Ideal S128x1 .f32 :=
  divf (shapeCast S128x1 (multiReduction .add [1] S128 v 0x00000000#32 reduces_S128x1024_S128 (.inl rfl) rfl) shapeCasts_S128_S128x1)
    (broadcast S128x1 (Scalar.ofBits .f32 0x44800000#32))

theorem meanCol_at (v : FVec Ideal S128x1024 .f32) (r : Fin 128) :
    meanCol v (ValueIdx.ix2 r (0 : Fin 1)) = Ideal.div (∑ k : Fin 1024, v (ValueIdx.ix2 r k)) OutMath.width := by
  refine congrArg (fun s => Ideal.div s OutMath.width) ?_
  refine (shapeCast_apply _ _ (ValueIdx.ix2 r (0 : Fin 1)) (ValueIdx.ix1 r) (by rw [Shape.rowMajor_val_one, Shape.rowMajor_val_two]; show r.val = r.val * 1 + 0; omega)).trans ?_
  exact rowsum v (ValueIdx.ix1 r)

abbrev devs (v : FVec Ideal S128x1024 .f32) : FVec Ideal S128x1024 .f32 :=
  subf v (broadcastTo S128x1024 (meanCol v) broadcasts_S128x1_S128x1024)

theorem devs_at (v : FVec Ideal S128x1024 .f32) (r : Fin 128) (j : Fin 1024) :
    devs v (ValueIdx.ix2 r j) = OutMath.dev (fun k => v (ValueIdx.ix2 r k)) j :=
  congrArg (v (ValueIdx.ix2 r j) - ·) ((across _ r j).trans (meanCol_at v r))

theorem normed_at (z : FVec Ideal S128x1024 .f32) (g b : Vec Ideal S1x1024 .f32) (r : Fin 128) (j : Fin 1024) :
    k0_pay1 (F := Ideal) z (k0_pay3 g) b (ValueIdx.ix2 r j)
      = OutMath.norm (fun k => z (ValueIdx.ix2 r k)) (g (ValueIdx.ix2 (0 : Fin 1) j)) (b (ValueIdx.ix2 (0 : Fin 1) j)) j := by
  have e : k0_pay1 (F := Ideal) z (k0_pay3 g) b =
      addf (mulf (mulf (devs z) (broadcastTo S128x1024 (rsqrt (addf (meanCol (mulf (devs z) (devs z))) (broadcast S128x1 (Scalar.ofBits .f32 0x3727C5AC#32)))) broadcasts_S128x1_S128x1024))
        (broadcastTo S128x1024 g broadcasts_S1x1024_S128x1024)) (broadcastTo S128x1024 b broadcasts_S1x1024_S128x1024) := by
    unfold k0_pay1 k0_pay3
    simp only [shapeCast_self]
  rw [e]
  refine congrArg₂ (· + ·) (congrArg₂ (· * ·) (congrArg₂ (· * ·) (devs_at z r j) ?_) (along g r j)) (along b r j)
  refine (across _ r j).trans ?_
  refine congrArg (fun s => Ideal.rsqrt (s + OutMath.eps)) ((meanCol_at _ r).trans ?_)
  exact congrArg (fun s => Ideal.div s OutMath.width) (Finset.sum_congr rfl fun k _ => congrArg₂ (· * ·) (devs_at z r k) (devs_at z r k))

/-! ## The rows before the norm -/

/-- A gate's column along a row. -/
theorem gate_at (A : Vec Ideal S128x4 .f32) (off : Fin 2 → ℕ) (hs : S128x4.Slices off S128x1) (k : Fin 4) (h0 : off 0 = 0) (h1 : off 1 = k.val) (r : Fin 128) (j : Fin 1024) :
    broadcastTo S128x1024 (extractStridedSlice S128x1 off A hs) broadcasts_S128x1_S128x1024 (ValueIdx.ix2 r j) = A (ValueIdx.ix2 r k) := by
  refine (across _ r j).trans (extractStridedSlice_apply off A hs _ _ (fun a => ?_))
  match a with
  | ⟨0, _⟩ => show r.val = off 0 + r.val; omega
  | ⟨1, _⟩ => show k.val = off 1 + 0; omega

/-- Row `r` of choice `k` in the row buffer. -/
abbrev slot (k : Fin 4) (r : Fin 128) : Fin 512 := ⟨k.val * 128 + r.val, by have := k.isLt; have := r.isLt; omega⟩

variable (G : S512x1024.Idx → Elt Ideal .f32)

theorem part0_at (r : Fin 128) (j : Fin 1024) : part0 (F := Ideal) G (ValueIdx.ix2 r j) = G (ValueIdx.ix2 (slot 0 r) j) :=
  congrArg G (funext fun a => Fin.ext (match a with
    | ⟨0, _⟩ => by show 0 + 1 * r.val = 0 * 128 + r.val; omega
    | ⟨1, _⟩ => by show 0 + 1 * j.val = j.val; omega))
theorem part1_at (r : Fin 128) (j : Fin 1024) : part1 (F := Ideal) G (ValueIdx.ix2 r j) = G (ValueIdx.ix2 (slot 1 r) j) :=
  congrArg G (funext fun a => Fin.ext (match a with
    | ⟨0, _⟩ => by show 128 + 1 * r.val = 1 * 128 + r.val; omega
    | ⟨1, _⟩ => by show 0 + 1 * j.val = j.val; omega))
theorem part2_at (r : Fin 128) (j : Fin 1024) : part2 (F := Ideal) G (ValueIdx.ix2 r j) = G (ValueIdx.ix2 (slot 2 r) j) :=
  congrArg G (funext fun a => Fin.ext (match a with
    | ⟨0, _⟩ => by show 256 + 1 * r.val = 2 * 128 + r.val; omega
    | ⟨1, _⟩ => by show 0 + 1 * j.val = j.val; omega))
theorem part3_at (r : Fin 128) (j : Fin 1024) : part3 (F := Ideal) G (ValueIdx.ix2 r j) = G (ValueIdx.ix2 (slot 3 r) j) :=
  congrArg G (funext fun a => Fin.ext (match a with
    | ⟨0, _⟩ => by show 384 + 1 * r.val = 3 * 128 + r.val; omega
    | ⟨1, _⟩ => by show 0 + 1 * j.val = j.val; omega))

theorem mixed_at (A : Vec Ideal S128x4 .f32) (X : Vec Ideal S128x1024 .f32) (r : Fin 128) (j : Fin 1024) :
    k0_pay2 (F := Ideal) A (part0 G) (part1 G) (part2 G) (part3 G) X (ValueIdx.ix2 r j)
      = OutMath.alpha * X (ValueIdx.ix2 r j) + ∑ k : Fin 4, G (ValueIdx.ix2 (slot k r) j) * A (ValueIdx.ix2 r k) := by
  have e : k0_pay2 (F := Ideal) A (part0 G) (part1 G) (part2 G) (part3 G) X (ValueIdx.ix2 r j) = OutMath.alpha * X (ValueIdx.ix2 r j)
      + ((((Ideal.ofBits .f32 0x00000000#32
        + broadcastTo S128x1024 (extractStridedSlice S128x1 ![0, 0] A slices_S128x4_o0_0_S128x1) broadcasts_S128x1_S128x1024 (ValueIdx.ix2 r j) * part0 (F := Ideal) G (ValueIdx.ix2 r j))
        + broadcastTo S128x1024 (extractStridedSlice S128x1 ![0, 1] A slices_S128x4_o0_1_S128x1) broadcasts_S128x1_S128x1024 (ValueIdx.ix2 r j) * part1 (F := Ideal) G (ValueIdx.ix2 r j))
        + broadcastTo S128x1024 (extractStridedSlice S128x1 ![0, 2] A slices_S128x4_o0_2_S128x1) broadcasts_S128x1_S128x1024 (ValueIdx.ix2 r j) * part2 (F := Ideal) G (ValueIdx.ix2 r j))
        + broadcastTo S128x1024 (extractStridedSlice S128x1 ![0, 3] A slices_S128x4_o0_3_S128x1) broadcasts_S128x1_S128x1024 (ValueIdx.ix2 r j) * part3 (F := Ideal) G (ValueIdx.ix2 r j)) := rfl
  rw [e, gate_at A _ _ 0 rfl rfl, gate_at A _ _ 1 rfl rfl, gate_at A _ _ 2 rfl rfl, gate_at A _ _ 3 rfl rfl,
    part0_at, part1_at, part2_at, part3_at, Ideal.ofBits_zero_f32, zero_add, Fin.sum_univ_four]
  rw [mul_comm (A (ValueIdx.ix2 r 0)), mul_comm (A (ValueIdx.ix2 r 1)), mul_comm (A (ValueIdx.ix2 r 2)), mul_comm (A (ValueIdx.ix2 r 3))]

/-- Entry `(r, j)` of a point's block. -/
theorem rowsOut_at (A : Vec Ideal S128x4 .f32) (X : Vec Ideal S128x1024 .f32) (g b : Vec Ideal S1x1024 .f32) (r : Fin 128) (j : Fin 1024) :
    rowsOut (F := Ideal) G A X g b (ValueIdx.ix2 r j)
      = OutMath.norm (fun l => OutMath.alpha * X (ValueIdx.ix2 r l) + ∑ k : Fin 4, G (ValueIdx.ix2 (slot k r) l) * A (ValueIdx.ix2 r k))
          (g (ValueIdx.ix2 (0 : Fin 1) j)) (b (ValueIdx.ix2 (0 : Fin 1) j)) j := by
  unfold rowsOut
  rw [normed_at]
  exact congrArg (fun z => OutMath.norm z _ _ j) (funext fun l => mixed_at G A X r l)

/-! ## Against the plain program -/

/-- Row `r` of block `t`, counted from the first. -/
abbrev rowIx (t : Fin 128) (r : Fin 128) : Fin 16384 := ⟨t.val * 128 + r.val, by have := t.isLt; have := r.isLt; omega⟩

/-- The word table: block `t`, choice `k`, row `r`. -/
theorem word_at (x : S65536.Idx → Elt Ideal .i32) (t : Fin 128) (k : Fin 4) (r : Fin 128) :
    shapeCast S128x1x512 (transpose S128x4x128 [0, 2, 1] (shapeCast S128x128x4 x shapeCasts_S65536_S128x128x4) transposes_S128x128x4_S128x4x128_0_2_1)
        shapeCasts_S128x4x128_S128x1x512 (ValueIdx.ix3 t (0 : Fin 1) (slot k r)) = x (ValueIdx.ix1 (CmbRef.flat (rowIx t r) k)) := by
  refine (shapeCast_apply _ _ _ (ValueIdx.ix3 t k r) (by
    rewrite [Shape.rowMajor_val_three, Shape.rowMajor_val_three]
    show (t.val * 4 + k.val) * 128 + r.val = (t.val * 1 + 0) * 512 + (k.val * 128 + r.val)
    omega)).trans ?_
  refine (transpose_apply _ _ _ _ (ValueIdx.ix3 t r k) (fun b => match b with
    | ⟨0, _⟩ => rfl
    | ⟨1, _⟩ => rfl
    | ⟨2, _⟩ => rfl)).trans ?_
  exact shapeCast_apply x _ _ _ (by
    rewrite [Shape.rowMajor_val_one, Shape.rowMajor_val_three]
    show (t.val * 128 + r.val) * 4 + k.val = (t.val * 128 + r.val) * 4 + k.val
    rfl)

theorem vec_at (x : S1024.Idx → Elt Ideal .f32) (j : Fin 1024) :
    shapeCast S1x1024 x shapeCasts_S1024_S1x1024 (ValueIdx.ix2 (0 : Fin 1) j) = x (ValueIdx.ix1 j) :=
  shapeCast_apply x _ _ _ (by
    rewrite [Shape.rowMajor_val_one, Shape.rowMajor_val_two]
    show j.val = 0 * 1024 + j.val
    omega)

variable (m : (ℓ : Loc nD τ sig) → Buf (Elt Ideal) ℓ)

theorem coord_lt (t : Fin grid0.N) : (grid0.coords t 0).val < 128 := (grid0.coords t 0).isLt
theorem coord_val : ∀ t : Fin grid0.N, (grid0.coords t 0).val = t.val := fun t => by
  rw [Pipeline.Grid.coords_val t 0 (S := 1) (B := 128) (by decide) rfl, Nat.div_one]
  exact Nat.mod_eq_of_lt (by have := t.isLt; have := N_0; omega)
theorem coord_word (t : Fin grid0.N) : (BitVec.ofNat 32 (grid0.coords t 0).val).toNat = (grid0.coords t 0).val := by
  rw [BitVec.toNat_ofNat]; exact Nat.mod_eq_of_lt (by have := coord_lt t; omega)

/-- The blocks a point is handed. -/
theorem blk0_at (c : Dev nD) (t : Fin grid0.N) (q : Fin 512) :
    iblk m c 0 t (ValueIdx.ix3 (⟨0, by decide⟩ : Fin 1) (⟨0, by decide⟩ : Fin 1) q) = V m c main_v2 (ValueIdx.ix3 (grid0.coords t 0 : Fin 128) (0 : Fin 1) q) := by
  refine congrArg (V m c main_v2) (funext fun a => Fin.ext ?_)
  have hv := coord_word t
  match a with
  | ⟨0, _⟩ => show (BitVec.ofNat 32 (grid0.coords t 0).val).toNat * 1 + 1 * 0 = (grid0.coords t 0).val; omega
  | ⟨1, _⟩ => show 0 * 1 + 1 * 0 = 0; rfl
  | ⟨2, _⟩ => show 0 * 512 + 1 * q.val = q.val; omega
theorem blk1_at (c : Dev nD) (t : Fin grid0.N) (r : Fin 128) (k : Fin 4) :
    iblk m c 1 t (ValueIdx.ix2 r k) = V m c main_arg1 (ValueIdx.ix2 (rowIx (grid0.coords t 0) r) k) := by
  refine congrArg (V m c main_arg1) (funext fun a => Fin.ext ?_)
  have hv := coord_word t
  match a with
  | ⟨0, _⟩ => show (BitVec.ofNat 32 (grid0.coords t 0).val).toNat * 128 + 1 * r.val = (grid0.coords t 0).val * 128 + r.val; omega
  | ⟨1, _⟩ => show 0 * 4 + 1 * k.val = k.val; omega
theorem blk2_at (c : Dev nD) (t : Fin grid0.N) (r : Fin 128) (j : Fin 1024) :
    iblk m c 2 t (ValueIdx.ix2 r j) = V m c main_arg2 (ValueIdx.ix2 (rowIx (grid0.coords t 0) r) j) := by
  refine congrArg (V m c main_arg2) (funext fun a => Fin.ext ?_)
  have hv := coord_word t
  match a with
  | ⟨0, _⟩ => show (BitVec.ofNat 32 (grid0.coords t 0).val).toNat * 128 + 1 * r.val = (grid0.coords t 0).val * 128 + r.val; omega
  | ⟨1, _⟩ => show 0 * 1024 + 1 * j.val = j.val; omega
theorem blk3_at (c : Dev nD) (t : Fin grid0.N) (j : Fin 1024) :
    iblk m c 3 t (ValueIdx.ix2 (0 : Fin 1) j) = V m c main_v3 (ValueIdx.ix2 (0 : Fin 1) j) := by
  refine congrArg (V m c main_v3) (funext fun a => Fin.ext ?_)
  match a with
  | ⟨0, _⟩ => show 0 * 1 + 1 * 0 = 0; rfl
  | ⟨1, _⟩ => show 0 * 1024 + 1 * j.val = j.val; omega
theorem blk4_at (c : Dev nD) (t : Fin grid0.N) (j : Fin 1024) :
    iblk m c 4 t (ValueIdx.ix2 (0 : Fin 1) j) = V m c main_v4 (ValueIdx.ix2 (0 : Fin 1) j) := by
  refine congrArg (V m c main_v4) (funext fun a => Fin.ext ?_)
  match a with
  | ⟨0, _⟩ => show 0 * 1 + 1 * 0 = 0; rfl
  | ⟨1, _⟩ => show 0 * 1024 + 1 * j.val = j.val; omega

/-- The plain program's result of the arguments as launched. -/
abbrev plain (c : Dev nD) : S16384x1024.Idx → Elt Ideal .f32 :=
  CmbReferenceIdeal.Read.val_main_v38 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The row a word of a point's block names. -/
theorem gathered_at (c : Dev nD) (t : Fin grid0.N) (k : Fin 4) (r : Fin 128) (j : Fin 1024) :
    rowsOf (iblk m c 0 t) (V m c main_arg3) (ValueIdx.ix2 (slot k r) j)
      = m ((c : Thread nD τ).loc main_arg3) (ValueIdx.ix2 (CmbRef.rowOf (m ((c : Thread nD τ).loc main_arg0) (ValueIdx.ix1 (CmbRef.flat (rowIx (grid0.coords t 0) r) k)))) j) := by
  have e : iblk m c 0 t (ValueIdx.ix3 (⟨0, by decide⟩ : Fin 1) (⟨0, by decide⟩ : Fin 1) (slot k r))
      = m ((c : Thread nD τ).loc main_arg0) (ValueIdx.ix1 (CmbRef.flat (rowIx (grid0.coords t 0) r) k)) :=
    (blk0_at m c t (slot k r)).trans ((congrFun (V_word m c) _).trans (word_at _ _ k r))
  unfold rowsOf
  rw [V_kept m c main_arg3 (by decide) (by decide) (by decide) (by decide) (by decide)]
  exact row_congr (F := Ideal) (m ((c : Thread nD τ).loc main_arg3)) (congrArg (fun w => BitVec.toNat (w := 32) w % 73728) e) _ _ j

/-- What a point writes is the plain program's rows. -/
theorem out_at (c : Dev nD) (h0 : ∀ y : S65536.Idx, BitVec.toNat (w := 32) (m ((c : Thread nD τ).loc main_arg0) y) < 73728) (t : Fin grid0.N) (r : Fin 128) (j : Fin 1024) :
    outAt m c t (ValueIdx.ix2 r j) = plain m c (ValueIdx.ix2 (rowIx (grid0.coords t 0) r) j) := by
  refine Eq.trans ?_ (CmbRef.v38_eq _ _ _ _ _ _ h0 (rowIx (grid0.coords t 0) r) j).symm
  unfold outAt
  refine (rowsOut_at _ _ _ _ _ r j).trans ?_
  have eg : iblk m c 3 t (ValueIdx.ix2 (0 : Fin 1) j) = m ((c : Thread nD τ).loc main_arg4) (ValueIdx.ix1 j) :=
    (blk3_at m c t j).trans ((congrFun (V_scale m c) _).trans (vec_at _ j))
  have eb : iblk m c 4 t (ValueIdx.ix2 (0 : Fin 1) j) = m ((c : Thread nD τ).loc main_arg5) (ValueIdx.ix1 j) :=
    (blk4_at m c t j).trans ((congrFun (V_shift m c) _).trans (vec_at _ j))
  have ez : (fun l => OutMath.alpha * iblk m c 2 t (ValueIdx.ix2 r l)
        + ∑ k : Fin 4, rowsOf (iblk m c 0 t) (V m c main_arg3) (ValueIdx.ix2 (slot k r) l) * iblk m c 1 t (ValueIdx.ix2 r k))
      = CmbRef.row (m ((c : Thread nD τ).loc main_arg0)) (m ((c : Thread nD τ).loc main_arg1)) (m ((c : Thread nD τ).loc main_arg2))
          (m ((c : Thread nD τ).loc main_arg3)) (rowIx (grid0.coords t 0) r) := by
    funext l
    unfold CmbRef.row
    refine congrArg₂ (· + ·) (congrArg (OutMath.alpha * ·) ((blk2_at m c t r l).trans (congrFun (V_kept m c main_arg2 (by decide) (by decide) (by decide) (by decide) (by decide)) _)))
      (Finset.sum_congr rfl fun k _ => congrArg₂ (· * ·) (gathered_at m c t k r l)
        ((blk1_at m c t r k).trans (congrFun (V_kept m c main_arg1 (by decide) (by decide) (by decide) (by decide) (by decide)) _)))
  exact (congrArg (fun z => OutMath.norm z _ _ j) ez).trans (congrArg₂ (fun p q => OutMath.norm _ p q j) eg eb)

theorem flush5 : ∀ t : Fin grid0.N, Pipeline.Window.flushOf grid0 true cc0_transform_6 t = true := fun t =>
  (Pipeline.Window.flushOf_reads cc0_transform_6 reads0_5 hreads0_5 0 (by decide) (by decide) (Pipeline.Window.sep_of_coord cc0_transform_6 0 0 (fun _ => rfl) (by decide)) (P := 1) (m := 0) (by decide) rfl t).mpr (Nat.mod_one _)

/-- Where a point's block lies in the result. -/
theorem emb5 (t : Fin cfg0.N) (r : Fin 128) (j : Fin 1024) :
    ((cfg0.win 5).blk t).view.emb (ValueIdx.ix2 r j) = (ValueIdx.ix2 (rowIx (grid0.coords t 0) r) j : S16384x1024.Idx) := by
  refine funext fun a => Fin.ext ?_
  have hv := coord_word t
  match a with
  | ⟨0, _⟩ =>
    show (BitVec.ofNat 32 (grid0.coords t 0).val).toNat * 128 + 1 * r.val = (grid0.coords t 0).val * 128 + r.val
    omega
  | ⟨1, _⟩ => show 0 * 1024 + 1 * j.val = j.val; omega

/-- The whole result. -/
theorem result_eq (c : Dev nD) (h0 : ∀ y : S65536.Idx, BitVec.toNat (w := 32) (m ((c : Thread nD τ).loc main_arg0) y) < 73728) :
    (dats m 0 c).arrAt 5 cfg0.N = plain m c := by
  refine (dats m 0 c).arrAt_eq_of_emb 5 _ (fun t hf (y : S128x1024.Idx) => ?_) (fun (i : S16384x1024.Idx) => ?_)
  · obtain ⟨r, j, rfl⟩ : ∃ (r : Fin 128) (j : Fin 1024), y = ValueIdx.ix2 r j := ⟨y 0, y 1, ValueIdx.eq_ix2 y⟩
    refine Eq.trans ?_ (congrArg _ (emb5 t r j).symm)
    refine Eq.trans ?_ (out_at m c h0 t r j)
    have h := after0_5 m c t
    generalize outAt m c t = g at h ⊢
    generalize (dats m 0 c).after 5 t = f at h ⊢
    subst h
    rfl
  · have hi0 : (i 0).val < 16384 := (i 0).isLt
    obtain ⟨t, ht⟩ : ∃ t : Fin cfg0.N, t.val = (i 0).val / 128 := ⟨⟨(i 0).val / 128, by show _ < 128; omega⟩, rfl⟩
    refine ⟨t, flush5 t, ?_⟩
    have e := emb5 t (⟨(i 0).val % 128, by omega⟩ : Fin 128) (i 1 : Fin 1024)
    have e' : (ValueIdx.ix2 (rowIx (grid0.coords t 0) (⟨(i 0).val % 128, by omega⟩ : Fin 128)) (i 1 : Fin 1024) : S16384x1024.Idx) = i := by
      refine funext fun a => Fin.ext ?_
      have hc := coord_val t
      match a with
      | ⟨0, _⟩ => show (grid0.coords t 0).val * 128 + (i 0).val % 128 = (i 0).val; omega
      | ⟨1, _⟩ => rfl
    have hm := View.emb_mem_set ((cfg0.win 5).blk t).view (ValueIdx.ix2 (⟨(i 0).val % 128, by omega⟩ : Fin 128) (i 1 : Fin 1024))
    exact (congrArg (· ∈ ((cfg0.win 5).blk t).view.set) (e.trans e')).mp hm

end Cert.CmbKernelIdeal.Rows

end
-- ==== Proof.lean ====
/- The certificate's claim: for each of the six calls the frames, that the idealized program is the printed one, and that
   on extended reals the call's results are its reference's. -/
module

public import proofs.«01_k».proof.Defs
public import proofs.«01_k».proof.Proof.Gen.CmbKernel
public import proofs.«01_k».proof.Proof.Gen.CmbKernelIdeal
public import proofs.«01_k».proof.Proof.Gen.CmbReferenceIdeal.Read
public import proofs.«01_k».proof.Proof.Gen.CmbKernel.Skeleton
public import proofs.«01_k».proof.Proof.Gen.CmbKernel.Loops
public import proofs.«01_k».proof.Proof.Gen.CmbKernel.Launch
public import proofs.«01_k».proof.Proof.Gen.CmbKernelIdeal.Skeleton
public import proofs.«01_k».proof.Proof.Gen.CmbKernelIdeal.Loops
public import proofs.«01_k».proof.Proof.Gen.CmbKernelIdeal.Launch
public import proofs.«01_k».proof.Proof.Gen.Pre_rows_in_range
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjKernelIdeal.Value
public import proofs.«01_k».proof.Proof.Gen.ProjReferenceIdeal.Read
public import proofs.«01_k».proof.Proof.Proj
public import Idealize.ShloMosaic.Adequacy
public import Idealize.ShloMosaic.Init
public import proofs.«01_k».proof.Proof.Gen.MoeKernel
public import proofs.«01_k».proof.Proof.Gen.MoeKernel.Launch
public import proofs.«01_k».proof.Proof.Gen.MoeKernelIdeal
public import proofs.«01_k».proof.Proof.Gen.MoeKernelIdeal.Launch
public import proofs.«01_k».proof.Proof.Gen.MoeKernelIdeal.Skeleton
public import proofs.«01_k».proof.Proof.Gen.MoeKernelIdeal.Loops
public import proofs.«01_k».proof.Proof.Gen.MoeReferenceIdeal.Read
public import proofs.«01_k».proof.Proof.Gen.Pre_tables_in_range
public import proofs.«01_k».proof.Proof.Gen.SmpKernel
public import proofs.«01_k».proof.Proof.Gen.SmpKernel.Skeleton
public import proofs.«01_k».proof.Proof.Gen.SmpKernel.Launch
public import proofs.«01_k».proof.Proof.Gen.SmpKernel.Frame
public import proofs.«01_k».proof.Proof.Gen.SmpKernelIdeal
public import proofs.«01_k».proof.Proof.Gen.SmpKernelIdeal.Skeleton
public import proofs.«01_k».proof.Proof.Gen.SmpKernelIdeal.Launch
public import proofs.«01_k».proof.Proof.Gen.SmpKernelIdeal.Frame
public import proofs.«01_k».proof.Proof.Gen.SmpKernelIdeal.Value
public import proofs.«01_k».proof.Proof.Gen.SmpReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Frame
public import proofs.«01_k».proof.Proof.Gen.OutKernelIdeal.Value
public import proofs.«01_k».proof.Proof.Gen.OutReferenceIdeal.Read
public import proofs.«01_k».proof.Proof.Gen.OutKernel.Points
public import proofs.«01_k».proof.Proof.Gen.OutKernelIdeal.Points
public import proofs.«01_k».proof.Proof.Gen.MixKernel
public import proofs.«01_k».proof.Proof.Gen.MixKernel.Skeleton
public import proofs.«01_k».proof.Proof.Gen.MixKernel.Launch
public import proofs.«01_k».proof.Proof.Gen.MixKernel.Frame
public import proofs.«01_k».proof.Proof.Gen.MixKernel.Points
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal.Read
public import proofs.«01_k».proof.Proof.Gen.Pre_experts_distinct
public import proofs.«01_k».proof.Proof.Smp
public import proofs.«01_k».proof.Proof.Out
public import proofs.«01_k».proof.Proof.Mix
public import proofs.«01_k».proof.Proof.MoePre
public import proofs.«01_k».proof.Proof.MoeValue
public import proofs.«01_k».proof.Proof.MoeBitsLaunch
public import proofs.«01_k».proof.Proof.CmbPre
public import proofs.«01_k».proof.Proof.CmbValue
public import proofs.«01_k».proof.Proof.CmbBitsLaunch

@[expose] public section

noncomputable section

namespace Cert.Proof

open Idealize.ShloMosaic Idealize.SL.Sem Cert.ProjKernel

/-- The projection's five results against `x @ w_in` split into its columns. -/
theorem proj_algebraic : Cert.algebraic_ProjKernelIdeal_ProjReferenceIdeal := by
  intro m g m' g' _ hagree
  refine ⟨_, _, _, _, _, Cert.ProjKernelIdeal.Value.run_blocks m g, ?_⟩
  refine (θ_run _ _ _).mono (fun r h c => ?_) (Cert.ProjReferenceIdeal.Value.run m' g')
  obtain ⟨h1, h2, h3, h4, h5, h6, h7⟩ := h c
  rw [(hagree c).1, (hagree c).2] at h1 h2 h3 h4 h5
  exact ⟨h1.trans (Cert.ProjValue.out2 m c).symm, h2.trans (Cert.ProjValue.out3 m c).symm,
    h3.trans (Cert.ProjValue.out4 m c).symm, h4.trans (Cert.ProjValue.out5 m c).symm,
    h5.trans (Cert.ProjValue.out6 m c).symm, h6, h7⟩

/-- The expert kernel's rows against the layer's feed-forward of each row by its expert. -/
theorem moe_algebraic : Cert.algebraic_MoeKernelIdeal_MoeReferenceIdeal := by
  intro m g m' g' hpre hagree
  have h1 := fun c => Cert.MoePre.tok_lt _ _ _ _ _ _ _ _ (hpre c)
  have h2 := fun c => Cert.MoePre.exp_lt _ _ _ _ _ _ _ _ (hpre c)
  have hO := Cert.MoeKernelIdeal.Rows.ok_of_arg m (h2 0)
  have hT := Cert.MoeKernelIdeal.Rows.toks_of_arg m h1
  refine ⟨_, (θ_run _ _ _).mono (fun r h c => ⟨((h c).1 5).trans (Cert.MoeKernelIdeal.Rows.result_eq m hO c (h1 c) (h2 c)),
    Cert.MoeKernelIdeal.Rows.args_kept m hO r h c⟩) (Cert.MoeKernelIdeal.Rows.run_main m g hO hT), ?_⟩
  refine (θ_run _ _ _).mono (fun r h c => ?_) (Cert.MoeReferenceIdeal.Value.run m' g')
  obtain ⟨h, ha⟩ := h c
  obtain ⟨e0, e1, e2, e3, e4, e5, e6, e7⟩ := hagree c
  refine ⟨h.trans ((Cert.MoeReferenceIdeal.Read.val_main_v75_eq m' c).trans ?_), ha⟩
  rw [e0, e1, e2, e3, e4, e5, e6, e7]

theorem moe_frame_bits : Cert.quiescent_MoeKernel := fun m ρ h =>
  Cert.MoeKernel.Rows.frame m ρ (Cert.MoeKernel.Rows.ok_of_arg m (Cert.MoePre.exp_lt _ _ _ _ _ _ _ _ (h 0)))
    (Cert.MoeKernel.Rows.toks_of_arg m fun c => Cert.MoePre.tok_lt _ _ _ _ _ _ _ _ (h c))

theorem moe_frame_ideal : Cert.quiescent_MoeKernelIdeal := fun m ρ h =>
  Cert.MoeKernelIdeal.Rows.frame m ρ (Cert.MoeKernelIdeal.Rows.ok_of_arg m (Cert.MoePre.exp_lt _ _ _ _ _ _ _ _ (h 0)))
    (Cert.MoeKernelIdeal.Rows.toks_of_arg m fun c => Cert.MoePre.tok_lt _ _ _ _ _ _ _ _ (h c))

/-- The samples' experts against the plain sum over each row's four choices, when no row chooses an expert twice. -/
theorem mix_algebraic : Cert.algebraic_MixKernelIdeal_MixReferenceIdeal_pre_experts_distinct := by
  intro m g m' g' hpre hagree
  have hlt := fun (c : Dev Cert.MixKernelIdeal.nD) (n : Fin 32) (k : Fin 4) => (Cert.MixPre.parts _ _ _ _ _ _ _ _ _ (hpre c) n k k).1
  have hne := fun (c : Dev Cert.MixKernelIdeal.nD) (n : Fin 32) (k l : Fin 4) => (Cert.MixPre.parts _ _ _ _ _ _ _ _ _ (hpre c) n k l).2
  refine ⟨_, (θ_run _ _ _).mono (fun r h c => ⟨(h c).1.trans (Cert.MixValue.result m c (hlt c) (hne c)), (h c).2⟩)
    (Cert.MixKernelIdeal.Value.run m g), ?_⟩
  refine (θ_run _ _ _).mono (fun r h c => ?_) (Cert.MixReferenceIdeal.Value.run m' g')
  obtain ⟨h, ha⟩ := h c
  obtain ⟨e0, e1, e2, e3, e4, e5, e6, e7, e8⟩ := hagree c
  refine ⟨h.trans ((Cert.MixReferenceIdeal.Read.val_main_v96_eq m' c).trans ?_), ha⟩
  rw [e0, e1, e2, e3, e4, e5, e6, e7, e8]

/-- The sample batch's projection against `x @ w_in` split into its columns. -/
theorem smp_algebraic : Cert.algebraic_SmpKernelIdeal_SmpReferenceIdeal := by
  intro m g m' g' _ hagree
  refine ⟨_, _, _, _, (θ_run _ _ _).mono (fun r h c => ⟨(h c).1, (h c).2.1, (h c).2.2.1, (h c).2.2.2.1, (h c).2.2.2.2.2.2⟩)
    (Cert.SmpKernelIdeal.Value.run_blocks m g), ?_⟩
  refine (θ_run _ _ _).mono (fun r h c => ?_) (Cert.SmpReferenceIdeal.Value.run m' g')
  obtain ⟨h1, h2, h3, h4, ha⟩ := h c
  rw [(hagree c).1, (hagree c).2.1] at h1 h2 h3 h4
  exact ⟨h1.trans (Cert.SmpValue.out9 m c).symm, h2.trans (Cert.SmpValue.out10 m c).symm,
    h3.trans (Cert.SmpValue.out11 m c).symm, h4.trans (Cert.SmpValue.out12 m c).symm, ha⟩

/-- The output projection's rows against the layer norm of the residual plus the projected branches. -/
theorem out_algebraic : Cert.algebraic_OutKernelIdeal_OutReferenceIdeal := by
  intro m g m' g' _ hagree
  refine ⟨_, (θ_run _ _ _).mono (fun r h c => ⟨(h c).1.trans (Cert.OutValue.out9 m c), (h c).2.2.2⟩)
    (Cert.OutKernelIdeal.Value.run_blocks m g), ?_⟩
  refine (θ_run _ _ _).mono (fun r h c => ?_) (Cert.OutReferenceIdeal.Value.run m' g')
  obtain ⟨h, ha⟩ := h c
  obtain ⟨e0, e1, e2, e3, e4, e5, e6, -⟩ := hagree c
  refine ⟨h.trans ((Cert.OutReferenceIdeal.Read.val_main_v28_eq m' c).trans ?_), ha⟩
  rw [e0, e1, e2, e3, e4, e5, e6]

/-- The combine's rows against the layer norm of the residual plus the gated sum of each row's four experts' rows. -/
theorem cmb_algebraic : Cert.algebraic_CmbKernelIdeal_CmbReferenceIdeal := by
  intro m g m' g' hpre hagree
  have h0 := fun c => Cert.CmbPre.dest_lt _ _ _ _ _ _ (hpre c)
  have hT := Cert.CmbKernelIdeal.Rows.words_of_arg m h0
  refine ⟨_, (θ_run _ _ _).mono (fun r h c => ⟨((h c).1 5).trans (Cert.CmbKernelIdeal.Rows.result_eq m c (h0 c)),
    Cert.CmbKernelIdeal.Rows.args_kept m r h c⟩) (Cert.CmbKernelIdeal.Rows.run_main m g hT), ?_⟩
  refine (θ_run _ _ _).mono (fun r h c => ?_) (Cert.CmbReferenceIdeal.Value.run m' g')
  obtain ⟨h, ha⟩ := h c
  obtain ⟨e0, e1, e2, e3, e4, e5⟩ := hagree c
  refine ⟨h.trans ((Cert.CmbReferenceIdeal.Read.val_main_v38_eq m' c).trans ?_), ha⟩
  rw [e0, e1, e2, e3, e4, e5]

theorem cmb_frame_bits : Cert.quiescent_CmbKernel := fun m ρ h =>
  Cert.CmbKernel.Rows.frame m ρ (Cert.CmbKernel.Rows.words_of_arg m fun c => Cert.CmbPre.dest_lt _ _ _ _ _ _ (h c))

theorem cmb_frame_ideal : Cert.quiescent_CmbKernelIdeal := fun m ρ h =>
  Cert.CmbKernelIdeal.Rows.frame m ρ (Cert.CmbKernelIdeal.Rows.words_of_arg m fun c => Cert.CmbPre.dest_lt _ _ _ _ _ _ (h c))

theorem claim : Cert.Claim := ⟨Cert.ProjKernel.Gen.facts, Cert.ProjKernelIdeal.Gen.facts, Cert.ProjReferenceIdeal.Gen.facts,
  Cert.MoeKernel.Gen.facts, Cert.MoeKernelIdeal.Gen.facts, Cert.MoeReferenceIdeal.Gen.facts,
  Cert.SmpKernel.Gen.facts, Cert.SmpKernelIdeal.Gen.facts, Cert.SmpReferenceIdeal.Gen.facts,
  Cert.OutKernel.Gen.facts, Cert.OutKernelIdeal.Gen.facts, Cert.OutReferenceIdeal.Gen.facts,
  Cert.MixKernel.Gen.facts, Cert.MixKernelIdeal.Gen.facts, Cert.MixReferenceIdeal.Gen.facts,
  Cert.CmbKernel.Gen.facts, Cert.CmbKernelIdeal.Gen.facts, Cert.CmbReferenceIdeal.Gen.facts,
  Cert.Pre_tables_in_range.Gen.facts, Cert.Pre_experts_distinct.Gen.facts, Cert.Pre_rows_in_range.Gen.facts,
  fun m ρ _ => Cert.ProjKernel.Gen.frame m ρ,
  fun m ρ _ => Cert.ProjKernelIdeal.Gen.frame m ρ,
  fun m ρ _ => (θ_run _ _ _).mono (fun r h => ⟨fun c => (h c).2.2.2.2.2, sem_eq_zero_of_no_sems (by decide) r.2⟩)
    (Cert.ProjReferenceIdeal.Value.run m ρ),
  moe_frame_bits, moe_frame_ideal,
  fun m ρ _ => (θ_run _ _ _).mono (fun r h => ⟨fun c => (h c).2, sem_eq_zero_of_no_sems (by decide) r.2⟩)
    (Cert.MoeReferenceIdeal.Value.run m ρ),
  fun m ρ _ => (θ_run _ _ _).mono (fun r h => ⟨fun c => (h c).2, sem_eq_zero_of_no_sems (by decide) r.2⟩)
    (Cert.MoeReferenceIdeal.Value.run m ρ),
  fun m ρ _ => Cert.SmpKernel.Gen.frame m ρ,
  fun m ρ _ => Cert.SmpKernelIdeal.Gen.frame m ρ,
  fun m ρ _ => (θ_run _ _ _).mono (fun r h => ⟨fun c => (h c).2.2.2.2, sem_eq_zero_of_no_sems (by decide) r.2⟩)
    (Cert.SmpReferenceIdeal.Value.run m ρ),
  fun m ρ _ => Cert.OutKernel.Gen.frame m ρ,
  fun m ρ _ => Cert.OutKernelIdeal.Gen.frame m ρ,
  fun m ρ _ => (θ_run _ _ _).mono (fun r h => ⟨fun c => (h c).2, sem_eq_zero_of_no_sems (by decide) r.2⟩)
    (Cert.OutReferenceIdeal.Value.run m ρ),
  fun m ρ _ => Cert.MixKernel.Gen.frame m ρ,
  fun m ρ _ => Cert.MixKernelIdeal.Gen.frame m ρ,
  fun m ρ _ => Cert.MixKernelIdeal.Gen.frame m ρ,
  fun m ρ _ => (θ_run _ _ _).mono (fun r h => ⟨fun c => (h c).2, sem_eq_zero_of_no_sems (by decide) r.2⟩)
    (Cert.MixReferenceIdeal.Value.run m ρ),
  fun m ρ _ => (θ_run _ _ _).mono (fun r h => ⟨fun c => (h c).2, sem_eq_zero_of_no_sems (by decide) r.2⟩)
    (Cert.MixReferenceIdeal.Value.run m ρ),
  cmb_frame_bits, cmb_frame_ideal,
  fun m ρ _ => (θ_run _ _ _).mono (fun r h => ⟨fun c => (h c).2, sem_eq_zero_of_no_sems (by decide) r.2⟩)
    (Cert.CmbReferenceIdeal.Value.run m ρ),
  fun m ρ _ => (θ_run _ _ _).mono (fun r h => ⟨fun c => (h c).2, sem_eq_zero_of_no_sems (by decide) r.2⟩)
    (Cert.CmbReferenceIdeal.Value.run m ρ),
  trivial, proj_algebraic, trivial, moe_algebraic, trivial, smp_algebraic, trivial, out_algebraic,
  trivial, mix_algebraic, trivial, cmb_algebraic⟩

end Cert.Proof

end
